-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x512 : Shape := ⟨2, ![512, 512]⟩
abbrev S512 : Shape := ⟨1, ![512]⟩
abbrev S1x512 : Shape := ⟨2, ![1, 512]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S9 : Shape := ⟨1, ![9]⟩
abbrev S31 : Shape := ⟨1, ![31]⟩
abbrev S_ : Shape := ⟨0, ![]⟩
abbrev S1 : Shape := ⟨1, ![1]⟩
abbrev S16 : Shape := ⟨1, ![16]⟩
abbrev S16x1 : Shape := ⟨2, ![16, 1]⟩

abbrev nBuf : Space → Nat
  | .hbm => 6
  | .vmem => 9
  | .smem => 0
  | _ => 0

abbrev bufTy : (tb : Table) → Fin (tcTables nBuf tb) → BufTy
  | .hbm, ⟨0, _⟩ => ⟨S1x512x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S1x512, .f32⟩
  | .hbm, ⟨5, _⟩ => ⟨S512x512, .f32⟩
  | .local _ .vmem, ⟨0, _⟩ => ⟨S512x512, .f32⟩
  | .local _ .vmem, ⟨1, _⟩ => ⟨S1x512, .f32⟩
  | .local _ .vmem, ⟨2, _⟩ => ⟨S512x512, .f32⟩
  | .local _ .vmem, ⟨3, _⟩ => ⟨S256x512, .f32⟩
  | .local _ .vmem, ⟨4, _⟩ => ⟨S128x512, .f32⟩
  | .local _ .vmem, ⟨5, _⟩ => ⟨S64x512, .f32⟩
  | .local _ .vmem, ⟨6, _⟩ => ⟨S32x512, .f32⟩
  | .local _ .vmem, ⟨7, _⟩ => ⟨S16x512, .f32⟩
  | .local _ .vmem, ⟨8, _⟩ => ⟨S16x512, .f32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  (ofTc nBuf bufTy 1 84 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_mult1 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  v22
def k0_off1 (d0 : Dev nD) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c0_i32_8 : BitVec 32 := 0#32
  ![v23.toNat, 0]
def k0_dev1 (d0 : Dev nD) : Nat :=
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_9 : BitVec 32 := 1#32
  let v26 : BitVec 32 := Scalar.xori v2 c1_i32_9
  let c1_i32_11 : BitVec 32 := 1#32
  let v27 : BitVec 32 := Scalar.muli v26 c1_i32_11
  let v28 : BitVec 32 := Scalar.addi c0_i32_12 v27
  v28.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v29 : BitVec 32 := Scalar.xori v2 c8_i32
  let c1_i32_14 : BitVec 32 := 1#32
  let v30 : BitVec 32 := Scalar.muli v29 c1_i32_14
  let v31 : BitVec 32 := Scalar.addi c0_i32_15 v30
  v31.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_16 : BitVec 32 := 2#32
  let v32 : BitVec 32 := Scalar.xori v2 c2_i32_16
  let c1_i32_18 : BitVec 32 := 1#32
  let v33 : BitVec 32 := Scalar.muli v32 c1_i32_18
  let v34 : BitVec 32 := Scalar.addi c0_i32_19 v33
  v34.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_20 : BitVec 32 := 4#32
  let v35 : BitVec 32 := Scalar.xori v2 c4_i32_20
  let c1_i32_22 : BitVec 32 := 1#32
  let v36 : BitVec 32 := Scalar.muli v35 c1_i32_22
  let v37 : BitVec 32 := Scalar.addi c0_i32_23 v36
  v37.toNat
def k0_dev5 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_24 : BitVec 32 := 16#32
  let v38 : BitVec 32 := Scalar.xori v2 c16_i32_24
  let c1_i32_26 : BitVec 32 := 1#32
  let v39 : BitVec 32 := Scalar.muli v38 c1_i32_26
  let v40 : BitVec 32 := Scalar.addi c0_i32_27 v39
  v40.toNat
def k0_mult2 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_29 : BitVec 32 := 0#32
  let v42 : BitVec 32 := Scalar.shrsi v2 c0_i32_29
  let c1_i32_30 : BitVec 32 := 1#32
  let v43 : BitVec 32 := Scalar.andi v42 c1_i32_30
  let c0_i32_31 : BitVec 32 := 0#32
  let v44 : BitVec 1 := Scalar.cmpi .eq v43 c0_i32_31
  let c0_i32_32 : BitVec 32 := 0#32
  let c256_i32_33 : BitVec 32 := 256#32
  let v45 : BitVec 32 := Scalar.addi c0_i32_32 c256_i32_33
  let c0_i32_34 : BitVec 32 := 0#32
  let v46 : BitVec 32 := Scalar.select v44 v45 c0_i32_34
  v46
def k0_mult3 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  v50
def k0_mult4 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_39 : BitVec 32 := 3#32
  let v52 : BitVec 32 := Scalar.shrsi v2 c3_i32_39
  let c1_i32_40 : BitVec 32 := 1#32
  let v53 : BitVec 32 := Scalar.andi v52 c1_i32_40
  let c0_i32_41 : BitVec 32 := 0#32
  let v54 : BitVec 1 := Scalar.cmpi .eq v53 c0_i32_41
  let c128_i32_42 : BitVec 32 := 128#32
  let c0_i32_43 : BitVec 32 := 0#32
  let v55 : BitVec 32 := Scalar.select v54 c128_i32_42 c0_i32_43
  v55
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_29 : BitVec 32 := 0#32
  let v42 : BitVec 32 := Scalar.shrsi v2 c0_i32_29
  let c1_i32_30 : BitVec 32 := 1#32
  let v43 : BitVec 32 := Scalar.andi v42 c1_i32_30
  let c0_i32_31 : BitVec 32 := 0#32
  let v44 : BitVec 1 := Scalar.cmpi .eq v43 c0_i32_31
  let c0_i32_32 : BitVec 32 := 0#32
  let c256_i32_33 : BitVec 32 := 256#32
  let v45 : BitVec 32 := Scalar.addi c0_i32_32 c256_i32_33
  let c0_i32_34 : BitVec 32 := 0#32
  let v46 : BitVec 32 := Scalar.select v44 v45 c0_i32_34
  let v47 : BitVec 32 := v46
  let c3_i32_39 : BitVec 32 := 3#32
  let v52 : BitVec 32 := Scalar.shrsi v2 c3_i32_39
  let c1_i32_40 : BitVec 32 := 1#32
  let v53 : BitVec 32 := Scalar.andi v52 c1_i32_40
  let c0_i32_41 : BitVec 32 := 0#32
  let v54 : BitVec 1 := Scalar.cmpi .eq v53 c0_i32_41
  let c128_i32_42 : BitVec 32 := 128#32
  let c0_i32_43 : BitVec 32 := 0#32
  let v55 : BitVec 32 := Scalar.select v54 c128_i32_42 c0_i32_43
  let v57 : BitVec 32 := v55
  let v58 : BitVec 32 := Scalar.addi v47 v57
  let c0_i32_51 : BitVec 32 := 0#32
  ![v58.toNat, 0]
def k0_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_28 : BitVec 32 := 1#32
  let v41 : BitVec 32 := Scalar.xori v2 c1_i32_28
  let c1_i32_47 : BitVec 32 := 1#32
  let v59 : BitVec 32 := Scalar.muli v41 c1_i32_47
  let v60 : BitVec 32 := Scalar.addi c0_i32_48 v59
  v60.toNat
def k0_mult5 (d0 : Dev nD) : BitVec 32 :=
  let c128_i32_44 : BitVec 32 := 128#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_39 : BitVec 32 := 3#32
  let v52 : BitVec 32 := Scalar.shrsi v2 c3_i32_39
  let c1_i32_40 : BitVec 32 := 1#32
  let v53 : BitVec 32 := Scalar.andi v52 c1_i32_40
  let c0_i32_41 : BitVec 32 := 0#32
  let v54 : BitVec 1 := Scalar.cmpi .eq v53 c0_i32_41
  let c128_i32_42 : BitVec 32 := 128#32
  let c0_i32_43 : BitVec 32 := 0#32
  let v55 : BitVec 32 := Scalar.select v54 c128_i32_42 c0_i32_43
  let v56 : BitVec 32 := Scalar.subi c128_i32_44 v55
  v56
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_29 : BitVec 32 := 0#32
  let v42 : BitVec 32 := Scalar.shrsi v2 c0_i32_29
  let c1_i32_30 : BitVec 32 := 1#32
  let v43 : BitVec 32 := Scalar.andi v42 c1_i32_30
  let c0_i32_31 : BitVec 32 := 0#32
  let v44 : BitVec 1 := Scalar.cmpi .eq v43 c0_i32_31
  let c0_i32_32 : BitVec 32 := 0#32
  let c256_i32_33 : BitVec 32 := 256#32
  let v45 : BitVec 32 := Scalar.addi c0_i32_32 c256_i32_33
  let c0_i32_34 : BitVec 32 := 0#32
  let v46 : BitVec 32 := Scalar.select v44 v45 c0_i32_34
  let v47 : BitVec 32 := v46
  let c128_i32_44 : BitVec 32 := 128#32
  let c3_i32_39 : BitVec 32 := 3#32
  let v52 : BitVec 32 := Scalar.shrsi v2 c3_i32_39
  let c1_i32_40 : BitVec 32 := 1#32
  let v53 : BitVec 32 := Scalar.andi v52 c1_i32_40
  let c0_i32_41 : BitVec 32 := 0#32
  let v54 : BitVec 1 := Scalar.cmpi .eq v53 c0_i32_41
  let c128_i32_42 : BitVec 32 := 128#32
  let c0_i32_43 : BitVec 32 := 0#32
  let v55 : BitVec 32 := Scalar.select v54 c128_i32_42 c0_i32_43
  let v56 : BitVec 32 := Scalar.subi c128_i32_44 v55
  let v67 : BitVec 32 := v56
  let v68 : BitVec 32 := Scalar.addi v47 v67
  let c0_i32_58 : BitVec 32 := 0#32
  ![v68.toNat, 0]
def k0_dev7 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_28 : BitVec 32 := 1#32
  let v41 : BitVec 32 := Scalar.xori v2 c1_i32_28
  let c1_i32_54 : BitVec 32 := 1#32
  let v69 : BitVec 32 := Scalar.muli v41 c1_i32_54
  let v70 : BitVec 32 := Scalar.addi c0_i32_55 v69
  v70.toNat
def k0_mult6 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c3_i32_39 : BitVec 32 := 3#32
  let v52 : BitVec 32 := Scalar.shrsi v2 c3_i32_39
  let c1_i32_40 : BitVec 32 := 1#32
  let v53 : BitVec 32 := Scalar.andi v52 c1_i32_40
  let c0_i32_41 : BitVec 32 := 0#32
  let v54 : BitVec 1 := Scalar.cmpi .eq v53 c0_i32_41
  let c128_i32_42 : BitVec 32 := 128#32
  let c0_i32_43 : BitVec 32 := 0#32
  let v55 : BitVec 32 := Scalar.select v54 c128_i32_42 c0_i32_43
  let v57 : BitVec 32 := v55
  let v83 : BitVec 32 := Scalar.addi v51 v57
  v83
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c3_i32_39 : BitVec 32 := 3#32
  let v52 : BitVec 32 := Scalar.shrsi v2 c3_i32_39
  let c1_i32_40 : BitVec 32 := 1#32
  let v53 : BitVec 32 := Scalar.andi v52 c1_i32_40
  let c0_i32_41 : BitVec 32 := 0#32
  let v54 : BitVec 1 := Scalar.cmpi .eq v53 c0_i32_41
  let c128_i32_42 : BitVec 32 := 128#32
  let c0_i32_43 : BitVec 32 := 0#32
  let v55 : BitVec 32 := Scalar.select v54 c128_i32_42 c0_i32_43
  let v57 : BitVec 32 := v55
  let v83 : BitVec 32 := Scalar.addi v51 v57
  let v84 : BitVec 32 := v83
  let v85 : Index := Scalar.indexCast v84
  let c0 : Index := 0#32
  ![v85.toNat, 0]
def k0_mult7 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_70 : BitVec 32 := 3#32
  let v93 : BitVec 32 := Scalar.shrsi v2 c3_i32_70
  let c1_i32_71 : BitVec 32 := 1#32
  let v94 : BitVec 32 := Scalar.andi v93 c1_i32_71
  let c0_i32_72 : BitVec 32 := 0#32
  let v95 : BitVec 1 := Scalar.cmpi .eq v94 c0_i32_72
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_73 : BitVec 32 := 128#32
  let v96 : BitVec 32 := Scalar.addi v51 c128_i32_73
  let v97 : BitVec 32 := Scalar.select v95 v96 v51
  v97
def k0_mult8 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  v101
def k0_mult9 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_76 : BitVec 32 := 1#32
  let v103 : BitVec 32 := Scalar.shrsi v2 c1_i32_76
  let c1_i32_77 : BitVec 32 := 1#32
  let v104 : BitVec 32 := Scalar.andi v103 c1_i32_77
  let c0_i32_78 : BitVec 32 := 0#32
  let v105 : BitVec 1 := Scalar.cmpi .eq v104 c0_i32_78
  let c64_i32_79 : BitVec 32 := 64#32
  let c0_i32_80 : BitVec 32 := 0#32
  let v106 : BitVec 32 := Scalar.select v105 c64_i32_79 c0_i32_80
  v106
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_70 : BitVec 32 := 3#32
  let v93 : BitVec 32 := Scalar.shrsi v2 c3_i32_70
  let c1_i32_71 : BitVec 32 := 1#32
  let v94 : BitVec 32 := Scalar.andi v93 c1_i32_71
  let c0_i32_72 : BitVec 32 := 0#32
  let v95 : BitVec 1 := Scalar.cmpi .eq v94 c0_i32_72
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_73 : BitVec 32 := 128#32
  let v96 : BitVec 32 := Scalar.addi v51 c128_i32_73
  let v97 : BitVec 32 := Scalar.select v95 v96 v51
  let v98 : BitVec 32 := v97
  let c1_i32_76 : BitVec 32 := 1#32
  let v103 : BitVec 32 := Scalar.shrsi v2 c1_i32_76
  let c1_i32_77 : BitVec 32 := 1#32
  let v104 : BitVec 32 := Scalar.andi v103 c1_i32_77
  let c0_i32_78 : BitVec 32 := 0#32
  let v105 : BitVec 1 := Scalar.cmpi .eq v104 c0_i32_78
  let c64_i32_79 : BitVec 32 := 64#32
  let c0_i32_80 : BitVec 32 := 0#32
  let v106 : BitVec 32 := Scalar.select v105 c64_i32_79 c0_i32_80
  let v108 : BitVec 32 := v106
  let v109 : BitVec 32 := Scalar.addi v98 v108
  let c0_i32_88 : BitVec 32 := 0#32
  ![v109.toNat, 0]
def k0_dev8 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_69 : BitVec 32 := 8#32
  let v92 : BitVec 32 := Scalar.xori v2 c8_i32_69
  let c1_i32_84 : BitVec 32 := 1#32
  let v110 : BitVec 32 := Scalar.muli v92 c1_i32_84
  let v111 : BitVec 32 := Scalar.addi c0_i32_85 v110
  v111.toNat
def k0_mult10 (d0 : Dev nD) : BitVec 32 :=
  let c64_i32_81 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_76 : BitVec 32 := 1#32
  let v103 : BitVec 32 := Scalar.shrsi v2 c1_i32_76
  let c1_i32_77 : BitVec 32 := 1#32
  let v104 : BitVec 32 := Scalar.andi v103 c1_i32_77
  let c0_i32_78 : BitVec 32 := 0#32
  let v105 : BitVec 1 := Scalar.cmpi .eq v104 c0_i32_78
  let c64_i32_79 : BitVec 32 := 64#32
  let c0_i32_80 : BitVec 32 := 0#32
  let v106 : BitVec 32 := Scalar.select v105 c64_i32_79 c0_i32_80
  let v107 : BitVec 32 := Scalar.subi c64_i32_81 v106
  v107
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_70 : BitVec 32 := 3#32
  let v93 : BitVec 32 := Scalar.shrsi v2 c3_i32_70
  let c1_i32_71 : BitVec 32 := 1#32
  let v94 : BitVec 32 := Scalar.andi v93 c1_i32_71
  let c0_i32_72 : BitVec 32 := 0#32
  let v95 : BitVec 1 := Scalar.cmpi .eq v94 c0_i32_72
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_73 : BitVec 32 := 128#32
  let v96 : BitVec 32 := Scalar.addi v51 c128_i32_73
  let v97 : BitVec 32 := Scalar.select v95 v96 v51
  let v98 : BitVec 32 := v97
  let c64_i32_81 : BitVec 32 := 64#32
  let c1_i32_76 : BitVec 32 := 1#32
  let v103 : BitVec 32 := Scalar.shrsi v2 c1_i32_76
  let c1_i32_77 : BitVec 32 := 1#32
  let v104 : BitVec 32 := Scalar.andi v103 c1_i32_77
  let c0_i32_78 : BitVec 32 := 0#32
  let v105 : BitVec 1 := Scalar.cmpi .eq v104 c0_i32_78
  let c64_i32_79 : BitVec 32 := 64#32
  let c0_i32_80 : BitVec 32 := 0#32
  let v106 : BitVec 32 := Scalar.select v105 c64_i32_79 c0_i32_80
  let v107 : BitVec 32 := Scalar.subi c64_i32_81 v106
  let v118 : BitVec 32 := v107
  let v119 : BitVec 32 := Scalar.addi v98 v118
  let c0_i32_95 : BitVec 32 := 0#32
  ![v119.toNat, 0]
def k0_dev9 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_69 : BitVec 32 := 8#32
  let v92 : BitVec 32 := Scalar.xori v2 c8_i32_69
  let c1_i32_91 : BitVec 32 := 1#32
  let v120 : BitVec 32 := Scalar.muli v92 c1_i32_91
  let v121 : BitVec 32 := Scalar.addi c0_i32_92 v120
  v121.toNat
def k0_mult11 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_44 : BitVec 32 := 128#32
  let c3_i32_39 : BitVec 32 := 3#32
  let v52 : BitVec 32 := Scalar.shrsi v2 c3_i32_39
  let c1_i32_40 : BitVec 32 := 1#32
  let v53 : BitVec 32 := Scalar.andi v52 c1_i32_40
  let c0_i32_41 : BitVec 32 := 0#32
  let v54 : BitVec 1 := Scalar.cmpi .eq v53 c0_i32_41
  let c128_i32_42 : BitVec 32 := 128#32
  let c0_i32_43 : BitVec 32 := 0#32
  let v55 : BitVec 32 := Scalar.select v54 c128_i32_42 c0_i32_43
  let v56 : BitVec 32 := Scalar.subi c128_i32_44 v55
  let v67 : BitVec 32 := v56
  let v134 : BitVec 32 := Scalar.addi v51 v67
  v134
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_44 : BitVec 32 := 128#32
  let c3_i32_39 : BitVec 32 := 3#32
  let v52 : BitVec 32 := Scalar.shrsi v2 c3_i32_39
  let c1_i32_40 : BitVec 32 := 1#32
  let v53 : BitVec 32 := Scalar.andi v52 c1_i32_40
  let c0_i32_41 : BitVec 32 := 0#32
  let v54 : BitVec 1 := Scalar.cmpi .eq v53 c0_i32_41
  let c128_i32_42 : BitVec 32 := 128#32
  let c0_i32_43 : BitVec 32 := 0#32
  let v55 : BitVec 32 := Scalar.select v54 c128_i32_42 c0_i32_43
  let v56 : BitVec 32 := Scalar.subi c128_i32_44 v55
  let v67 : BitVec 32 := v56
  let v134 : BitVec 32 := Scalar.addi v51 v67
  let v135 : BitVec 32 := v134
  let v136 : Index := Scalar.indexCast v135
  let c0_103 : Index := 0#32
  ![v136.toNat, 0]
def k0_mult12 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c1_i32_76 : BitVec 32 := 1#32
  let v103 : BitVec 32 := Scalar.shrsi v2 c1_i32_76
  let c1_i32_77 : BitVec 32 := 1#32
  let v104 : BitVec 32 := Scalar.andi v103 c1_i32_77
  let c0_i32_78 : BitVec 32 := 0#32
  let v105 : BitVec 1 := Scalar.cmpi .eq v104 c0_i32_78
  let c64_i32_79 : BitVec 32 := 64#32
  let c0_i32_80 : BitVec 32 := 0#32
  let v106 : BitVec 32 := Scalar.select v105 c64_i32_79 c0_i32_80
  let v108 : BitVec 32 := v106
  let v149 : BitVec 32 := Scalar.addi v102 v108
  v149
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c1_i32_76 : BitVec 32 := 1#32
  let v103 : BitVec 32 := Scalar.shrsi v2 c1_i32_76
  let c1_i32_77 : BitVec 32 := 1#32
  let v104 : BitVec 32 := Scalar.andi v103 c1_i32_77
  let c0_i32_78 : BitVec 32 := 0#32
  let v105 : BitVec 1 := Scalar.cmpi .eq v104 c0_i32_78
  let c64_i32_79 : BitVec 32 := 64#32
  let c0_i32_80 : BitVec 32 := 0#32
  let v106 : BitVec 32 := Scalar.select v105 c64_i32_79 c0_i32_80
  let v108 : BitVec 32 := v106
  let v149 : BitVec 32 := Scalar.addi v102 v108
  let v150 : BitVec 32 := v149
  let v151 : Index := Scalar.indexCast v150
  let c0_113 : Index := 0#32
  ![v151.toNat, 0]
def k0_mult13 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_118 : BitVec 32 := 1#32
  let v159 : BitVec 32 := Scalar.shrsi v2 c1_i32_118
  let c1_i32_119 : BitVec 32 := 1#32
  let v160 : BitVec 32 := Scalar.andi v159 c1_i32_119
  let c0_i32_120 : BitVec 32 := 0#32
  let v161 : BitVec 1 := Scalar.cmpi .eq v160 c0_i32_120
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c64_i32_121 : BitVec 32 := 64#32
  let v162 : BitVec 32 := Scalar.addi v102 c64_i32_121
  let v163 : BitVec 32 := Scalar.select v161 v162 v102
  v163
def k0_mult14 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_118 : BitVec 32 := 1#32
  let v159 : BitVec 32 := Scalar.shrsi v2 c1_i32_118
  let c1_i32_119 : BitVec 32 := 1#32
  let v160 : BitVec 32 := Scalar.andi v159 c1_i32_119
  let c0_i32_122 : BitVec 32 := 0#32
  let v165 : BitVec 1 := Scalar.cmpi .eq v160 c0_i32_122
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c64_i32_123 : BitVec 32 := 64#32
  let v166 : BitVec 32 := Scalar.addi v102 c64_i32_123
  let v167 : BitVec 32 := Scalar.select v165 v102 v166
  v167
def k0_mult15 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_124 : BitVec 32 := 2#32
  let v169 : BitVec 32 := Scalar.shrsi v2 c2_i32_124
  let c1_i32_125 : BitVec 32 := 1#32
  let v170 : BitVec 32 := Scalar.andi v169 c1_i32_125
  let c0_i32_126 : BitVec 32 := 0#32
  let v171 : BitVec 1 := Scalar.cmpi .eq v170 c0_i32_126
  let c32_i32_127 : BitVec 32 := 32#32
  let c0_i32_128 : BitVec 32 := 0#32
  let v172 : BitVec 32 := Scalar.select v171 c32_i32_127 c0_i32_128
  v172
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_118 : BitVec 32 := 1#32
  let v159 : BitVec 32 := Scalar.shrsi v2 c1_i32_118
  let c1_i32_119 : BitVec 32 := 1#32
  let v160 : BitVec 32 := Scalar.andi v159 c1_i32_119
  let c0_i32_120 : BitVec 32 := 0#32
  let v161 : BitVec 1 := Scalar.cmpi .eq v160 c0_i32_120
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c64_i32_121 : BitVec 32 := 64#32
  let v162 : BitVec 32 := Scalar.addi v102 c64_i32_121
  let v163 : BitVec 32 := Scalar.select v161 v162 v102
  let v164 : BitVec 32 := v163
  let c2_i32_124 : BitVec 32 := 2#32
  let v169 : BitVec 32 := Scalar.shrsi v2 c2_i32_124
  let c1_i32_125 : BitVec 32 := 1#32
  let v170 : BitVec 32 := Scalar.andi v169 c1_i32_125
  let c0_i32_126 : BitVec 32 := 0#32
  let v171 : BitVec 1 := Scalar.cmpi .eq v170 c0_i32_126
  let c32_i32_127 : BitVec 32 := 32#32
  let c0_i32_128 : BitVec 32 := 0#32
  let v172 : BitVec 32 := Scalar.select v171 c32_i32_127 c0_i32_128
  let v174 : BitVec 32 := v172
  let v175 : BitVec 32 := Scalar.addi v164 v174
  let c0_i32_136 : BitVec 32 := 0#32
  ![v175.toNat, 0]
def k0_dev10 (d0 : Dev nD) : Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_117 : BitVec 32 := 2#32
  let v158 : BitVec 32 := Scalar.xori v2 c2_i32_117
  let c1_i32_132 : BitVec 32 := 1#32
  let v176 : BitVec 32 := Scalar.muli v158 c1_i32_132
  let v177 : BitVec 32 := Scalar.addi c0_i32_133 v176
  v177.toNat
def k0_mult16 (d0 : Dev nD) : BitVec 32 :=
  let c32_i32_129 : BitVec 32 := 32#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_124 : BitVec 32 := 2#32
  let v169 : BitVec 32 := Scalar.shrsi v2 c2_i32_124
  let c1_i32_125 : BitVec 32 := 1#32
  let v170 : BitVec 32 := Scalar.andi v169 c1_i32_125
  let c0_i32_126 : BitVec 32 := 0#32
  let v171 : BitVec 1 := Scalar.cmpi .eq v170 c0_i32_126
  let c32_i32_127 : BitVec 32 := 32#32
  let c0_i32_128 : BitVec 32 := 0#32
  let v172 : BitVec 32 := Scalar.select v171 c32_i32_127 c0_i32_128
  let v173 : BitVec 32 := Scalar.subi c32_i32_129 v172
  v173
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_118 : BitVec 32 := 1#32
  let v159 : BitVec 32 := Scalar.shrsi v2 c1_i32_118
  let c1_i32_119 : BitVec 32 := 1#32
  let v160 : BitVec 32 := Scalar.andi v159 c1_i32_119
  let c0_i32_120 : BitVec 32 := 0#32
  let v161 : BitVec 1 := Scalar.cmpi .eq v160 c0_i32_120
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c64_i32_121 : BitVec 32 := 64#32
  let v162 : BitVec 32 := Scalar.addi v102 c64_i32_121
  let v163 : BitVec 32 := Scalar.select v161 v162 v102
  let v164 : BitVec 32 := v163
  let c32_i32_129 : BitVec 32 := 32#32
  let c2_i32_124 : BitVec 32 := 2#32
  let v169 : BitVec 32 := Scalar.shrsi v2 c2_i32_124
  let c1_i32_125 : BitVec 32 := 1#32
  let v170 : BitVec 32 := Scalar.andi v169 c1_i32_125
  let c0_i32_126 : BitVec 32 := 0#32
  let v171 : BitVec 1 := Scalar.cmpi .eq v170 c0_i32_126
  let c32_i32_127 : BitVec 32 := 32#32
  let c0_i32_128 : BitVec 32 := 0#32
  let v172 : BitVec 32 := Scalar.select v171 c32_i32_127 c0_i32_128
  let v173 : BitVec 32 := Scalar.subi c32_i32_129 v172
  let v184 : BitVec 32 := v173
  let v185 : BitVec 32 := Scalar.addi v164 v184
  let c0_i32_143 : BitVec 32 := 0#32
  ![v185.toNat, 0]
def k0_dev11 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_117 : BitVec 32 := 2#32
  let v158 : BitVec 32 := Scalar.xori v2 c2_i32_117
  let c1_i32_139 : BitVec 32 := 1#32
  let v186 : BitVec 32 := Scalar.muli v158 c1_i32_139
  let v187 : BitVec 32 := Scalar.addi c0_i32_140 v186
  v187.toNat
def k0_mult17 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c64_i32_81 : BitVec 32 := 64#32
  let c1_i32_76 : BitVec 32 := 1#32
  let v103 : BitVec 32 := Scalar.shrsi v2 c1_i32_76
  let c1_i32_77 : BitVec 32 := 1#32
  let v104 : BitVec 32 := Scalar.andi v103 c1_i32_77
  let c0_i32_78 : BitVec 32 := 0#32
  let v105 : BitVec 1 := Scalar.cmpi .eq v104 c0_i32_78
  let c64_i32_79 : BitVec 32 := 64#32
  let c0_i32_80 : BitVec 32 := 0#32
  let v106 : BitVec 32 := Scalar.select v105 c64_i32_79 c0_i32_80
  let v107 : BitVec 32 := Scalar.subi c64_i32_81 v106
  let v118 : BitVec 32 := v107
  let v200 : BitVec 32 := Scalar.addi v102 v118
  v200
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c64_i32_81 : BitVec 32 := 64#32
  let c1_i32_76 : BitVec 32 := 1#32
  let v103 : BitVec 32 := Scalar.shrsi v2 c1_i32_76
  let c1_i32_77 : BitVec 32 := 1#32
  let v104 : BitVec 32 := Scalar.andi v103 c1_i32_77
  let c0_i32_78 : BitVec 32 := 0#32
  let v105 : BitVec 1 := Scalar.cmpi .eq v104 c0_i32_78
  let c64_i32_79 : BitVec 32 := 64#32
  let c0_i32_80 : BitVec 32 := 0#32
  let v106 : BitVec 32 := Scalar.select v105 c64_i32_79 c0_i32_80
  let v107 : BitVec 32 := Scalar.subi c64_i32_81 v106
  let v118 : BitVec 32 := v107
  let v200 : BitVec 32 := Scalar.addi v102 v118
  let v201 : BitVec 32 := v200
  let v202 : Index := Scalar.indexCast v201
  let c0_151 : Index := 0#32
  ![v202.toNat, 0]
def k0_mult18 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_118 : BitVec 32 := 1#32
  let v159 : BitVec 32 := Scalar.shrsi v2 c1_i32_118
  let c1_i32_119 : BitVec 32 := 1#32
  let v160 : BitVec 32 := Scalar.andi v159 c1_i32_119
  let c0_i32_122 : BitVec 32 := 0#32
  let v165 : BitVec 1 := Scalar.cmpi .eq v160 c0_i32_122
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c64_i32_123 : BitVec 32 := 64#32
  let v166 : BitVec 32 := Scalar.addi v102 c64_i32_123
  let v167 : BitVec 32 := Scalar.select v165 v102 v166
  let v168 : BitVec 32 := v167
  let c2_i32_124 : BitVec 32 := 2#32
  let v169 : BitVec 32 := Scalar.shrsi v2 c2_i32_124
  let c1_i32_125 : BitVec 32 := 1#32
  let v170 : BitVec 32 := Scalar.andi v169 c1_i32_125
  let c0_i32_126 : BitVec 32 := 0#32
  let v171 : BitVec 1 := Scalar.cmpi .eq v170 c0_i32_126
  let c32_i32_127 : BitVec 32 := 32#32
  let c0_i32_128 : BitVec 32 := 0#32
  let v172 : BitVec 32 := Scalar.select v171 c32_i32_127 c0_i32_128
  let v174 : BitVec 32 := v172
  let v215 : BitVec 32 := Scalar.addi v168 v174
  v215
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_118 : BitVec 32 := 1#32
  let v159 : BitVec 32 := Scalar.shrsi v2 c1_i32_118
  let c1_i32_119 : BitVec 32 := 1#32
  let v160 : BitVec 32 := Scalar.andi v159 c1_i32_119
  let c0_i32_122 : BitVec 32 := 0#32
  let v165 : BitVec 1 := Scalar.cmpi .eq v160 c0_i32_122
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c64_i32_123 : BitVec 32 := 64#32
  let v166 : BitVec 32 := Scalar.addi v102 c64_i32_123
  let v167 : BitVec 32 := Scalar.select v165 v102 v166
  let v168 : BitVec 32 := v167
  let c2_i32_124 : BitVec 32 := 2#32
  let v169 : BitVec 32 := Scalar.shrsi v2 c2_i32_124
  let c1_i32_125 : BitVec 32 := 1#32
  let v170 : BitVec 32 := Scalar.andi v169 c1_i32_125
  let c0_i32_126 : BitVec 32 := 0#32
  let v171 : BitVec 1 := Scalar.cmpi .eq v170 c0_i32_126
  let c32_i32_127 : BitVec 32 := 32#32
  let c0_i32_128 : BitVec 32 := 0#32
  let v172 : BitVec 32 := Scalar.select v171 c32_i32_127 c0_i32_128
  let v174 : BitVec 32 := v172
  let v215 : BitVec 32 := Scalar.addi v168 v174
  let v216 : BitVec 32 := v215
  let v217 : Index := Scalar.indexCast v216
  let c0_161 : Index := 0#32
  ![v217.toNat, 0]
def k0_mult19 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_166 : BitVec 32 := 2#32
  let v225 : BitVec 32 := Scalar.shrsi v2 c2_i32_166
  let c1_i32_167 : BitVec 32 := 1#32
  let v226 : BitVec 32 := Scalar.andi v225 c1_i32_167
  let c0_i32_168 : BitVec 32 := 0#32
  let v227 : BitVec 1 := Scalar.cmpi .eq v226 c0_i32_168
  let c1_i32_118 : BitVec 32 := 1#32
  let v159 : BitVec 32 := Scalar.shrsi v2 c1_i32_118
  let c1_i32_119 : BitVec 32 := 1#32
  let v160 : BitVec 32 := Scalar.andi v159 c1_i32_119
  let c0_i32_122 : BitVec 32 := 0#32
  let v165 : BitVec 1 := Scalar.cmpi .eq v160 c0_i32_122
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c64_i32_123 : BitVec 32 := 64#32
  let v166 : BitVec 32 := Scalar.addi v102 c64_i32_123
  let v167 : BitVec 32 := Scalar.select v165 v102 v166
  let v168 : BitVec 32 := v167
  let c32_i32_169 : BitVec 32 := 32#32
  let v228 : BitVec 32 := Scalar.addi v168 c32_i32_169
  let v229 : BitVec 32 := Scalar.select v227 v228 v168
  v229
def k0_mult20 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_166 : BitVec 32 := 2#32
  let v225 : BitVec 32 := Scalar.shrsi v2 c2_i32_166
  let c1_i32_167 : BitVec 32 := 1#32
  let v226 : BitVec 32 := Scalar.andi v225 c1_i32_167
  let c0_i32_170 : BitVec 32 := 0#32
  let v231 : BitVec 1 := Scalar.cmpi .eq v226 c0_i32_170
  let c1_i32_118 : BitVec 32 := 1#32
  let v159 : BitVec 32 := Scalar.shrsi v2 c1_i32_118
  let c1_i32_119 : BitVec 32 := 1#32
  let v160 : BitVec 32 := Scalar.andi v159 c1_i32_119
  let c0_i32_122 : BitVec 32 := 0#32
  let v165 : BitVec 1 := Scalar.cmpi .eq v160 c0_i32_122
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c64_i32_123 : BitVec 32 := 64#32
  let v166 : BitVec 32 := Scalar.addi v102 c64_i32_123
  let v167 : BitVec 32 := Scalar.select v165 v102 v166
  let v168 : BitVec 32 := v167
  let c32_i32_171 : BitVec 32 := 32#32
  let v232 : BitVec 32 := Scalar.addi v168 c32_i32_171
  let v233 : BitVec 32 := Scalar.select v231 v168 v232
  v233
def k0_mult21 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_172 : BitVec 32 := 4#32
  let v235 : BitVec 32 := Scalar.shrsi v2 c4_i32_172
  let c1_i32_173 : BitVec 32 := 1#32
  let v236 : BitVec 32 := Scalar.andi v235 c1_i32_173
  let c0_i32_174 : BitVec 32 := 0#32
  let v237 : BitVec 1 := Scalar.cmpi .eq v236 c0_i32_174
  let c16_i32_175 : BitVec 32 := 16#32
  let c0_i32_176 : BitVec 32 := 0#32
  let v238 : BitVec 32 := Scalar.select v237 c16_i32_175 c0_i32_176
  v238
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_166 : BitVec 32 := 2#32
  let v225 : BitVec 32 := Scalar.shrsi v2 c2_i32_166
  let c1_i32_167 : BitVec 32 := 1#32
  let v226 : BitVec 32 := Scalar.andi v225 c1_i32_167
  let c0_i32_168 : BitVec 32 := 0#32
  let v227 : BitVec 1 := Scalar.cmpi .eq v226 c0_i32_168
  let c1_i32_118 : BitVec 32 := 1#32
  let v159 : BitVec 32 := Scalar.shrsi v2 c1_i32_118
  let c1_i32_119 : BitVec 32 := 1#32
  let v160 : BitVec 32 := Scalar.andi v159 c1_i32_119
  let c0_i32_122 : BitVec 32 := 0#32
  let v165 : BitVec 1 := Scalar.cmpi .eq v160 c0_i32_122
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c64_i32_123 : BitVec 32 := 64#32
  let v166 : BitVec 32 := Scalar.addi v102 c64_i32_123
  let v167 : BitVec 32 := Scalar.select v165 v102 v166
  let v168 : BitVec 32 := v167
  let c32_i32_169 : BitVec 32 := 32#32
  let v228 : BitVec 32 := Scalar.addi v168 c32_i32_169
  let v229 : BitVec 32 := Scalar.select v227 v228 v168
  let v230 : BitVec 32 := v229
  let c4_i32_172 : BitVec 32 := 4#32
  let v235 : BitVec 32 := Scalar.shrsi v2 c4_i32_172
  let c1_i32_173 : BitVec 32 := 1#32
  let v236 : BitVec 32 := Scalar.andi v235 c1_i32_173
  let c0_i32_174 : BitVec 32 := 0#32
  let v237 : BitVec 1 := Scalar.cmpi .eq v236 c0_i32_174
  let c16_i32_175 : BitVec 32 := 16#32
  let c0_i32_176 : BitVec 32 := 0#32
  let v238 : BitVec 32 := Scalar.select v237 c16_i32_175 c0_i32_176
  let v240 : BitVec 32 := v238
  let v241 : BitVec 32 := Scalar.addi v230 v240
  let c0_i32_183 : BitVec 32 := 0#32
  ![v241.toNat, 0]
def k0_dev12 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_165 : BitVec 32 := 4#32
  let v224 : BitVec 32 := Scalar.xori v2 c4_i32_165
  let c1_i32_179 : BitVec 32 := 1#32
  let v242 : BitVec 32 := Scalar.muli v224 c1_i32_179
  let v243 : BitVec 32 := Scalar.addi c0_i32_180 v242
  v243.toNat
def k0_mult22 (d0 : Dev nD) : BitVec 32 :=
  let c16_i32_177 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_172 : BitVec 32 := 4#32
  let v235 : BitVec 32 := Scalar.shrsi v2 c4_i32_172
  let c1_i32_173 : BitVec 32 := 1#32
  let v236 : BitVec 32 := Scalar.andi v235 c1_i32_173
  let c0_i32_174 : BitVec 32 := 0#32
  let v237 : BitVec 1 := Scalar.cmpi .eq v236 c0_i32_174
  let c16_i32_175 : BitVec 32 := 16#32
  let c0_i32_176 : BitVec 32 := 0#32
  let v238 : BitVec 32 := Scalar.select v237 c16_i32_175 c0_i32_176
  let v239 : BitVec 32 := Scalar.subi c16_i32_177 v238
  v239
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_166 : BitVec 32 := 2#32
  let v225 : BitVec 32 := Scalar.shrsi v2 c2_i32_166
  let c1_i32_167 : BitVec 32 := 1#32
  let v226 : BitVec 32 := Scalar.andi v225 c1_i32_167
  let c0_i32_168 : BitVec 32 := 0#32
  let v227 : BitVec 1 := Scalar.cmpi .eq v226 c0_i32_168
  let c1_i32_118 : BitVec 32 := 1#32
  let v159 : BitVec 32 := Scalar.shrsi v2 c1_i32_118
  let c1_i32_119 : BitVec 32 := 1#32
  let v160 : BitVec 32 := Scalar.andi v159 c1_i32_119
  let c0_i32_122 : BitVec 32 := 0#32
  let v165 : BitVec 1 := Scalar.cmpi .eq v160 c0_i32_122
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c64_i32_123 : BitVec 32 := 64#32
  let v166 : BitVec 32 := Scalar.addi v102 c64_i32_123
  let v167 : BitVec 32 := Scalar.select v165 v102 v166
  let v168 : BitVec 32 := v167
  let c32_i32_169 : BitVec 32 := 32#32
  let v228 : BitVec 32 := Scalar.addi v168 c32_i32_169
  let v229 : BitVec 32 := Scalar.select v227 v228 v168
  let v230 : BitVec 32 := v229
  let c16_i32_177 : BitVec 32 := 16#32
  let c4_i32_172 : BitVec 32 := 4#32
  let v235 : BitVec 32 := Scalar.shrsi v2 c4_i32_172
  let c1_i32_173 : BitVec 32 := 1#32
  let v236 : BitVec 32 := Scalar.andi v235 c1_i32_173
  let c0_i32_174 : BitVec 32 := 0#32
  let v237 : BitVec 1 := Scalar.cmpi .eq v236 c0_i32_174
  let c16_i32_175 : BitVec 32 := 16#32
  let c0_i32_176 : BitVec 32 := 0#32
  let v238 : BitVec 32 := Scalar.select v237 c16_i32_175 c0_i32_176
  let v239 : BitVec 32 := Scalar.subi c16_i32_177 v238
  let v250 : BitVec 32 := v239
  let v251 : BitVec 32 := Scalar.addi v230 v250
  let c0_i32_189 : BitVec 32 := 0#32
  ![v251.toNat, 0]
def k0_dev13 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_165 : BitVec 32 := 4#32
  let v224 : BitVec 32 := Scalar.xori v2 c4_i32_165
  let c1_i32_185 : BitVec 32 := 1#32
  let v252 : BitVec 32 := Scalar.muli v224 c1_i32_185
  let v253 : BitVec 32 := Scalar.addi c0_i32_186 v252
  v253.toNat
def k0_mult23 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_118 : BitVec 32 := 1#32
  let v159 : BitVec 32 := Scalar.shrsi v2 c1_i32_118
  let c1_i32_119 : BitVec 32 := 1#32
  let v160 : BitVec 32 := Scalar.andi v159 c1_i32_119
  let c0_i32_122 : BitVec 32 := 0#32
  let v165 : BitVec 1 := Scalar.cmpi .eq v160 c0_i32_122
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c64_i32_123 : BitVec 32 := 64#32
  let v166 : BitVec 32 := Scalar.addi v102 c64_i32_123
  let v167 : BitVec 32 := Scalar.select v165 v102 v166
  let v168 : BitVec 32 := v167
  let c32_i32_129 : BitVec 32 := 32#32
  let c2_i32_124 : BitVec 32 := 2#32
  let v169 : BitVec 32 := Scalar.shrsi v2 c2_i32_124
  let c1_i32_125 : BitVec 32 := 1#32
  let v170 : BitVec 32 := Scalar.andi v169 c1_i32_125
  let c0_i32_126 : BitVec 32 := 0#32
  let v171 : BitVec 1 := Scalar.cmpi .eq v170 c0_i32_126
  let c32_i32_127 : BitVec 32 := 32#32
  let c0_i32_128 : BitVec 32 := 0#32
  let v172 : BitVec 32 := Scalar.select v171 c32_i32_127 c0_i32_128
  let v173 : BitVec 32 := Scalar.subi c32_i32_129 v172
  let v184 : BitVec 32 := v173
  let v266 : BitVec 32 := Scalar.addi v168 v184
  v266
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_118 : BitVec 32 := 1#32
  let v159 : BitVec 32 := Scalar.shrsi v2 c1_i32_118
  let c1_i32_119 : BitVec 32 := 1#32
  let v160 : BitVec 32 := Scalar.andi v159 c1_i32_119
  let c0_i32_122 : BitVec 32 := 0#32
  let v165 : BitVec 1 := Scalar.cmpi .eq v160 c0_i32_122
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c64_i32_123 : BitVec 32 := 64#32
  let v166 : BitVec 32 := Scalar.addi v102 c64_i32_123
  let v167 : BitVec 32 := Scalar.select v165 v102 v166
  let v168 : BitVec 32 := v167
  let c32_i32_129 : BitVec 32 := 32#32
  let c2_i32_124 : BitVec 32 := 2#32
  let v169 : BitVec 32 := Scalar.shrsi v2 c2_i32_124
  let c1_i32_125 : BitVec 32 := 1#32
  let v170 : BitVec 32 := Scalar.andi v169 c1_i32_125
  let c0_i32_126 : BitVec 32 := 0#32
  let v171 : BitVec 1 := Scalar.cmpi .eq v170 c0_i32_126
  let c32_i32_127 : BitVec 32 := 32#32
  let c0_i32_128 : BitVec 32 := 0#32
  let v172 : BitVec 32 := Scalar.select v171 c32_i32_127 c0_i32_128
  let v173 : BitVec 32 := Scalar.subi c32_i32_129 v172
  let v184 : BitVec 32 := v173
  let v266 : BitVec 32 := Scalar.addi v168 v184
  let v267 : BitVec 32 := v266
  let v268 : Index := Scalar.indexCast v267
  let c0_197 : Index := 0#32
  ![v268.toNat, 0]
def k0_mult24 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_166 : BitVec 32 := 2#32
  let v225 : BitVec 32 := Scalar.shrsi v2 c2_i32_166
  let c1_i32_167 : BitVec 32 := 1#32
  let v226 : BitVec 32 := Scalar.andi v225 c1_i32_167
  let c0_i32_170 : BitVec 32 := 0#32
  let v231 : BitVec 1 := Scalar.cmpi .eq v226 c0_i32_170
  let c1_i32_118 : BitVec 32 := 1#32
  let v159 : BitVec 32 := Scalar.shrsi v2 c1_i32_118
  let c1_i32_119 : BitVec 32 := 1#32
  let v160 : BitVec 32 := Scalar.andi v159 c1_i32_119
  let c0_i32_122 : BitVec 32 := 0#32
  let v165 : BitVec 1 := Scalar.cmpi .eq v160 c0_i32_122
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c64_i32_123 : BitVec 32 := 64#32
  let v166 : BitVec 32 := Scalar.addi v102 c64_i32_123
  let v167 : BitVec 32 := Scalar.select v165 v102 v166
  let v168 : BitVec 32 := v167
  let c32_i32_171 : BitVec 32 := 32#32
  let v232 : BitVec 32 := Scalar.addi v168 c32_i32_171
  let v233 : BitVec 32 := Scalar.select v231 v168 v232
  let v234 : BitVec 32 := v233
  let c4_i32_172 : BitVec 32 := 4#32
  let v235 : BitVec 32 := Scalar.shrsi v2 c4_i32_172
  let c1_i32_173 : BitVec 32 := 1#32
  let v236 : BitVec 32 := Scalar.andi v235 c1_i32_173
  let c0_i32_174 : BitVec 32 := 0#32
  let v237 : BitVec 1 := Scalar.cmpi .eq v236 c0_i32_174
  let c16_i32_175 : BitVec 32 := 16#32
  let c0_i32_176 : BitVec 32 := 0#32
  let v238 : BitVec 32 := Scalar.select v237 c16_i32_175 c0_i32_176
  let v240 : BitVec 32 := v238
  let v281 : BitVec 32 := Scalar.addi v234 v240
  v281
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_166 : BitVec 32 := 2#32
  let v225 : BitVec 32 := Scalar.shrsi v2 c2_i32_166
  let c1_i32_167 : BitVec 32 := 1#32
  let v226 : BitVec 32 := Scalar.andi v225 c1_i32_167
  let c0_i32_170 : BitVec 32 := 0#32
  let v231 : BitVec 1 := Scalar.cmpi .eq v226 c0_i32_170
  let c1_i32_118 : BitVec 32 := 1#32
  let v159 : BitVec 32 := Scalar.shrsi v2 c1_i32_118
  let c1_i32_119 : BitVec 32 := 1#32
  let v160 : BitVec 32 := Scalar.andi v159 c1_i32_119
  let c0_i32_122 : BitVec 32 := 0#32
  let v165 : BitVec 1 := Scalar.cmpi .eq v160 c0_i32_122
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c64_i32_123 : BitVec 32 := 64#32
  let v166 : BitVec 32 := Scalar.addi v102 c64_i32_123
  let v167 : BitVec 32 := Scalar.select v165 v102 v166
  let v168 : BitVec 32 := v167
  let c32_i32_171 : BitVec 32 := 32#32
  let v232 : BitVec 32 := Scalar.addi v168 c32_i32_171
  let v233 : BitVec 32 := Scalar.select v231 v168 v232
  let v234 : BitVec 32 := v233
  let c4_i32_172 : BitVec 32 := 4#32
  let v235 : BitVec 32 := Scalar.shrsi v2 c4_i32_172
  let c1_i32_173 : BitVec 32 := 1#32
  let v236 : BitVec 32 := Scalar.andi v235 c1_i32_173
  let c0_i32_174 : BitVec 32 := 0#32
  let v237 : BitVec 1 := Scalar.cmpi .eq v236 c0_i32_174
  let c16_i32_175 : BitVec 32 := 16#32
  let c0_i32_176 : BitVec 32 := 0#32
  let v238 : BitVec 32 := Scalar.select v237 c16_i32_175 c0_i32_176
  let v240 : BitVec 32 := v238
  let v281 : BitVec 32 := Scalar.addi v234 v240
  let v282 : BitVec 32 := v281
  let v283 : Index := Scalar.indexCast v282
  let c0_207 : Index := 0#32
  ![v283.toNat, 0]
def k0_mult25 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_212 : BitVec 32 := 4#32
  let v291 : BitVec 32 := Scalar.shrsi v2 c4_i32_212
  let c1_i32_213 : BitVec 32 := 1#32
  let v292 : BitVec 32 := Scalar.andi v291 c1_i32_213
  let c0_i32_214 : BitVec 32 := 0#32
  let v293 : BitVec 1 := Scalar.cmpi .eq v292 c0_i32_214
  let c2_i32_166 : BitVec 32 := 2#32
  let v225 : BitVec 32 := Scalar.shrsi v2 c2_i32_166
  let c1_i32_167 : BitVec 32 := 1#32
  let v226 : BitVec 32 := Scalar.andi v225 c1_i32_167
  let c0_i32_170 : BitVec 32 := 0#32
  let v231 : BitVec 1 := Scalar.cmpi .eq v226 c0_i32_170
  let c1_i32_118 : BitVec 32 := 1#32
  let v159 : BitVec 32 := Scalar.shrsi v2 c1_i32_118
  let c1_i32_119 : BitVec 32 := 1#32
  let v160 : BitVec 32 := Scalar.andi v159 c1_i32_119
  let c0_i32_122 : BitVec 32 := 0#32
  let v165 : BitVec 1 := Scalar.cmpi .eq v160 c0_i32_122
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c64_i32_123 : BitVec 32 := 64#32
  let v166 : BitVec 32 := Scalar.addi v102 c64_i32_123
  let v167 : BitVec 32 := Scalar.select v165 v102 v166
  let v168 : BitVec 32 := v167
  let c32_i32_171 : BitVec 32 := 32#32
  let v232 : BitVec 32 := Scalar.addi v168 c32_i32_171
  let v233 : BitVec 32 := Scalar.select v231 v168 v232
  let v234 : BitVec 32 := v233
  let c16_i32_215 : BitVec 32 := 16#32
  let v294 : BitVec 32 := Scalar.addi v234 c16_i32_215
  let v295 : BitVec 32 := Scalar.select v293 v294 v234
  v295
def k0_mult26 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_212 : BitVec 32 := 4#32
  let v291 : BitVec 32 := Scalar.shrsi v2 c4_i32_212
  let c1_i32_213 : BitVec 32 := 1#32
  let v292 : BitVec 32 := Scalar.andi v291 c1_i32_213
  let c0_i32_216 : BitVec 32 := 0#32
  let v297 : BitVec 1 := Scalar.cmpi .eq v292 c0_i32_216
  let c2_i32_166 : BitVec 32 := 2#32
  let v225 : BitVec 32 := Scalar.shrsi v2 c2_i32_166
  let c1_i32_167 : BitVec 32 := 1#32
  let v226 : BitVec 32 := Scalar.andi v225 c1_i32_167
  let c0_i32_170 : BitVec 32 := 0#32
  let v231 : BitVec 1 := Scalar.cmpi .eq v226 c0_i32_170
  let c1_i32_118 : BitVec 32 := 1#32
  let v159 : BitVec 32 := Scalar.shrsi v2 c1_i32_118
  let c1_i32_119 : BitVec 32 := 1#32
  let v160 : BitVec 32 := Scalar.andi v159 c1_i32_119
  let c0_i32_122 : BitVec 32 := 0#32
  let v165 : BitVec 1 := Scalar.cmpi .eq v160 c0_i32_122
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c64_i32_123 : BitVec 32 := 64#32
  let v166 : BitVec 32 := Scalar.addi v102 c64_i32_123
  let v167 : BitVec 32 := Scalar.select v165 v102 v166
  let v168 : BitVec 32 := v167
  let c32_i32_171 : BitVec 32 := 32#32
  let v232 : BitVec 32 := Scalar.addi v168 c32_i32_171
  let v233 : BitVec 32 := Scalar.select v231 v168 v232
  let v234 : BitVec 32 := v233
  let c16_i32_217 : BitVec 32 := 16#32
  let v298 : BitVec 32 := Scalar.addi v234 c16_i32_217
  let v299 : BitVec 32 := Scalar.select v297 v234 v298
  v299
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_212 : BitVec 32 := 4#32
  let v291 : BitVec 32 := Scalar.shrsi v2 c4_i32_212
  let c1_i32_213 : BitVec 32 := 1#32
  let v292 : BitVec 32 := Scalar.andi v291 c1_i32_213
  let c0_i32_214 : BitVec 32 := 0#32
  let v293 : BitVec 1 := Scalar.cmpi .eq v292 c0_i32_214
  let c2_i32_166 : BitVec 32 := 2#32
  let v225 : BitVec 32 := Scalar.shrsi v2 c2_i32_166
  let c1_i32_167 : BitVec 32 := 1#32
  let v226 : BitVec 32 := Scalar.andi v225 c1_i32_167
  let c0_i32_170 : BitVec 32 := 0#32
  let v231 : BitVec 1 := Scalar.cmpi .eq v226 c0_i32_170
  let c1_i32_118 : BitVec 32 := 1#32
  let v159 : BitVec 32 := Scalar.shrsi v2 c1_i32_118
  let c1_i32_119 : BitVec 32 := 1#32
  let v160 : BitVec 32 := Scalar.andi v159 c1_i32_119
  let c0_i32_122 : BitVec 32 := 0#32
  let v165 : BitVec 1 := Scalar.cmpi .eq v160 c0_i32_122
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c64_i32_123 : BitVec 32 := 64#32
  let v166 : BitVec 32 := Scalar.addi v102 c64_i32_123
  let v167 : BitVec 32 := Scalar.select v165 v102 v166
  let v168 : BitVec 32 := v167
  let c32_i32_171 : BitVec 32 := 32#32
  let v232 : BitVec 32 := Scalar.addi v168 c32_i32_171
  let v233 : BitVec 32 := Scalar.select v231 v168 v232
  let v234 : BitVec 32 := v233
  let c16_i32_215 : BitVec 32 := 16#32
  let v294 : BitVec 32 := Scalar.addi v234 c16_i32_215
  let v295 : BitVec 32 := Scalar.select v293 v294 v234
  let v296 : BitVec 32 := v295
  let c0_i32_222 : BitVec 32 := 0#32
  ![v296.toNat, 0]
def k0_dev14 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_211 : BitVec 32 := 16#32
  let v290 : BitVec 32 := Scalar.xori v2 c16_i32_211
  let c1_i32_220 : BitVec 32 := 1#32
  let v301 : BitVec 32 := Scalar.muli v290 c1_i32_220
  let v302 : BitVec 32 := Scalar.addi c0_i32_221 v301
  v302.toNat
def k0_mult27 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_166 : BitVec 32 := 2#32
  let v225 : BitVec 32 := Scalar.shrsi v2 c2_i32_166
  let c1_i32_167 : BitVec 32 := 1#32
  let v226 : BitVec 32 := Scalar.andi v225 c1_i32_167
  let c0_i32_170 : BitVec 32 := 0#32
  let v231 : BitVec 1 := Scalar.cmpi .eq v226 c0_i32_170
  let c1_i32_118 : BitVec 32 := 1#32
  let v159 : BitVec 32 := Scalar.shrsi v2 c1_i32_118
  let c1_i32_119 : BitVec 32 := 1#32
  let v160 : BitVec 32 := Scalar.andi v159 c1_i32_119
  let c0_i32_122 : BitVec 32 := 0#32
  let v165 : BitVec 1 := Scalar.cmpi .eq v160 c0_i32_122
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c64_i32_123 : BitVec 32 := 64#32
  let v166 : BitVec 32 := Scalar.addi v102 c64_i32_123
  let v167 : BitVec 32 := Scalar.select v165 v102 v166
  let v168 : BitVec 32 := v167
  let c32_i32_171 : BitVec 32 := 32#32
  let v232 : BitVec 32 := Scalar.addi v168 c32_i32_171
  let v233 : BitVec 32 := Scalar.select v231 v168 v232
  let v234 : BitVec 32 := v233
  let c16_i32_177 : BitVec 32 := 16#32
  let c4_i32_172 : BitVec 32 := 4#32
  let v235 : BitVec 32 := Scalar.shrsi v2 c4_i32_172
  let c1_i32_173 : BitVec 32 := 1#32
  let v236 : BitVec 32 := Scalar.andi v235 c1_i32_173
  let c0_i32_174 : BitVec 32 := 0#32
  let v237 : BitVec 1 := Scalar.cmpi .eq v236 c0_i32_174
  let c16_i32_175 : BitVec 32 := 16#32
  let c0_i32_176 : BitVec 32 := 0#32
  let v238 : BitVec 32 := Scalar.select v237 c16_i32_175 c0_i32_176
  let v239 : BitVec 32 := Scalar.subi c16_i32_177 v238
  let v250 : BitVec 32 := v239
  let v314 : BitVec 32 := Scalar.addi v234 v250
  v314
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_166 : BitVec 32 := 2#32
  let v225 : BitVec 32 := Scalar.shrsi v2 c2_i32_166
  let c1_i32_167 : BitVec 32 := 1#32
  let v226 : BitVec 32 := Scalar.andi v225 c1_i32_167
  let c0_i32_170 : BitVec 32 := 0#32
  let v231 : BitVec 1 := Scalar.cmpi .eq v226 c0_i32_170
  let c1_i32_118 : BitVec 32 := 1#32
  let v159 : BitVec 32 := Scalar.shrsi v2 c1_i32_118
  let c1_i32_119 : BitVec 32 := 1#32
  let v160 : BitVec 32 := Scalar.andi v159 c1_i32_119
  let c0_i32_122 : BitVec 32 := 0#32
  let v165 : BitVec 1 := Scalar.cmpi .eq v160 c0_i32_122
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c64_i32_123 : BitVec 32 := 64#32
  let v166 : BitVec 32 := Scalar.addi v102 c64_i32_123
  let v167 : BitVec 32 := Scalar.select v165 v102 v166
  let v168 : BitVec 32 := v167
  let c32_i32_171 : BitVec 32 := 32#32
  let v232 : BitVec 32 := Scalar.addi v168 c32_i32_171
  let v233 : BitVec 32 := Scalar.select v231 v168 v232
  let v234 : BitVec 32 := v233
  let c16_i32_177 : BitVec 32 := 16#32
  let c4_i32_172 : BitVec 32 := 4#32
  let v235 : BitVec 32 := Scalar.shrsi v2 c4_i32_172
  let c1_i32_173 : BitVec 32 := 1#32
  let v236 : BitVec 32 := Scalar.andi v235 c1_i32_173
  let c0_i32_174 : BitVec 32 := 0#32
  let v237 : BitVec 1 := Scalar.cmpi .eq v236 c0_i32_174
  let c16_i32_175 : BitVec 32 := 16#32
  let c0_i32_176 : BitVec 32 := 0#32
  let v238 : BitVec 32 := Scalar.select v237 c16_i32_175 c0_i32_176
  let v239 : BitVec 32 := Scalar.subi c16_i32_177 v238
  let v250 : BitVec 32 := v239
  let v314 : BitVec 32 := Scalar.addi v234 v250
  let v315 : BitVec 32 := v314
  let v316 : Index := Scalar.indexCast v315
  let c0_230 : Index := 0#32
  ![v316.toNat, 0]
def k0_mult28 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_212 : BitVec 32 := 4#32
  let v291 : BitVec 32 := Scalar.shrsi v2 c4_i32_212
  let c1_i32_213 : BitVec 32 := 1#32
  let v292 : BitVec 32 := Scalar.andi v291 c1_i32_213
  let c0_i32_216 : BitVec 32 := 0#32
  let v297 : BitVec 1 := Scalar.cmpi .eq v292 c0_i32_216
  let c2_i32_166 : BitVec 32 := 2#32
  let v225 : BitVec 32 := Scalar.shrsi v2 c2_i32_166
  let c1_i32_167 : BitVec 32 := 1#32
  let v226 : BitVec 32 := Scalar.andi v225 c1_i32_167
  let c0_i32_170 : BitVec 32 := 0#32
  let v231 : BitVec 1 := Scalar.cmpi .eq v226 c0_i32_170
  let c1_i32_118 : BitVec 32 := 1#32
  let v159 : BitVec 32 := Scalar.shrsi v2 c1_i32_118
  let c1_i32_119 : BitVec 32 := 1#32
  let v160 : BitVec 32 := Scalar.andi v159 c1_i32_119
  let c0_i32_122 : BitVec 32 := 0#32
  let v165 : BitVec 1 := Scalar.cmpi .eq v160 c0_i32_122
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c64_i32_123 : BitVec 32 := 64#32
  let v166 : BitVec 32 := Scalar.addi v102 c64_i32_123
  let v167 : BitVec 32 := Scalar.select v165 v102 v166
  let v168 : BitVec 32 := v167
  let c32_i32_171 : BitVec 32 := 32#32
  let v232 : BitVec 32 := Scalar.addi v168 c32_i32_171
  let v233 : BitVec 32 := Scalar.select v231 v168 v232
  let v234 : BitVec 32 := v233
  let c16_i32_217 : BitVec 32 := 16#32
  let v298 : BitVec 32 := Scalar.addi v234 c16_i32_217
  let v299 : BitVec 32 := Scalar.select v297 v234 v298
  let v300 : BitVec 32 := v299
  let c0_i32_238 : BitVec 32 := 0#32
  let v328 : BitVec 32 := Scalar.addi v300 c0_i32_238
  v328
def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_212 : BitVec 32 := 4#32
  let v291 : BitVec 32 := Scalar.shrsi v2 c4_i32_212
  let c1_i32_213 : BitVec 32 := 1#32
  let v292 : BitVec 32 := Scalar.andi v291 c1_i32_213
  let c0_i32_216 : BitVec 32 := 0#32
  let v297 : BitVec 1 := Scalar.cmpi .eq v292 c0_i32_216
  let c2_i32_166 : BitVec 32 := 2#32
  let v225 : BitVec 32 := Scalar.shrsi v2 c2_i32_166
  let c1_i32_167 : BitVec 32 := 1#32
  let v226 : BitVec 32 := Scalar.andi v225 c1_i32_167
  let c0_i32_170 : BitVec 32 := 0#32
  let v231 : BitVec 1 := Scalar.cmpi .eq v226 c0_i32_170
  let c1_i32_118 : BitVec 32 := 1#32
  let v159 : BitVec 32 := Scalar.shrsi v2 c1_i32_118
  let c1_i32_119 : BitVec 32 := 1#32
  let v160 : BitVec 32 := Scalar.andi v159 c1_i32_119
  let c0_i32_122 : BitVec 32 := 0#32
  let v165 : BitVec 1 := Scalar.cmpi .eq v160 c0_i32_122
  let c3_i32_70 : BitVec 32 := 3#32
  let v93 : BitVec 32 := Scalar.shrsi v2 c3_i32_70
  let c1_i32_71 : BitVec 32 := 1#32
  let v94 : BitVec 32 := Scalar.andi v93 c1_i32_71
  let c0_i32_74 : BitVec 32 := 0#32
  let v99 : BitVec 1 := Scalar.cmpi .eq v94 c0_i32_74
  let c0_i32_29 : BitVec 32 := 0#32
  let v42 : BitVec 32 := Scalar.shrsi v2 c0_i32_29
  let c1_i32_30 : BitVec 32 := 1#32
  let v43 : BitVec 32 := Scalar.andi v42 c1_i32_30
  let c0_i32_35 : BitVec 32 := 0#32
  let v48 : BitVec 1 := Scalar.cmpi .eq v43 c0_i32_35
  let c0_i32_38 : BitVec 32 := 0#32
  let c0_i32_36 : BitVec 32 := 0#32
  let c256_i32_37 : BitVec 32 := 256#32
  let v49 : BitVec 32 := Scalar.addi c0_i32_36 c256_i32_37
  let v50 : BitVec 32 := Scalar.select v48 c0_i32_38 v49
  let v51 : BitVec 32 := v50
  let c128_i32_75 : BitVec 32 := 128#32
  let v100 : BitVec 32 := Scalar.addi v51 c128_i32_75
  let v101 : BitVec 32 := Scalar.select v99 v51 v100
  let v102 : BitVec 32 := v101
  let c64_i32_123 : BitVec 32 := 64#32
  let v166 : BitVec 32 := Scalar.addi v102 c64_i32_123
  let v167 : BitVec 32 := Scalar.select v165 v102 v166
  let v168 : BitVec 32 := v167
  let c32_i32_171 : BitVec 32 := 32#32
  let v232 : BitVec 32 := Scalar.addi v168 c32_i32_171
  let v233 : BitVec 32 := Scalar.select v231 v168 v232
  let v234 : BitVec 32 := v233
  let c16_i32_217 : BitVec 32 := 16#32
  let v298 : BitVec 32 := Scalar.addi v234 c16_i32_217
  let v299 : BitVec 32 := Scalar.select v297 v234 v298
  let v300 : BitVec 32 := v299
  let c0_i32_238 : BitVec 32 := 0#32
  let v328 : BitVec 32 := Scalar.addi v300 c0_i32_238
  let v329 : BitVec 32 := v328
  let v330 : Index := Scalar.indexCast v329
  let c0_239 : Index := 0#32
  ![v330.toNat, 0]
def k0_off20 (d0 : Dev nD) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let v373 : Index := Scalar.indexCast v23
  let c0_296 : Index := 0#32
  ![v373.toNat, 0]
def k0_mult29 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c0_i32_304 : BitVec 32 := 0#32
  let v394 : BitVec 32 := Scalar.xori v23 c0_i32_304
  v394
def k0_off21 (d0 : Dev nD) (c0_i32_304 : BitVec 32) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let v394 : BitVec 32 := Scalar.xori v23 c0_i32_304
  let v395 : BitVec 32 := v394
  let c0_i32_309 : BitVec 32 := 0#32
  ![v395.toNat, 0]
def k0_dev15 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_305 : BitVec 32 := 16#32
  let v396 : BitVec 32 := Scalar.xori v2 c16_i32_305
  let c1_i32_307 : BitVec 32 := 1#32
  let v397 : BitVec 32 := Scalar.muli v396 c1_i32_307
  let v398 : BitVec 32 := Scalar.addi c0_i32_308 v397
  v398.toNat
def k0_mult30 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c0_i32_311 : BitVec 32 := 0#32
  let v405 : BitVec 32 := Scalar.xori v23 c0_i32_311
  v405
def k0_dev16 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_312 : BitVec 32 := 4#32
  let v407 : BitVec 32 := Scalar.xori v2 c4_i32_312
  let c1_i32_314 : BitVec 32 := 1#32
  let v408 : BitVec 32 := Scalar.muli v407 c1_i32_314
  let v409 : BitVec 32 := Scalar.addi c0_i32_315 v408
  v409.toNat
def k0_mult31 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c0_i32_318 : BitVec 32 := 0#32
  let v416 : BitVec 32 := Scalar.xori v23 c0_i32_318
  v416
def k0_dev17 (d0 : Dev nD) : Nat :=
  let c0_i32_322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_319 : BitVec 32 := 2#32
  let v418 : BitVec 32 := Scalar.xori v2 c2_i32_319
  let c1_i32_321 : BitVec 32 := 1#32
  let v419 : BitVec 32 := Scalar.muli v418 c1_i32_321
  let v420 : BitVec 32 := Scalar.addi c0_i32_322 v419
  v420.toNat
def k0_mult32 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c0_i32_325 : BitVec 32 := 0#32
  let v427 : BitVec 32 := Scalar.xori v23 c0_i32_325
  v427
def k0_dev18 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_326 : BitVec 32 := 8#32
  let v429 : BitVec 32 := Scalar.xori v2 c8_i32_326
  let c1_i32_329 : BitVec 32 := 1#32
  let v430 : BitVec 32 := Scalar.muli v429 c1_i32_329
  let v431 : BitVec 32 := Scalar.addi c0_i32_330 v430
  v431.toNat
def k0_mult33 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c0_i32_333 : BitVec 32 := 0#32
  let v438 : BitVec 32 := Scalar.xori v23 c0_i32_333
  v438
def k0_dev19 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_334 : BitVec 32 := 1#32
  let v440 : BitVec 32 := Scalar.xori v2 c1_i32_334
  let c1_i32_337 : BitVec 32 := 1#32
  let v441 : BitVec 32 := Scalar.muli v440 c1_i32_337
  let v442 : BitVec 32 := Scalar.addi c0_i32_338 v441
  v442.toNat
def k0_mult34 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c16_i32_347 : BitVec 32 := 16#32
  let v455 : BitVec 32 := Scalar.xori v23 c16_i32_347
  v455
def k0_dev20 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_348 : BitVec 32 := 4#32
  let v457 : BitVec 32 := Scalar.xori v2 c4_i32_348
  let c1_i32_350 : BitVec 32 := 1#32
  let v458 : BitVec 32 := Scalar.muli v457 c1_i32_350
  let v459 : BitVec 32 := Scalar.addi c0_i32_351 v458
  v459.toNat
def k0_mult35 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c16_i32_354 : BitVec 32 := 16#32
  let v466 : BitVec 32 := Scalar.xori v23 c16_i32_354
  v466
def k0_dev21 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_355 : BitVec 32 := 2#32
  let v468 : BitVec 32 := Scalar.xori v2 c2_i32_355
  let c1_i32_357 : BitVec 32 := 1#32
  let v469 : BitVec 32 := Scalar.muli v468 c1_i32_357
  let v470 : BitVec 32 := Scalar.addi c0_i32_358 v469
  v470.toNat
def k0_mult36 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c16_i32_361 : BitVec 32 := 16#32
  let v477 : BitVec 32 := Scalar.xori v23 c16_i32_361
  v477
def k0_dev22 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_362 : BitVec 32 := 8#32
  let v479 : BitVec 32 := Scalar.xori v2 c8_i32_362
  let c1_i32_364 : BitVec 32 := 1#32
  let v480 : BitVec 32 := Scalar.muli v479 c1_i32_364
  let v481 : BitVec 32 := Scalar.addi c0_i32_365 v480
  v481.toNat
def k0_mult37 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c16_i32_368 : BitVec 32 := 16#32
  let v488 : BitVec 32 := Scalar.xori v23 c16_i32_368
  v488
def k0_dev23 (d0 : Dev nD) : Nat :=
  let c0_i32_373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_369 : BitVec 32 := 1#32
  let v490 : BitVec 32 := Scalar.xori v2 c1_i32_369
  let c1_i32_372 : BitVec 32 := 1#32
  let v491 : BitVec 32 := Scalar.muli v490 c1_i32_372
  let v492 : BitVec 32 := Scalar.addi c0_i32_373 v491
  v492.toNat
def k0_mult38 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c32_i32_382 : BitVec 32 := 32#32
  let v505 : BitVec 32 := Scalar.xori v23 c32_i32_382
  v505
def k0_dev24 (d0 : Dev nD) : Nat :=
  let c0_i32_386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_383 : BitVec 32 := 2#32
  let v507 : BitVec 32 := Scalar.xori v2 c2_i32_383
  let c1_i32_385 : BitVec 32 := 1#32
  let v508 : BitVec 32 := Scalar.muli v507 c1_i32_385
  let v509 : BitVec 32 := Scalar.addi c0_i32_386 v508
  v509.toNat
def k0_mult39 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c32_i32_389 : BitVec 32 := 32#32
  let v516 : BitVec 32 := Scalar.xori v23 c32_i32_389
  v516
def k0_dev25 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_390 : BitVec 32 := 8#32
  let v518 : BitVec 32 := Scalar.xori v2 c8_i32_390
  let c1_i32_392 : BitVec 32 := 1#32
  let v519 : BitVec 32 := Scalar.muli v518 c1_i32_392
  let v520 : BitVec 32 := Scalar.addi c0_i32_393 v519
  v520.toNat
def k0_mult40 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c32_i32_396 : BitVec 32 := 32#32
  let v527 : BitVec 32 := Scalar.xori v23 c32_i32_396
  v527
def k0_dev26 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_397 : BitVec 32 := 1#32
  let v529 : BitVec 32 := Scalar.xori v2 c1_i32_397
  let c1_i32_400 : BitVec 32 := 1#32
  let v530 : BitVec 32 := Scalar.muli v529 c1_i32_400
  let v531 : BitVec 32 := Scalar.addi c0_i32_401 v530
  v531.toNat
def k0_mult41 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c64_i32_410 : BitVec 32 := 64#32
  let v544 : BitVec 32 := Scalar.xori v23 c64_i32_410
  v544
def k0_dev27 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_411 : BitVec 32 := 8#32
  let v546 : BitVec 32 := Scalar.xori v2 c8_i32_411
  let c1_i32_413 : BitVec 32 := 1#32
  let v547 : BitVec 32 := Scalar.muli v546 c1_i32_413
  let v548 : BitVec 32 := Scalar.addi c0_i32_414 v547
  v548.toNat
def k0_mult42 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c64_i32_417 : BitVec 32 := 64#32
  let v555 : BitVec 32 := Scalar.xori v23 c64_i32_417
  v555
def k0_dev28 (d0 : Dev nD) : Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_418 : BitVec 32 := 1#32
  let v557 : BitVec 32 := Scalar.xori v2 c1_i32_418
  let c1_i32_421 : BitVec 32 := 1#32
  let v558 : BitVec 32 := Scalar.muli v557 c1_i32_421
  let v559 : BitVec 32 := Scalar.addi c0_i32_422 v558
  v559.toNat
def k0_mult43 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c128_i32_431 : BitVec 32 := 128#32
  let v572 : BitVec 32 := Scalar.xori v23 c128_i32_431
  v572
def k0_dev29 (d0 : Dev nD) : Nat :=
  let c0_i32_436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_432 : BitVec 32 := 1#32
  let v574 : BitVec 32 := Scalar.xori v2 c1_i32_432
  let c1_i32_435 : BitVec 32 := 1#32
  let v575 : BitVec 32 := Scalar.muli v574 c1_i32_435
  let v576 : BitVec 32 := Scalar.addi c0_i32_436 v575
  v576.toNat
def k0_mult44 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c48_i32 : BitVec 32 := 48#32
  let v595 : BitVec 32 := Scalar.xori v23 c48_i32
  v595
def k0_dev30 (d0 : Dev nD) : Nat :=
  let c0_i32_454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_451 : BitVec 32 := 2#32
  let v597 : BitVec 32 := Scalar.xori v2 c2_i32_451
  let c1_i32_453 : BitVec 32 := 1#32
  let v598 : BitVec 32 := Scalar.muli v597 c1_i32_453
  let v599 : BitVec 32 := Scalar.addi c0_i32_454 v598
  v599.toNat
def k0_mult45 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c48_i32_457 : BitVec 32 := 48#32
  let v606 : BitVec 32 := Scalar.xori v23 c48_i32_457
  v606
def k0_dev31 (d0 : Dev nD) : Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_458 : BitVec 32 := 8#32
  let v608 : BitVec 32 := Scalar.xori v2 c8_i32_458
  let c1_i32_460 : BitVec 32 := 1#32
  let v609 : BitVec 32 := Scalar.muli v608 c1_i32_460
  let v610 : BitVec 32 := Scalar.addi c0_i32_461 v609
  v610.toNat
def k0_mult46 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c48_i32_464 : BitVec 32 := 48#32
  let v617 : BitVec 32 := Scalar.xori v23 c48_i32_464
  v617
def k0_dev32 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_465 : BitVec 32 := 1#32
  let v619 : BitVec 32 := Scalar.xori v2 c1_i32_465
  let c1_i32_467 : BitVec 32 := 1#32
  let v620 : BitVec 32 := Scalar.muli v619 c1_i32_467
  let v621 : BitVec 32 := Scalar.addi c0_i32_468 v620
  v621.toNat
def k0_mult47 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c96_i32 : BitVec 32 := 96#32
  let v634 : BitVec 32 := Scalar.xori v23 c96_i32
  v634
def k0_dev33 (d0 : Dev nD) : Nat :=
  let c0_i32_480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_477 : BitVec 32 := 8#32
  let v636 : BitVec 32 := Scalar.xori v2 c8_i32_477
  let c1_i32_479 : BitVec 32 := 1#32
  let v637 : BitVec 32 := Scalar.muli v636 c1_i32_479
  let v638 : BitVec 32 := Scalar.addi c0_i32_480 v637
  v638.toNat
def k0_mult48 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c96_i32_483 : BitVec 32 := 96#32
  let v645 : BitVec 32 := Scalar.xori v23 c96_i32_483
  v645
def k0_dev34 (d0 : Dev nD) : Nat :=
  let c0_i32_488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_484 : BitVec 32 := 1#32
  let v647 : BitVec 32 := Scalar.xori v2 c1_i32_484
  let c1_i32_487 : BitVec 32 := 1#32
  let v648 : BitVec 32 := Scalar.muli v647 c1_i32_487
  let v649 : BitVec 32 := Scalar.addi c0_i32_488 v648
  v649.toNat
def k0_mult49 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c80_i32 : BitVec 32 := 80#32
  let v662 : BitVec 32 := Scalar.xori v23 c80_i32
  v662
def k0_dev35 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_497 : BitVec 32 := 8#32
  let v664 : BitVec 32 := Scalar.xori v2 c8_i32_497
  let c1_i32_499 : BitVec 32 := 1#32
  let v665 : BitVec 32 := Scalar.muli v664 c1_i32_499
  let v666 : BitVec 32 := Scalar.addi c0_i32_500 v665
  v666.toNat
def k0_mult50 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c80_i32_503 : BitVec 32 := 80#32
  let v673 : BitVec 32 := Scalar.xori v23 c80_i32_503
  v673
def k0_dev36 (d0 : Dev nD) : Nat :=
  let c0_i32_507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_504 : BitVec 32 := 1#32
  let v675 : BitVec 32 := Scalar.xori v2 c1_i32_504
  let c1_i32_506 : BitVec 32 := 1#32
  let v676 : BitVec 32 := Scalar.muli v675 c1_i32_506
  let v677 : BitVec 32 := Scalar.addi c0_i32_507 v676
  v677.toNat
def k0_mult51 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c192_i32 : BitVec 32 := 192#32
  let v690 : BitVec 32 := Scalar.xori v23 c192_i32
  v690
def k0_dev37 (d0 : Dev nD) : Nat :=
  let c0_i32_520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_516 : BitVec 32 := 1#32
  let v692 : BitVec 32 := Scalar.xori v2 c1_i32_516
  let c1_i32_519 : BitVec 32 := 1#32
  let v693 : BitVec 32 := Scalar.muli v692 c1_i32_519
  let v694 : BitVec 32 := Scalar.addi c0_i32_520 v693
  v694.toNat
def k0_mult52 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c160_i32 : BitVec 32 := 160#32
  let v707 : BitVec 32 := Scalar.xori v23 c160_i32
  v707
def k0_dev38 (d0 : Dev nD) : Nat :=
  let c0_i32_533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_529 : BitVec 32 := 1#32
  let v709 : BitVec 32 := Scalar.xori v2 c1_i32_529
  let c1_i32_532 : BitVec 32 := 1#32
  let v710 : BitVec 32 := Scalar.muli v709 c1_i32_532
  let v711 : BitVec 32 := Scalar.addi c0_i32_533 v710
  v711.toNat
def k0_mult53 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c144_i32 : BitVec 32 := 144#32
  let v724 : BitVec 32 := Scalar.xori v23 c144_i32
  v724
def k0_dev39 (d0 : Dev nD) : Nat :=
  let c0_i32_546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_542 : BitVec 32 := 1#32
  let v726 : BitVec 32 := Scalar.xori v2 c1_i32_542
  let c1_i32_545 : BitVec 32 := 1#32
  let v727 : BitVec 32 := Scalar.muli v726 c1_i32_545
  let v728 : BitVec 32 := Scalar.addi c0_i32_546 v727
  v728.toNat
def k0_mult54 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c112_i32 : BitVec 32 := 112#32
  let v765 : BitVec 32 := Scalar.xori v23 c112_i32
  v765
def k0_dev40 (d0 : Dev nD) : Nat :=
  let c0_i32_582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_579 : BitVec 32 := 8#32
  let v767 : BitVec 32 := Scalar.xori v2 c8_i32_579
  let c1_i32_581 : BitVec 32 := 1#32
  let v768 : BitVec 32 := Scalar.muli v767 c1_i32_581
  let v769 : BitVec 32 := Scalar.addi c0_i32_582 v768
  v769.toNat
def k0_mult55 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c112_i32_585 : BitVec 32 := 112#32
  let v776 : BitVec 32 := Scalar.xori v23 c112_i32_585
  v776
def k0_dev41 (d0 : Dev nD) : Nat :=
  let c0_i32_589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_586 : BitVec 32 := 1#32
  let v778 : BitVec 32 := Scalar.xori v2 c1_i32_586
  let c1_i32_588 : BitVec 32 := 1#32
  let v779 : BitVec 32 := Scalar.muli v778 c1_i32_588
  let v780 : BitVec 32 := Scalar.addi c0_i32_589 v779
  v780.toNat
def k0_mult56 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c224_i32 : BitVec 32 := 224#32
  let v793 : BitVec 32 := Scalar.xori v23 c224_i32
  v793
def k0_dev42 (d0 : Dev nD) : Nat :=
  let c0_i32_601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_598 : BitVec 32 := 1#32
  let v795 : BitVec 32 := Scalar.xori v2 c1_i32_598
  let c1_i32_600 : BitVec 32 := 1#32
  let v796 : BitVec 32 := Scalar.muli v795 c1_i32_600
  let v797 : BitVec 32 := Scalar.addi c0_i32_601 v796
  v797.toNat
def k0_mult57 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c208_i32 : BitVec 32 := 208#32
  let v810 : BitVec 32 := Scalar.xori v23 c208_i32
  v810
def k0_dev43 (d0 : Dev nD) : Nat :=
  let c0_i32_613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_610 : BitVec 32 := 1#32
  let v812 : BitVec 32 := Scalar.xori v2 c1_i32_610
  let c1_i32_612 : BitVec 32 := 1#32
  let v813 : BitVec 32 := Scalar.muli v812 c1_i32_612
  let v814 : BitVec 32 := Scalar.addi c0_i32_613 v813
  v814.toNat
def k0_mult58 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c176_i32 : BitVec 32 := 176#32
  let v827 : BitVec 32 := Scalar.xori v23 c176_i32
  v827
def k0_dev44 (d0 : Dev nD) : Nat :=
  let c0_i32_625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_622 : BitVec 32 := 1#32
  let v829 : BitVec 32 := Scalar.xori v2 c1_i32_622
  let c1_i32_624 : BitVec 32 := 1#32
  let v830 : BitVec 32 := Scalar.muli v829 c1_i32_624
  let v831 : BitVec 32 := Scalar.addi c0_i32_625 v830
  v831.toNat
def k0_mult59 (d0 : Dev nD) : BitVec 32 :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c256_i32 : BitVec 32 := 256#32
  let v5 : BitVec 32 := Scalar.muli v4 c256_i32
  let v6 : BitVec 32 := Scalar.addi c0_i32_1 v5
  let c3_i32 : BitVec 32 := 3#32
  let v7 : BitVec 32 := Scalar.shrsi v2 c3_i32
  let c1_i32_2 : BitVec 32 := 1#32
  let v8 : BitVec 32 := Scalar.andi v7 c1_i32_2
  let c128_i32 : BitVec 32 := 128#32
  let v9 : BitVec 32 := Scalar.muli v8 c128_i32
  let v10 : BitVec 32 := Scalar.addi v6 v9
  let c1_i32_3 : BitVec 32 := 1#32
  let v11 : BitVec 32 := Scalar.shrsi v2 c1_i32_3
  let c1_i32_4 : BitVec 32 := 1#32
  let v12 : BitVec 32 := Scalar.andi v11 c1_i32_4
  let c64_i32 : BitVec 32 := 64#32
  let v13 : BitVec 32 := Scalar.muli v12 c64_i32
  let v14 : BitVec 32 := Scalar.addi v10 v13
  let c2_i32 : BitVec 32 := 2#32
  let v15 : BitVec 32 := Scalar.shrsi v2 c2_i32
  let c1_i32_5 : BitVec 32 := 1#32
  let v16 : BitVec 32 := Scalar.andi v15 c1_i32_5
  let c32_i32_6 : BitVec 32 := 32#32
  let v17 : BitVec 32 := Scalar.muli v16 c32_i32_6
  let v18 : BitVec 32 := Scalar.addi v14 v17
  let c4_i32 : BitVec 32 := 4#32
  let v19 : BitVec 32 := Scalar.shrsi v2 c4_i32
  let c1_i32_7 : BitVec 32 := 1#32
  let v20 : BitVec 32 := Scalar.andi v19 c1_i32_7
  let c16_i32 : BitVec 32 := 16#32
  let v21 : BitVec 32 := Scalar.muli v20 c16_i32
  let v22 : BitVec 32 := Scalar.addi v18 v21
  let v23 : BitVec 32 := v22
  let c240_i32 : BitVec 32 := 240#32
  let v880 : BitVec 32 := Scalar.xori v23 c240_i32
  v880
def k0_dev45 (d0 : Dev nD) : Nat :=
  let c0_i32_673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_670 : BitVec 32 := 1#32
  let v882 : BitVec 32 := Scalar.xori v2 c1_i32_670
  let c1_i32_672 : BitVec 32 := 1#32
  let v883 : BitVec 32 := Scalar.muli v882 c1_i32_672
  let v884 : BitVec 32 := Scalar.addi c0_i32_673 v883
  v884.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S32x512x512 : Shape := ⟨3, ![32, 512, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S32x512x512, .f32⟩
  | .hbm, ⟨1, _⟩ => ⟨S512x512, .f32⟩
  | .hbm, ⟨2, _⟩ => ⟨S512, .f32⟩
  | .hbm, ⟨3, _⟩ => ⟨S_, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x512, .f32⟩
  | .hbm, ⟨18, _⟩ => ⟨S512x512, .f32⟩
  | .hbm, ⟨19, _⟩ => ⟨S1x512, .f32⟩
  | .hbm, ⟨20, _⟩ => ⟨S512x512, .f32⟩
  | .hbm, ⟨21, _⟩ => ⟨S512x512, .f32⟩
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.I.Base.lean ====
/-
  The all-reduce's arithmetic. The 32 devices' row blocks are numbered by `pos`, a permutation of the bits of the
  device's number; the partner of round `k` differs from the device in one bit of that number (`pos_pk`). Every view of
  the result buffer that the kernel transfers, loads or stores is a set of 16-row blocks, numbered relative to the
  device: `blk c n` is the rows of the blocks whose number relative to `c` is a bit of `n`.
-/
module

public import proofs.«01_k».proof.Defs
public import Idealize.ShloMosaic.Lib.Pipeline.Launch
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame

@[expose] public section

noncomputable section

namespace Cert.KernelIdeal.Pf

open Cert.KernelIdeal Cert.KernelIdeal.Gen

open Idealize.ShloMosaic
open Idealize.ShloMosaic.TcCoe

/-! ## Device numbers -/

/-- The number of the device's row block. -/
@[reducible] def posN (c : ℕ) : ℕ := (c % 2) * 16 + (c / 8 % 2) * 8 + (c / 2 % 2) * 4 + (c / 4 % 2) * 2 + c / 16 % 2

/-- The number of the device's row block. -/
def pos (c : Dev nD) : Fin 32 := Fin.ofNat 32 (posN c.val)

/-- The device whose row block is numbered `j`. -/
def ofPos (j : Fin 32) : Dev nD :=
  Fin.ofNat 32 ((j.val / 16 % 2) + (j.val / 8 % 2) * 8 + (j.val / 4 % 2) * 2 + (j.val / 2 % 2) * 4 + (j.val % 2) * 16)

/-- The bit of the block number that round `k` crosses. -/
def top (k : Fin 5) : Fin 32 := ![16, 8, 4, 2, 1] k

/-- The bit of the device number that round `k` crosses. -/
def dbit (k : Fin 5) : Fin 32 := ![1, 8, 2, 4, 16] k

/-- The partner of round `k`. -/
def pk (k : Fin 5) (c : Dev nD) : Dev nD := (show Fin 32 from c) ^^^ dbit k

theorem pk_pk (k : Fin 5) (c : Dev nD) : pk k (pk k c) = c := by revert k c; decide +kernel
theorem pos_pk (k : Fin 5) (c : Dev nD) : pos (pk k c) = pos c ^^^ top k := by revert k c; decide +kernel
theorem ofPos_pos (c : Dev nD) : ofPos (pos c) = c := by revert c; decide +kernel
theorem pos_ofPos (j : Fin 32) : pos (ofPos j) = j := by revert j; decide +kernel

theorem xor_val (a b : Fin 32) : (a ^^^ b).val = a.val ^^^ b.val := by
  show (a.val ^^^ b.val) % 32 = _
  exact Nat.mod_eq_of_lt (Nat.xor_lt_two_pow (n := 5) a.isLt b.isLt)
theorem xor_assoc' (a b d : Fin 32) : a ^^^ (b ^^^ d) = a ^^^ b ^^^ d :=
  Fin.ext (by simp only [xor_val, Nat.xor_assoc])
theorem xor_comm' (a b : Fin 32) : a ^^^ b = b ^^^ a := Fin.ext (by simp only [xor_val, Nat.xor_comm])
theorem xor_cancel (a b : Fin 32) : (a ^^^ b) ^^^ b = a :=
  Fin.ext (by simp only [xor_val, Nat.xor_assoc, Nat.xor_self, Nat.xor_zero])
theorem xor_eq_iff (a b d : Fin 32) : a ^^^ b = d ↔ a = d ^^^ b :=
  ⟨fun h => by rw [← h, xor_cancel], fun h => by rw [h, xor_cancel]⟩

/-- The partner of round `k` as a permutation of the devices. -/
def pkE (k : Fin 5) : Dev nD ≃ Dev nD := ⟨pk k, pk k, pk_pk k, pk_pk k⟩

/-! ## Row blocks -/

/-- The block of row `i`, numbered relative to device `c`. -/
def rel (c : Dev nD) (i : Fin 512) : Fin 32 := (⟨i.val / 16, by omega⟩ : Fin 32) ^^^ pos c

/-- The elements of the rows whose block, relative to `c`, is a bit of `n`. -/
def blk (c : Dev nD) (n : ℕ) : Finset S512x512.Idx := Finset.univ.filter fun i => n.testBit (rel c (i 0)).val = true

theorem mem_blk {c : Dev nD} {n : ℕ} {i : S512x512.Idx} : i ∈ blk c n ↔ n.testBit (rel c (i 0)).val = true := by
  simp [blk]

theorem blk_disj (c : Dev nD) {a b : ℕ} (h : a &&& b = 0) : Disjoint (blk c a) (blk c b) := by
  rw [Finset.disjoint_left]
  intro i ha hb
  have h2 : (a &&& b).testBit (rel c (i 0)).val = true := by
    rw [Nat.testBit_and, mem_blk.mp ha, mem_blk.mp hb]; rfl
  rw [h, Nat.zero_testBit] at h2
  exact absurd h2 (by decide)

theorem blk_union (c : Dev nD) (a b : ℕ) : blk c (a ||| b) = blk c a ∪ blk c b := by
  ext i
  rw [Finset.mem_union, mem_blk, mem_blk, mem_blk, Nat.testBit_or, Bool.or_eq_true]

theorem blk_all (c : Dev nD) : blk c 4294967295 = Finset.univ := by
  ext i
  have h : ∀ j : Fin 32, Nat.testBit 4294967295 j.val = true := by decide +kernel
  simp only [mem_blk, Finset.mem_univ, iff_true]
  exact h _

/-- A block of `c`'s partner, numbered relative to `c`. -/
theorem blk_pk (k : Fin 5) (c : Dev nD) (a b : ℕ) (h : ∀ j : Fin 32, b.testBit j.val = a.testBit (j ^^^ top k).val) :
    blk (pk k c) a = blk c b := by
  ext i
  rw [mem_blk, mem_blk, h]
  show a.testBit ((_ ^^^ pos (pk k c) : Fin 32)).val = true ↔ _
  rw [pos_pk]
  unfold rel
  rw [xor_assoc']

/-- The rows from `o` on, `16 * L` of them, are the blocks `n`, if they are so block by block. -/
theorem rect_blk (c : Dev nD) (n L : ℕ) (off : Fin 2 → ℕ) (size : Fin 2 → ℕ) (inb : ∀ a, off a + size a ≤ S512x512.size a)
    (h0 : size 0 = 16 * L) (h1 : size 1 = 512) (ho : 16 ∣ off 0)
    (h : ∀ j : Fin 32, n.testBit (j ^^^ pos c).val = decide (off 0 ≤ 16 * j.val ∧ 16 * j.val < off 0 + 16 * L)) :
    (Rect.unit (s := S512x512) off size inb).set = blk c n := by
  have i1 : off 1 = 0 := by have := inb 1; rw [h1] at this; change _ + 512 ≤ 512 at this; omega
  ext i
  rw [Rect.mem_set_unit, mem_blk]
  unfold rel
  rw [h, decide_eq_true_iff]
  constructor
  · intro hi
    have := hi 0
    rw [h0] at this
    show off 0 ≤ 16 * ((i 0 : ℕ) / 16) ∧ 16 * ((i 0 : ℕ) / 16) < _
    omega
  · intro hi
    change off 0 ≤ 16 * ((i 0 : ℕ) / 16) ∧ 16 * ((i 0 : ℕ) / 16) < _ at hi
    refine Fin.forall_fin_two.mpr ⟨?_, ?_⟩
    · rw [h0]
      change off 0 ≤ (i 0 : ℕ) ∧ (i 0 : ℕ) < _
      omega
    · rw [h1, i1]
      have : (i 1 : ℕ) < 512 := (i 1).isLt
      change 0 ≤ (i 1 : ℕ) ∧ (i 1 : ℕ) < _
      omega

/-! ## The kernel's offsets and device numbers -/

/-- The first row of the aligned run of `L` blocks that has block `a` relative to `c`. -/
def start (c : Dev nD) (a : Fin 32) (L : ℕ) : ℕ := 16 * ((pos c ^^^ a).val / L * L)

theorem start_dvd (c : Dev nD) (a : Fin 32) (L : ℕ) : 16 ∣ start c a L := ⟨_, rfl⟩

theorem off1_eq (c : Dev nD) : k0_off1 c = ![start c 0 1, 0] := by revert c; decide +kernel
theorem off2_eq (c : Dev nD) : k0_off2 c = ![start c 24 8, 0] := by revert c; decide +kernel
theorem off3_eq (c : Dev nD) : k0_off3 c = ![start c 16 8, 0] := by revert c; decide +kernel
theorem off4_eq (c : Dev nD) : k0_off4 c = ![start c 8 8, 0] := by revert c; decide +kernel
theorem off5_eq (c : Dev nD) : k0_off5 c = ![start c 12 4, 0] := by revert c; decide +kernel
theorem off6_eq (c : Dev nD) : k0_off6 c = ![start c 8 4, 0] := by revert c; decide +kernel
theorem off7_eq (c : Dev nD) : k0_off7 c = ![start c 0 8, 0] := by revert c; decide +kernel
theorem off8_eq (c : Dev nD) : k0_off8 c = ![start c 4 4, 0] := by revert c; decide +kernel
theorem off9_eq (c : Dev nD) : k0_off9 c = ![start c 6 2, 0] := by revert c; decide +kernel
theorem off10_eq (c : Dev nD) : k0_off10 c = ![start c 4 2, 0] := by revert c; decide +kernel
theorem off11_eq (c : Dev nD) : k0_off11 c = ![start c 0 4, 0] := by revert c; decide +kernel
theorem off12_eq (c : Dev nD) : k0_off12 c = ![start c 2 2, 0] := by revert c; decide +kernel
theorem off13_eq (c : Dev nD) : k0_off13 c = ![start c 3 1, 0] := by revert c; decide +kernel
theorem off14_eq (c : Dev nD) : k0_off14 c = ![start c 2 1, 0] := by revert c; decide +kernel
theorem off15_eq (c : Dev nD) : k0_off15 c = ![start c 0 2, 0] := by revert c; decide +kernel
theorem off16_eq (c : Dev nD) : k0_off16 c = ![start c 1 1, 0] := by revert c; decide +kernel
theorem off17_eq (c : Dev nD) : k0_off17 c = ![start c 1 1, 0] := by revert c; decide +kernel
theorem off18_eq (c : Dev nD) : k0_off18 c = ![start c 0 1, 0] := by revert c; decide +kernel
theorem off19_eq (c : Dev nD) : k0_off19 c = ![start c 0 1, 0] := by revert c; decide +kernel
theorem off20_eq (c : Dev nD) : k0_off20 c = ![start c 0 1, 0] := by revert c; decide +kernel
theorem off21_eq (c : Dev nD) (x : Fin 16) :
    k0_off21 c (BitVec.ofNat 32 (16 * x.val)) = ![start c (Fin.ofNat 32 x.val) 1, 0] := by revert c x; decide +kernel

/-- The rounds of the partners that the kernel's signals and transfers address, in the order of its text. -/
def devRound : Fin 45 → Fin 5 :=
  ![0, 1, 2, 3, 4, 0, 0, 1, 1, 2, 2, 3, 3, 4, 4, 3, 2, 1, 0, 3, 2, 1, 0, 2, 1, 0, 1, 0, 0, 2, 1, 0, 1, 0, 1, 0, 0, 0, 0, 1, 0, 0, 0, 0, 0]

theorem devs_eq (c : Dev nD) : (![k0_dev1 c, k0_dev2 c, k0_dev3 c, k0_dev4 c, k0_dev5 c, k0_dev6 c, k0_dev7 c, k0_dev8 c,
    k0_dev9 c, k0_dev10 c, k0_dev11 c, k0_dev12 c, k0_dev13 c, k0_dev14 c, k0_dev15 c, k0_dev16 c, k0_dev17 c, k0_dev18 c,
    k0_dev19 c, k0_dev20 c, k0_dev21 c, k0_dev22 c, k0_dev23 c, k0_dev24 c, k0_dev25 c, k0_dev26 c, k0_dev27 c, k0_dev28 c,
    k0_dev29 c, k0_dev30 c, k0_dev31 c, k0_dev32 c, k0_dev33 c, k0_dev34 c, k0_dev35 c, k0_dev36 c, k0_dev37 c, k0_dev38 c,
    k0_dev39 c, k0_dev40 c, k0_dev41 c, k0_dev42 c, k0_dev43 c, k0_dev44 c, k0_dev45 c] : Fin 45 → ℕ)
      = fun i => (pk (devRound i) c).val := by
  revert c; decide +kernel

/-- The aligned run of `L` blocks from block `a` on, as a set of blocks. -/
theorem run_bits (c : Dev nD) (a : Fin 32) (L n : ℕ)
    (h : ∀ p j : Fin 32, n.testBit (j ^^^ p).val = decide (p.val ^^^ a.val < (j.val / L + 1) * L ∧ j.val / L * L ≤ p.val ^^^ a.val))
    (hL : L = 1 ∨ L = 2 ∨ L = 4 ∨ L = 8) (j : Fin 32) :
    n.testBit (j ^^^ pos c).val = decide (start c a L ≤ 16 * j.val ∧ 16 * j.val < start c a L + 16 * L) := by
  rw [h (pos c) j]
  apply decide_eq_decide.mpr
  unfold start
  rw [xor_val]
  rcases hL with rfl | rfl | rfl | rfl <;> omega

/-- A slice of the result, or of the summand, at the run's rows. -/
theorem run_blk (c : Dev nD) (a : Fin 32) (L n : ℕ) (off : Fin 2 → ℕ) (size : Fin 2 → ℕ) (inb : ∀ a, off a + size a ≤ S512x512.size a)
    (ho : off = ![start c a L, 0]) (h0 : size 0 = 16 * L) (h1 : size 1 = 512)
    (h : ∀ p j : Fin 32, n.testBit (j ^^^ p).val = decide (p.val ^^^ a.val < (j.val / L + 1) * L ∧ j.val / L * L ≤ p.val ^^^ a.val))
    (hL : L = 1 ∨ L = 2 ∨ L = 4 ∨ L = 8) :
    (Rect.unit (s := S512x512) off size inb).set = blk c n := by
  subst ho
  exact rect_blk c n L _ _ inb h0 h1 (start_dvd c a L) (run_bits c a L n h hL)

/-- One block. -/
theorem one_bits (a p j : Fin 32) : (2 ^ a.val).testBit (j ^^^ p).val
    = decide (p.val ^^^ a.val < (j.val / 1 + 1) * 1 ∧ j.val / 1 * 1 ≤ p.val ^^^ a.val) := by
  rw [Nat.testBit_two_pow]
  apply decide_eq_decide.mpr
  have h : a.val = (j ^^^ p).val ↔ p.val ^^^ a.val = j.val := by
    rw [← xor_val, ← Fin.ext_iff, ← Fin.ext_iff, xor_comm' p a, xor_eq_iff]
  rw [h]
  omega

/-! ### What the views cover -/

/-- The result's staging buffer and the summand's, whole. -/
abbrev oM : Memref sig .tc .vmem S512x512 .f32 := Memref.whole cc0_stg2_0
abbrev xM : Memref sig .tc .vmem S512x512 .f32 := Memref.whole cc0_stg0_0

theorem rect2 (c : Dev nD) : (Rect.unit (s := S512x512) (k0_off2 c) S128x512.size (k0_off2_inb c)).set = blk c 4278190080 :=
  run_blk c 24 8 _ _ _ _ (off2_eq c) rfl rfl (by decide +kernel) (by decide)
theorem rect3 (c : Dev nD) : (Rect.unit (s := S512x512) (k0_off3 c) S128x512.size (k0_off3_inb c)).set = blk c 16711680 :=
  run_blk c 16 8 _ _ _ _ (off3_eq c) rfl rfl (by decide +kernel) (by decide)
theorem rect4 (c : Dev nD) : (Rect.unit (s := S512x512) (k0_off4 c) S128x512.size (k0_off4_inb c)).set = blk c 65280 :=
  run_blk c 8 8 _ _ _ _ (off4_eq c) rfl rfl (by decide +kernel) (by decide)
theorem rect5 (c : Dev nD) : (Rect.unit (s := S512x512) (k0_off5 c) S64x512.size (k0_off5_inb c)).set = blk c 61440 :=
  run_blk c 12 4 _ _ _ _ (off5_eq c) rfl rfl (by decide +kernel) (by decide)
theorem rect6 (c : Dev nD) : (Rect.unit (s := S512x512) (k0_off6 c) S64x512.size (k0_off6_inb c)).set = blk c 3840 :=
  run_blk c 8 4 _ _ _ _ (off6_eq c) rfl rfl (by decide +kernel) (by decide)
theorem rect7 (c : Dev nD) : (Rect.unit (s := S512x512) (k0_off7 c) S128x512.size (k0_off7_inb c)).set = blk c 255 :=
  run_blk c 0 8 _ _ _ _ (off7_eq c) rfl rfl (by decide +kernel) (by decide)
theorem rect8 (c : Dev nD) : (Rect.unit (s := S512x512) (k0_off8 c) S64x512.size (k0_off8_inb c)).set = blk c 240 :=
  run_blk c 4 4 _ _ _ _ (off8_eq c) rfl rfl (by decide +kernel) (by decide)
theorem rect9 (c : Dev nD) : (Rect.unit (s := S512x512) (k0_off9 c) S32x512.size (k0_off9_inb c)).set = blk c 192 :=
  run_blk c 6 2 _ _ _ _ (off9_eq c) rfl rfl (by decide +kernel) (by decide)
theorem rect10 (c : Dev nD) : (Rect.unit (s := S512x512) (k0_off10 c) S32x512.size (k0_off10_inb c)).set = blk c 48 :=
  run_blk c 4 2 _ _ _ _ (off10_eq c) rfl rfl (by decide +kernel) (by decide)
theorem rect11 (c : Dev nD) : (Rect.unit (s := S512x512) (k0_off11 c) S64x512.size (k0_off11_inb c)).set = blk c 15 :=
  run_blk c 0 4 _ _ _ _ (off11_eq c) rfl rfl (by decide +kernel) (by decide)
theorem rect12 (c : Dev nD) : (Rect.unit (s := S512x512) (k0_off12 c) S32x512.size (k0_off12_inb c)).set = blk c 12 :=
  run_blk c 2 2 _ _ _ _ (off12_eq c) rfl rfl (by decide +kernel) (by decide)
theorem rect13 (c : Dev nD) : (Rect.unit (s := S512x512) (k0_off13 c) S16x512.size (k0_off13_inb c)).set = blk c 8 :=
  run_blk c 3 1 _ _ _ _ (off13_eq c) rfl rfl (one_bits 3) (by decide)
theorem rect14 (c : Dev nD) : (Rect.unit (s := S512x512) (k0_off14 c) S16x512.size (k0_off14_inb c)).set = blk c 4 :=
  run_blk c 2 1 _ _ _ _ (off14_eq c) rfl rfl (one_bits 2) (by decide)
theorem rect15 (c : Dev nD) : (Rect.unit (s := S512x512) (k0_off15 c) S32x512.size (k0_off15_inb c)).set = blk c 3 :=
  run_blk c 0 2 _ _ _ _ (off15_eq c) rfl rfl (by decide +kernel) (by decide)
theorem rect16 (c : Dev nD) : (Rect.unit (s := S512x512) (k0_off16 c) S16x512.size (k0_off16_inb c)).set = blk c 2 :=
  run_blk c 1 1 _ _ _ _ (off16_eq c) rfl rfl (one_bits 1) (by decide)
theorem rect17 (c : Dev nD) : (Rect.unit (s := S512x512) (k0_off17 c) S16x512.size (k0_off17_inb c)).set = blk c 2 :=
  run_blk c 1 1 _ _ _ _ (off17_eq c) rfl rfl (one_bits 1) (by decide)
theorem rect18 (c : Dev nD) : (Rect.unit (s := S512x512) (k0_off18 c) S16x512.size (k0_off18_inb c)).set = blk c 1 :=
  run_blk c 0 1 _ _ _ _ (off18_eq c) rfl rfl (one_bits 0) (by decide)
theorem rect19 (c : Dev nD) : (Rect.unit (s := S512x512) (k0_off19 c) S16x512.size (k0_off19_inb c)).set = blk c 1 :=
  run_blk c 0 1 _ _ _ _ (off19_eq c) rfl rfl (one_bits 0) (by decide)
theorem rect20 (c : Dev nD) : (Rect.unit (s := S512x512) (k0_off20 c) S16x512.size (k0_off20_inb c)).set = blk c 1 :=
  run_blk c 0 1 _ _ _ _ (off20_eq c) rfl rfl (one_bits 0) (by decide)
theorem rect21 (c : Dev nD) (x : Fin 16) : (Rect.unit (s := S512x512) (k0_off21 c (BitVec.ofNat 32 (16 * x.val))) S16x512.size (k0_off21_inb c x)).set
    = blk c (2 ^ x.val) := by
  have e : (Fin.ofNat 32 x.val).val = x.val := Nat.mod_eq_of_lt (by omega)
  have := run_blk c (Fin.ofNat 32 x.val) 1 _ _ _ (k0_off21_inb c x) (off21_eq c x) rfl rfl (one_bits _) (by decide)
  rw [e] at this
  exact this

theorem oM_set (r : Rect S512x512) : (oM.view.slice r).set = r.set := by
  rw [View.set_slice]; exact Finset.map_refl
theorem xM_set (r : Rect S512x512) : (xM.view.slice r).set = r.set := by
  rw [View.set_slice]; exact Finset.map_refl

/-! ### Where a partner's rows land -/

theorem off2_pk (c : Dev nD) : k0_off2 (pk 0 c) = k0_off4 c := by revert c; decide +kernel
theorem off3_pk (c : Dev nD) : k0_off3 (pk 0 c) = k0_off7 c := by revert c; decide +kernel
theorem off5_pk (c : Dev nD) : k0_off5 (pk 1 c) = k0_off8 c := by revert c; decide +kernel
theorem off6_pk (c : Dev nD) : k0_off6 (pk 1 c) = k0_off11 c := by revert c; decide +kernel
theorem off9_pk (c : Dev nD) : k0_off9 (pk 2 c) = k0_off12 c := by revert c; decide +kernel
theorem off10_pk (c : Dev nD) : k0_off10 (pk 2 c) = k0_off15 c := by revert c; decide +kernel
theorem off13_pk (c : Dev nD) : k0_off13 (pk 3 c) = k0_off16 c := by revert c; decide +kernel
theorem off14_pk (c : Dev nD) : k0_off14 (pk 3 c) = k0_off18 c := by revert c; decide +kernel
theorem off17_pk (c : Dev nD) : k0_off17 (pk 4 c) = k0_off19 c := by revert c; decide +kernel

end Cert.KernelIdeal.Pf
-- ==== Proof.I.Sched.lean ====
/-
  The protocol. The contents at every stage as functions of the inputs (`A`, `Out`); the kernel's semaphores as cells of the
  rounds library, decoded by number (`kind`); the copies by number (`rnd`, `amt`, `tloc`, `sloc`: below 32 the gather's copy
  that fills the block of that number relative to its receiver, 32 to 40 the nine copies of the reduction, 41 to 45 the five
  barrier signals); and what each cell's duty hands the cell's owner (`rd`).
-/
module

public import proofs.«01_k».proof.Proof.I.Base

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy of the rounds library and the protocol's -/

abbrev UP : Type := URounds (GSem nD τ sig) Unit
abbrev UO : Type := URounds (GSem nD τ sig) (Fin 5)
abbrev UU : Type := UP × UO

local notation "𝕄" => MT nD τ sig Unit (Elt F) ℕ UU ℕ

def EP : Emb UP (MT nD τ sig Unit (Elt F) ℕ UU ℕ) :=
  (Emb.inl : Emb UP UU).trans (uEmb (nD := nD) (sig := sig) (Ix := Unit) (Val := Elt F) (Name := ℕ) (U := UU) (Lvl := ℕ)).toEmb
def ER : Emb UO (MT nD τ sig Unit (Elt F) ℕ UU ℕ) :=
  (Emb.inr : Emb UO UU).trans (uEmb (nD := nD) (sig := sig) (Ix := Unit) (Val := Elt F) (Name := ℕ) (U := UU) (Lvl := ℕ)).toEmb

instance EP_landsIn : (EP : Emb UP 𝕄).LandsIn (upEmb : UEmb _ 𝕄) := by unfold EP; infer_instance
instance ER_landsIn : (ER : Emb UO 𝕄).LandsIn (upEmb : UEmb _ 𝕄) := by unfold ER; infer_instance

/-! ## Contents -/

/-- What the kernel reads on each device: its summand, the residual, the weights. -/
structure Inp (F : FTy → Type) where
  x : Dev nD → FVec F S512x512 .f32
  r : Dev nD → FVec F S512x512 .f32
  g : Dev nD → FVec F S1x512 .f32

/-- The partial sums before round `k` of the reduction. -/
def A (I : Inp F) : ℕ → Dev nD → FVec F S512x512 .f32
  | 0 => I.x
  | k + 1 => fun c => addf (A I k c) (A I k (pk (Fin.ofNat 5 k) c))

/-- The sixteen rows of a device's own block. -/
abbrev own16 (c : Dev nD) : View sig .tc .vmem S16x512 .f32 :=
  (oM.slice (Rect.unit (s := S512x512) (k0_off20 c) S16x512.size (k0_off20_inb c)) (fun _ => rfl)).view

/-- The normalized rows device `c` computes. -/
def rows (I : Inp F) (c : Dev nD) : FVec F S16x512 .f32 :=
  k0_pay12 ((own16 c).read (Elt F) (A I 5 c)) ((own16 c).read (Elt F) (I.r c)) (I.g c)

/-- An index of sixteen rows by its two coordinates. -/
def idx2 (a : Fin 16) (b : Fin 512) : S16x512.Idx := fun k => match k with | 0 => a | 1 => b

/-- The result, the same on every device: block `j` is computed by the device numbered `j`. -/
def Out (I : Inp F) : FVec F S512x512 .f32 := fun i =>
  rows I (ofPos ⟨(i 0).val / 16, by have : (i 0).val < 512 := (i 0).isLt; omega⟩)
    (idx2 ⟨(i 0).val % 16, Nat.mod_lt _ (by decide)⟩ (i 1))

/-! ## The copies and the cells, by number -/

/-- The semaphore number of the gather's copy that fills block `r`, and the block of a semaphore number. -/
def numOf : Fin 32 → Fin 31 :=
  ![0, 30, 28, 29, 24, 26, 25, 27, 16, 19, 18, 22, 17, 21, 20, 23, 0, 4, 3, 10, 2, 9, 8, 14, 1, 7, 6, 13, 5, 12, 11, 15]
def pieceOf : Fin 31 → Fin 32 :=
  ![16, 24, 20, 18, 17, 28, 26, 25, 22, 21, 19, 30, 29, 27, 23, 31, 8, 12, 10, 9, 14, 13, 11, 15, 4, 6, 5, 7, 2, 3, 1]

/-- The round whose partner a copy or signal goes to. -/
def rnd : Fin 46 → Fin 5 :=
  ![0, 4, 3, 3, 2, 2, 2, 2, 1, 1, 1, 1, 1, 1, 1, 1, 0, 0, 0, 0, 0, 0, 0, 0, 0, 0, 0, 0, 0, 0, 0, 0,
    0, 0, 1, 1, 2, 2, 3, 3, 4, 0, 1, 2, 3, 4]

/-- The units it credits. -/
def amt : Fin 46 → ℕ :=
  ![1024, 1024, 1024, 1024, 1024, 1024, 1024, 1024, 1024, 1024, 1024, 1024, 1024, 1024, 1024, 1024,
    1024, 1024, 1024, 1024, 1024, 1024, 1024, 1024, 1024, 1024, 1024, 1024, 1024, 1024, 1024, 1024,
    8192, 8192, 4096, 4096, 2048, 2048, 1024, 1024, 1024, 1, 1, 1, 1, 1]

/-- The kernel's own semaphores: 81 for its copies. -/
abbrev osem : Fin 81 → SemLoc sig := fun j => .dma (⟨3 + j.val, by omega⟩ : Fin 84)

/-- The own semaphore a copy signals at its receiver, and the one it signals at its sender. -/
def rj (x : Fin 46) : Fin 81 := if h : x.val < 32 then ⟨49 + (numOf ⟨x, h⟩).val, by omega⟩ else ⟨(9 + (x.val - 32)) % 81, Nat.mod_lt _ (by decide)⟩
def sj (x : Fin 46) : Fin 81 := if h : x.val < 32 then ⟨18 + (numOf ⟨x, h⟩).val, by omega⟩ else ⟨(x.val - 32) % 81, Nat.mod_lt _ (by decide)⟩

/-- The barrier semaphore. -/
abbrev barS : Sem sig := (SemArray.scalar (sig.barrier 0 rfl) : Sems sig S_).sem

/-- The cell a copy or signal pays at its receiver. -/
def tloc (x : Fin 46) : SemLoc sig := if x.val < 41 then osem (rj x) else .reg barS

/-- What an own semaphore is for. -/
inductive Kind | snd (x : Fin 46) | rcv (x : Fin 46) | resid
  deriving DecidableEq

def kind (j : Fin 81) : Kind :=
  if h : j.val < 9 then .snd ⟨32 + j.val, by omega⟩
  else if h : j.val < 18 then .rcv ⟨32 + (j.val - 9), by omega⟩
  else if h : j.val < 49 then .snd ⟨(pieceOf ⟨j.val - 18, by omega⟩).val, by omega⟩
  else if h : j.val < 80 then .rcv ⟨(pieceOf ⟨j.val - 49, by omega⟩).val, by omega⟩
  else .resid

/-- The copies the kernel makes: all but number 0. -/
abbrev IsCp (x : Fin 46) : Prop := 0 < x.val ∧ x.val < 41

theorem kind_rj (x : Fin 46) (h : IsCp x) : kind (rj x) = .rcv x := by revert x; decide +kernel
theorem kind_sj (x : Fin 46) (h : IsCp x) : kind (sj x) = .snd x := by revert x; decide +kernel
theorem kind_resid : kind 80 = .resid := by decide
theorem tloc_cp (x : Fin 46) (h : IsCp x) : tloc x = osem (rj x) := if_pos h.2
theorem tloc_bar (x : Fin 46) (h : 41 ≤ x.val) : tloc x = .reg barS := if_neg (by omega)

/-! ## Points-tos -/

/-- Device `c`'s result buffer and its summand, on the blocks `n` relative to `c`. -/
def outP (c : Dev nD) (n : ℕ) (q : PosShare TreeShare) (f : FVec F S512x512 .f32) : sProp 𝕄 :=
  (oM : Memref sig .tc .vmem S512x512 .f32).view.loc (c : Thread nD τ) ↦[blk c n]{q} f
def xP (c : Dev nD) (n : ℕ) (f : FVec F S512x512 .f32) : sProp 𝕄 :=
  (xM : Memref sig .tc .vmem S512x512 .f32).view.loc (c : Thread nD τ) ↦[blk c n]{fullShare} f
def outAny (c : Dev nD) (n : ℕ) : sProp 𝕄 := iprop(∃ f, outP c n fullShare f)

section Mem
variable {s : Shape}
/-- A buffer's view at any contents, and at contents that read `v`. -/
def anyP (d : Memref sig .tc .vmem s .f32) (c : Dev nD) : sProp 𝕄 :=
  iprop(∃ f : Buf (Elt F) (d.view.loc (c : Thread nD τ)), d.view.loc (c : Thread nD τ) ↦[d.view.set]{fullShare} f)
def landP (d : Memref sig .tc .vmem s .f32) (c : Dev nD) (v : s.Idx → Elt F .f32) : sProp 𝕄 :=
  iprop(∃ f : Buf (Elt F) (d.view.loc (c : Thread nD τ)), ⌜d.view.read (Elt F) f = v⌝ ∗ d.view.loc (c : Thread nD τ) ↦[d.view.set]{fullShare} f)

instance anyP_storable (d : Memref sig .tc .vmem s .f32) (c : Dev nD) : BI.Storable (upEmb : UEmb _ 𝕄) (anyP (F := F) d c) := by
  unfold anyP; infer_instance
instance landP_storable (d : Memref sig .tc .vmem s .f32) (c : Dev nD) (v : s.Idx → Elt F .f32) :
    BI.Storable (upEmb : UEmb _ 𝕄) (landP (F := F) d c v) := by
  unfold landP; infer_instance
end Mem

instance outP_storable (c : Dev nD) (n : ℕ) (q : PosShare TreeShare) (f : FVec F S512x512 .f32) :
    BI.Storable (upEmb : UEmb _ 𝕄) (outP (F := F) c n q f) := by unfold outP; infer_instance
instance xP_storable (c : Dev nD) (n : ℕ) (f : FVec F S512x512 .f32) :
    BI.Storable (upEmb : UEmb _ 𝕄) (xP (F := F) c n f) := by unfold xP; infer_instance
instance outAny_storable (c : Dev nD) (n : ℕ) : BI.Storable (upEmb : UEmb _ 𝕄) (outAny (F := F) c n) := by unfold outAny; infer_instance

/-- The landing buffers of the reduction's nine copies. -/
abbrev b0 : Memref sig .tc .vmem S128x512 .f32 := (Memref.whole cc0_scratch0 : Memref sig .tc .vmem S256x512 .f32).slice (Rect.unit (s := S256x512) ![0, 0] S128x512.size inb_S256x512_S128x512_0_0) (fun _ => rfl)
abbrev b1 : Memref sig .tc .vmem S128x512 .f32 := (Memref.whole cc0_scratch0 : Memref sig .tc .vmem S256x512 .f32).slice (Rect.unit (s := S256x512) ![128, 0] S128x512.size inb_S256x512_S128x512_128_0) (fun _ => rfl)
abbrev b2 : Memref sig .tc .vmem S64x512 .f32 := (Memref.whole cc0_scratch1 : Memref sig .tc .vmem S128x512 .f32).slice (Rect.unit (s := S128x512) ![0, 0] S64x512.size inb_S128x512_S64x512_0_0) (fun _ => rfl)
abbrev b3 : Memref sig .tc .vmem S64x512 .f32 := (Memref.whole cc0_scratch1 : Memref sig .tc .vmem S128x512 .f32).slice (Rect.unit (s := S128x512) ![64, 0] S64x512.size inb_S128x512_S64x512_64_0) (fun _ => rfl)
abbrev b4 : Memref sig .tc .vmem S32x512 .f32 := (Memref.whole cc0_scratch2 : Memref sig .tc .vmem S64x512 .f32).slice (Rect.unit (s := S64x512) ![0, 0] S32x512.size inb_S64x512_S32x512_0_0) (fun _ => rfl)
abbrev b5 : Memref sig .tc .vmem S32x512 .f32 := (Memref.whole cc0_scratch2 : Memref sig .tc .vmem S64x512 .f32).slice (Rect.unit (s := S64x512) ![32, 0] S32x512.size inb_S64x512_S32x512_32_0) (fun _ => rfl)
abbrev b6 : Memref sig .tc .vmem S16x512 .f32 := (Memref.whole cc0_scratch3 : Memref sig .tc .vmem S32x512 .f32).slice (Rect.unit (s := S32x512) ![0, 0] S16x512.size inb_S32x512_S16x512_0_0) (fun _ => rfl)
abbrev b7 : Memref sig .tc .vmem S16x512 .f32 := (Memref.whole cc0_scratch3 : Memref sig .tc .vmem S32x512 .f32).slice (Rect.unit (s := S32x512) ![16, 0] S16x512.size inb_S32x512_S16x512_16_0) (fun _ => rfl)
abbrev b8 : Memref sig .tc .vmem S16x512 .f32 := Memref.whole cc0_scratch4
abbrev b9 : Memref sig .tc .vmem S16x512 .f32 := Memref.whole cc0_scratch5

/-- What a copy of the reduction lands, read at the receiver's rows. -/
abbrev rd128 (off : Fin 2 → ℕ) (inb : ∀ a, off a + S128x512.size a ≤ S512x512.size a) (f : FVec F S512x512 .f32) : FVec F S128x512 .f32 :=
  (oM.slice (Rect.unit (s := S512x512) off S128x512.size inb) (fun _ => rfl)).view.read (Elt F) f
abbrev rd64 (off : Fin 2 → ℕ) (inb : ∀ a, off a + S64x512.size a ≤ S512x512.size a) (f : FVec F S512x512 .f32) : FVec F S64x512 .f32 :=
  (oM.slice (Rect.unit (s := S512x512) off S64x512.size inb) (fun _ => rfl)).view.read (Elt F) f
abbrev rd32 (off : Fin 2 → ℕ) (inb : ∀ a, off a + S32x512.size a ≤ S512x512.size a) (f : FVec F S512x512 .f32) : FVec F S32x512 .f32 :=
  (oM.slice (Rect.unit (s := S512x512) off S32x512.size inb) (fun _ => rfl)).view.read (Elt F) f
abbrev rd16 (off : Fin 2 → ℕ) (inb : ∀ a, off a + S16x512.size a ≤ S512x512.size a) (f : FVec F S512x512 .f32) : FVec F S16x512 .f32 :=
  (oM.slice (Rect.unit (s := S512x512) off S16x512.size inb) (fun _ => rfl)).view.read (Elt F) f

/-! ## Payloads -/

/-- The landing buffer of copy `32 + i` on device `c`, at anything. -/
def bufAny (c : Dev nD) : Fin 9 → sProp 𝕄
  | 0 => anyP b0 c | 1 => anyP b1 c | 2 => anyP b2 c | 3 => anyP b3 c | 4 => anyP b4 c
  | 5 => anyP b5 c | 6 => anyP b6 c | 7 => anyP b7 c | 8 => anyP b8 c

/-- And once it has landed: the partner's partial sums of the rows. -/
def bufLand (I : Inp F) (c : Dev nD) : Fin 9 → sProp 𝕄
  | 0 => landP b0 c (rd128 (k0_off4 c) (k0_off4_inb c) (A I 0 (pk 0 c)))
  | 1 => landP b1 c (rd128 (k0_off7 c) (k0_off7_inb c) (A I 0 (pk 0 c)))
  | 2 => landP b2 c (rd64 (k0_off8 c) (k0_off8_inb c) (A I 1 (pk 1 c)))
  | 3 => landP b3 c (rd64 (k0_off11 c) (k0_off11_inb c) (A I 1 (pk 1 c)))
  | 4 => landP b4 c (rd32 (k0_off12 c) (k0_off12_inb c) (A I 2 (pk 2 c)))
  | 5 => landP b5 c (rd32 (k0_off15 c) (k0_off15_inb c) (A I 2 (pk 2 c)))
  | 6 => landP b6 c (rd16 (k0_off16 c) (k0_off16_inb c) (A I 3 (pk 3 c)))
  | 7 => landP b7 c (rd16 (k0_off18 c) (k0_off18_inb c) (A I 3 (pk 3 c)))
  | 8 => landP b8 c (rd16 (k0_off19 c) (k0_off19_inb c) (A I 4 (pk 4 c)))

/-- The blocks, relative to the sender, of copy `32 + i`. -/
def sent : Fin 9 → ℕ := ![4278190080, 16711680, 61440, 3840, 192, 48, 8, 4, 2]

/-- The block, relative to the sender, that the gather's copy filling block `r` is read from. -/
def low : Fin 32 → Fin 32 :=
  ![0, 0, 0, 1, 0, 1, 2, 3, 0, 1, 2, 3, 4, 5, 6, 7, 0, 1, 2, 3, 4, 5, 6, 7, 8, 9, 10, 11, 12, 13, 14, 15]

/-- The share of a block that the copy of round `k` reads under, and what is left. -/
abbrev shq (k : Fin 5) : PosShare TreeShare := Transfers.shareTok fullShare 5 k
abbrev shr : PosShare TreeShare := Transfers.shareDrop fullShare 5

/-- What the landing of copy `x` hands its receiver `c`. -/
def rPay (I : Inp F) (c : Dev nD) (x : Fin 46) : sProp 𝕄 :=
  if h : x.val < 32 then outP c (2 ^ x.val) fullShare (Out I)
  else if h' : x.val < 41 then
    iprop(bufLand I c ⟨x.val - 32, by omega⟩ ∗ outAny (pk (rnd x) c) (sent ⟨x.val - 32, by omega⟩))
  else iprop(emp)

/-- What the read-out of copy `x` hands its sender `c`. -/
def sPay (I : Inp F) (c : Dev nD) (x : Fin 46) : sProp 𝕄 :=
  if h : x.val < 32 then outP c (2 ^ (low ⟨x.val, h⟩).val) (shq (rnd x)) (Out I)
  else if x.val < 34 then xP c (if x.val = 32 then 4278190080 else 16711680) (I.x c)
  else iprop(emp)

/-- The residual's rows in the scratch, and the residual's array back. -/
def residPay (I : Inp F) (c : Dev nD) : sProp 𝕄 :=
  iprop(landP b9 c (rd16 (k0_off20 c) (k0_off20_inb c) (I.r c))
    ∗ (((c : Thread nD τ).loc main_arg1) ↦{fullShare} I.r c))

/-- The copies of the reduction that go to round `k`'s partner. -/
def stg : Fin 5 → Finset (Fin 9) := ![{0, 1}, {2, 3}, {4, 5}, {6, 7}, {8}]

/-- Round 0 of every own cell of `c` is reached. -/
def reachedAll (c : Dev nD) : sProp 𝕄 := bigSep Finset.univ fun j : Fin 81 => reached ER ((c : Thread nD τ), osem j) 0

/-- What round `k`'s partner hands `c` by its barrier signal: its landing buffers for `c`, and that its cells are open. -/
def barPay (c : Dev nD) (k : Fin 5) : sProp 𝕄 := iprop(bigSep (stg k) (bufAny (pk k c)) ∗ reachedAll (pk k c))

def dmaPay (I : Inp F) (c : Dev nD) : Kind → sProp 𝕄
  | .snd x => sPay I c x
  | .rcv x => rPay I c x
  | .resid => residPay I c

def kAmt : Kind → ℕ
  | .snd x => amt x
  | .rcv x => amt x
  | .resid => 1024

/-- The own semaphore of a number. -/
def jOf (n : Fin 84) : Fin 81 := ⟨(n.val - 3) % 81, Nat.mod_lt _ (by decide)⟩
theorem jOf_osem (j : Fin 81) : jOf (⟨3 + j.val, by omega⟩ : Fin 84) = j := Fin.ext (by
  show (3 + j.val - 3) % 81 = j.val
  omega)

instance bufAny_storable (c : Dev nD) (i : Fin 9) : BI.Storable (upEmb : UEmb _ 𝕄) (bufAny (F := F) c i) := by
  unfold bufAny; split <;> infer_instance
instance bufLand_storable (I : Inp F) (c : Dev nD) (i : Fin 9) : BI.Storable (upEmb : UEmb _ 𝕄) (bufLand I c i) := by
  unfold bufLand; split <;> infer_instance
instance rPay_storable (I : Inp F) (c : Dev nD) (x : Fin 46) : BI.Storable (upEmb : UEmb _ 𝕄) (rPay I c x) := by
  unfold rPay; (repeat' split) <;> infer_instance
instance sPay_storable (I : Inp F) (c : Dev nD) (x : Fin 46) : BI.Storable (upEmb : UEmb _ 𝕄) (sPay I c x) := by
  unfold sPay; (repeat' split) <;> infer_instance
instance residPay_storable (I : Inp F) (c : Dev nD) : BI.Storable (upEmb : UEmb _ 𝕄) (residPay I c) := by
  unfold residPay; infer_instance
instance reachedAll_storable (c : Dev nD) : BI.Storable (upEmb : UEmb _ 𝕄) (reachedAll (F := F) c) := by
  unfold reachedAll; infer_instance
instance reachedAll_persistent (c : Dev nD) : BI.Persistent (reachedAll (F := F) c) := by
  unfold reachedAll; infer_instance
instance barPay_storable (c : Dev nD) (k : Fin 5) : BI.Storable (upEmb : UEmb _ 𝕄) (barPay (F := F) c k) := by
  unfold barPay; infer_instance
instance dmaPay_storable (I : Inp F) (c : Dev nD) (k : Kind) : BI.Storable (upEmb : UEmb _ 𝕄) (dmaPay I c k) := by
  unfold dmaPay; split <;> infer_instance

theorem amt_pos (x : Fin 46) : 0 < amt x := by revert x; decide
theorem kAmt_pos : ∀ k, 0 < kAmt k
  | .snd x => amt_pos x
  | .rcv x => amt_pos x
  | .resid => by decide

/-- The schedule: one round on every cell, of one duty, but five on a barrier cell. -/
def rd (I : Inp F) : Rounds.Schedule (GSem nD τ sig) (Fin 5) 𝕄 where
  duties g r := if r = 0 ∧ g.1.2 = .tc then (match g.2 with | .reg _ => Finset.univ | .dma n => if n.val < 3 then ∅ else {0}) else ∅
  unitless _ := False
  amount g _ _ := match g.2 with | .reg _ => 1 | .dma n => kAmt (kind (jOf n))
  payload g _ d := match g.2 with | .reg _ => barPay g.1.1 d | .dma n => dmaPay I g.1.1 (kind (jOf n))
  amount_pos g _ _ _ := by
    split
    · exact Nat.one_pos
    · exact kAmt_pos _

instance rd_payload_storable (I : Inp F) (g : GSem nD τ sig) (r : ℕ) (d : Fin 5) :
    BI.Storable (upEmb : UEmb _ 𝕄) ((rd I).payload g r d) := by
  show BI.Storable upEmb (match g.2 with | .reg _ => barPay g.1.1 d | .dma n => dmaPay I g.1.1 (kind (jOf n)))
  split <;> infer_instance

/-! ### The schedule, computed -/

section Computed
variable (I : Inp F) (c : Dev nD)

abbrev oCell (c : Dev nD) (j : Fin 81) : GSem nD τ sig := ((c : Thread nD τ), osem j)
abbrev bCell (c : Dev nD) : GSem nD τ sig := ((c : Thread nD τ), .reg barS)

theorem duties_o (j : Fin 81) : (rd I).duties (oCell c j) 0 = {0} := by
  dsimp only [rd]
  rw [if_pos ⟨rfl, rfl⟩]
  exact if_neg (by show ¬(3 + j.val < 3); omega)
theorem duties_b : (rd I).duties (bCell c) 0 = Finset.univ := by
  dsimp only [rd]
  exact if_pos ⟨rfl, rfl⟩
theorem duties_later (g : GSem nD τ sig) : ∀ r, 1 ≤ r → (rd I).duties g r = ∅ :=
  fun r hr => by dsimp only [rd]; exact if_neg fun h => by omega
theorem amount_o (j : Fin 81) (d : Fin 5) : (rd I).amount (oCell c j) 0 d = kAmt (kind j) := by
  show kAmt (kind (jOf _)) = _
  rw [jOf_osem]
theorem amount_b (d : Fin 5) : (rd I).amount (bCell c) 0 d = 1 := rfl
theorem payload_o (j : Fin 81) (d : Fin 5) : (rd I).payload (oCell c j) 0 d = dmaPay I c (kind j) := by
  show dmaPay I c (kind (jOf _)) = _
  rw [jOf_osem]
theorem payload_b (d : Fin 5) : (rd I).payload (bCell c) 0 d = barPay c d := rfl
theorem expect_o (j : Fin 81) : (rd I).expect (oCell c j) 0 = kAmt (kind j) := by
  unfold Schedule.expect Schedule.amountOf; rw [duties_o, Finset.sum_singleton, amount_o]
theorem expect_b : (rd I).expect (bCell c) 0 = 5 := by
  unfold Schedule.expect Schedule.amountOf; rw [duties_b]; exact Finset.sum_const _
theorem rest_o (j : Fin 81) : bigSep ((rd I).duties (oCell c j) 0 \ ∅) (fun d => (rd I).payload (oCell c j) 0 d) = dmaPay I c (kind j) := by
  rw [Finset.sdiff_empty, duties_o, bigSep_singleton, payload_o]
theorem rest_b : bigSep ((rd I).duties (bCell c) 0 \ ∅) (fun d => (rd I).payload (bCell c) 0 d) = bigSep Finset.univ (barPay c) := by
  rw [Finset.sdiff_empty, duties_b]; rfl

end Computed

/-! ## What is owed, and the levels -/

/-- The members of `Fin N` that are bits of `n`. -/
def ms {N : ℕ} (n : ℕ) : Finset (Fin N) := Finset.univ.filter fun i => n.testBit i.val = true
theorem mem_ms {N : ℕ} {n : ℕ} {i : Fin N} : i ∈ (ms n : Finset (Fin N)) ↔ n.testBit i.val = true := by simp [ms]

/-- The cell that copy or signal `x` of device `c` pays, and what it owes it. -/
abbrev tcell (c : Dev nD) (x : Fin 46) : GSem nD τ sig := ((pk (rnd x) c : Thread nD τ), tloc x)
def tally (c : Dev nD) (x : Fin 46) : CellTallies nD τ sig Unit := tallyAt (tcell c x) () (amt x)
def owedOf (c : Dev nD) (n : ℕ) : CellTallies nD τ sig Unit := ∑ x ∈ (ms n : Finset (Fin 46)), tally c x

/-- The place of a gather's copy in the order in which the kernel waits for them. -/
def place : Fin 32 → ℕ :=
  ![0, 1, 2, 6, 3, 8, 7, 16, 4, 11, 10, 19, 9, 18, 17, 26, 5, 15, 14, 25, 13, 24, 23, 30, 12, 22, 21, 29, 20, 28, 27, 31]

/-- The level of what copy or signal `x` owes. -/
def tlv (x : Fin 46) : ℕ := if h : x.val < 32 then 11 + place ⟨x, h⟩ else if x.val < 41 then 2 + (x.val - 32) else 1

def L (g : GSem nD τ sig) : Finset Unit := if g.1.2 = .tc then {()} else ∅
def lv (g : GSem nD τ sig) (_ : Unit) : ℕ := match g.2 with
  | .reg _ => 1
  | .dma n => if n.val < 3 then 0 else (match kind (jOf n) with | .rcv x => tlv x | _ => 0)

theorem L_tc (c : Dev nD) (sm : SemLoc sig) : L ((c : Thread nD τ), sm) = {()} := if_pos rfl
theorem L_of_ne (g : GSem nD τ sig) (h : g.1.2 ≠ .tc) : L g = ∅ := if_neg h
theorem lv_o (c : Dev nD) (j : Fin 81) : lv (oCell c j) () = (match kind j with | .rcv x => tlv x | _ => 0) := by
  have h : ¬ (3 + j.val < 3) := by omega
  simp only [lv, if_neg h, jOf_osem]
theorem lv_t (c : Dev nD) (x : Fin 46) (h : 0 < x.val) : lv (tcell c x) () = tlv x := by
  by_cases h' : x.val < 41
  · have e : tcell c x = oCell (pk (rnd x) c) (rj x) := by unfold tcell; rw [tloc_cp x ⟨h, h'⟩]
    rw [e, lv_o, kind_rj x ⟨h, h'⟩]
  · have e : tcell c x = bCell (pk (rnd x) c) := by unfold tcell; rw [tloc_bar x (by omega)]
    rw [e]
    unfold tlv
    rw [dif_neg (by omega), if_neg h']
    rfl

theorem owedOf_pos {c : Dev nD} {n : ℕ} {g : GSem nD τ sig} {u : Unit} (h : 0 < owedOf c n g u) :
    ∃ x : Fin 46, n.testBit x.val = true ∧ g = tcell c x := by
  unfold owedOf at h
  rw [Finset.sum_apply, Finsupp.finset_sum_apply] at h
  obtain ⟨x, hx, hp⟩ := Finset.exists_ne_zero_of_sum_ne_zero (Nat.pos_iff_ne_zero.mp h)
  refine ⟨x, mem_ms.mp hx, ?_⟩
  unfold tally at hp
  rw [tallyAt_apply] at hp
  by_contra hn
  exact hp (if_neg fun h' => hn h'.1)

/-- A wait on a cell of `c` whose level is below everything owed. -/
theorem mayWait (c : Dev nD) (sm : SemLoc sig) (n b : ℕ) (hb : lv ((c : Thread nD τ), sm) () ≤ b)
    (h0 : n.testBit 0 = false) (h : ∀ x : Fin 46, n.testBit x.val = true → b < tlv x) :
    (levAts L lv : sProp 𝕄) ⊢ MayWait (c : Thread nD τ) sm () (owedOf c n) :=
  MayOwe.of_cut (L := L) (lev := lv) b (fun p hp => by rw [Finset.mem_singleton.mp hp, L_tc]; exact Finset.mem_singleton_self _)
    (fun g u hg => by
      obtain ⟨x, -, rfl⟩ := owedOf_pos hg
      rw [L_tc]; exact Finset.mem_singleton_self _)
    (fun p hp => by rw [Finset.mem_singleton.mp hp]; exact hb)
    (fun g u hg => by
      obtain ⟨x, hx, rfl⟩ := owedOf_pos hg
      rw [lv_t c x (Nat.pos_of_ne_zero fun e => by rw [e, h0] at hx; cases hx)]
      exact h x hx)

end Cert.KernelIdeal.Pf
-- ==== Proof.I.Steps.lean ====
/-
  The protocol's state on one device and its steps. The state (`St`) holds, by bit masks, what is still owed with the duty
  tokens that pay it, the cells not yet waited for, and the credits of the device's own copies in flight; a step at copy
  `x` flips the bits of `x`.
-/
module

public import proofs.«01_k».proof.Proof.I.Sched

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## Masks -/

section Masks
variable {N : ℕ}

theorem ms_flip (n : ℕ) (i : Fin N) (h : n.testBit i.val = true) : (ms (n ^^^ 2 ^ i.val) : Finset (Fin N)) = (ms n).erase i := by
  ext j
  rw [Finset.mem_erase, mem_ms, mem_ms, Nat.testBit_xor, Nat.testBit_two_pow]
  by_cases e : j = i
  · subst e; simp [h]
  · have e' : i.val ≠ j.val := fun h' => e (Fin.ext h'.symm)
    simp [e, e']

theorem flip_flip (n i : ℕ) : (n ^^^ 2 ^ i) ^^^ 2 ^ i = n := by rw [Nat.xor_assoc, Nat.xor_self, Nat.xor_zero]

theorem testBit_flip (n i : ℕ) : (n ^^^ 2 ^ i).testBit i = !n.testBit i := by
  rw [Nat.testBit_xor, Nat.testBit_two_pow]; simp

/-- Taking the member `i` out of a mask. -/
theorem take_bit {Φ : Fin N → sProp 𝕄} (n : ℕ) (i : Fin N) (h : n.testBit i.val = true) :
    bigSep (ms n) Φ = iprop(Φ i ∗ bigSep (ms (n ^^^ 2 ^ i.val)) Φ) := by
  rw [ms_flip n i h]; exact bigSep_erase (mem_ms.mpr h)

/-- Putting it in. -/
theorem put_bit {Φ : Fin N → sProp 𝕄} (n : ℕ) (i : Fin N) (h : n.testBit i.val = false) :
    bigSep (ms (n ^^^ 2 ^ i.val)) Φ = iprop(Φ i ∗ bigSep (ms n) Φ) := by
  rw [take_bit (n ^^^ 2 ^ i.val) i (by rw [testBit_flip, h]; rfl), flip_flip]

/-- Putting in a mask. -/
theorem put_mask {Φ : Fin N → sProp 𝕄} (n m : ℕ) (h : n &&& m = 0) :
    bigSep (ms (n ^^^ m)) Φ = iprop(bigSep (ms m) Φ ∗ bigSep (ms n) Φ) := by
  have hj : ∀ j, ¬(n.testBit j = true ∧ m.testBit j = true) := fun j hh => by
    have : (n &&& m).testBit j = true := by rw [Nat.testBit_and, hh.1, hh.2]; rfl
    rw [h, Nat.zero_testBit] at this; cases this
  have e : (ms (n ^^^ m) : Finset (Fin N)) = ms m ∪ ms n := by
    ext j
    have := hj j.val
    rw [Finset.mem_union, mem_ms, mem_ms, mem_ms, Nat.testBit_xor]
    cases h1 : n.testBit j.val <;> cases h2 : m.testBit j.val <;> simp_all
  rw [e]
  exact bigSep_union (Finset.disjoint_left.mpr fun j h1 h2 => hj j.val ⟨mem_ms.mp h2, mem_ms.mp h1⟩)

theorem compl_flip (n : ℕ) (i : Fin N) (h : n.testBit i.val = true) :
    (Finset.univ \ ms (n ^^^ 2 ^ i.val) : Finset (Fin N)) = insert i (Finset.univ \ ms n) := by
  rw [ms_flip n i h]
  ext j
  simp only [Finset.mem_sdiff, Finset.mem_univ, true_and, Finset.mem_erase, Finset.mem_insert]
  by_cases e : j = i
  · simp [e]
  · simp [e]

theorem owed_flip (c : Dev nD) (n : ℕ) (x : Fin 46) (h : n.testBit x.val = true) :
    owedOf c n = owedOf c (n ^^^ 2 ^ x.val) + tally c x := by
  unfold owedOf
  rw [ms_flip n x h]
  exact (Finset.sum_erase_add _ _ (mem_ms.mpr h)).symm

theorem owed_zero (c : Dev nD) : owedOf c 0 = 0 := by
  have : (ms 0 : Finset (Fin 46)) = ∅ := by ext j; simp [mem_ms]
  unfold owedOf; rw [this]; rfl

end Masks

/-! ## The state -/

/-- One device's cells: their invariants, and that its barrier cell is open. -/
def devCells (I : Inp F) (K : GSem nD τ sig → ℕ) (d : Dev nD) : sProp 𝕄 :=
  iprop((bigSep Finset.univ fun j : Fin 81 => cellInv ER (rd I) (K (oCell d j)) (oCell d j))
    ∗ cellInv ER (rd I) (K (bCell d)) (bCell d) ∗ reached ER (bCell d) 0)

instance devCells_persistent (I : Inp F) (K : GSem nD τ sig → ℕ) (d : Dev nD) : BI.Persistent (devCells I K d) := by
  unfold devCells; infer_instance

/-- The levels of the cells. -/
def levs : sProp 𝕄 := levAts L lv
instance levs_persistent : BI.Persistent (levs : sProp 𝕄) := by unfold levs; infer_instance

/-- What every device knows of the cells: every device's, and the levels. -/
def ctx (I : Inp F) (K : GSem nD τ sig → ℕ) : sProp 𝕄 := iprop(bigSep Finset.univ (devCells I K) ∗ levs (F := F))

instance ctx_persistent (I : Inp F) (K : GSem nD τ sig → ℕ) : BI.Persistent (ctx I K) := by unfold ctx; infer_instance

theorem elim_of {J : Type} [DecidableEq J] {s : Finset J} {j : J} (Φ : J → sProp 𝕄) (h : j ∈ s) : (bigSep s Φ : sProp 𝕄) ⊢ Φ j :=
  bigSep_elim h

variable (I : Inp F) (K : GSem nD τ sig → ℕ)

theorem ctx_o (d : Dev nD) (j : Fin 81) : ctx I K ⊢ cellInv ER (rd I) (K (oCell d j)) (oCell d j) := by
  unfold ctx
  iintro ⟨H, -⟩
  ihave H' := (elim_of (devCells I K) (Finset.mem_univ d)) $$ H
  unfold devCells
  icases H' with ⟨H', -⟩
  iapply (elim_of (fun j : Fin 81 => cellInv ER (rd I) (K (oCell d j)) (oCell d j)) (Finset.mem_univ j))
  iexact H'
theorem ctx_b (d : Dev nD) : ctx I K ⊢ iprop(cellInv ER (rd I) (K (bCell d)) (bCell d) ∗ reached ER (bCell d) 0) := by
  unfold ctx
  iintro ⟨H, -⟩
  ihave H' := (elim_of (devCells I K) (Finset.mem_univ d)) $$ H
  unfold devCells
  icases H' with ⟨-, H'⟩
  iexact H'
theorem ctx_mayWait (c : Dev nD) (sm : SemLoc sig) (n b : ℕ) (hb : lv ((c : Thread nD τ), sm) () ≤ b)
    (h0 : n.testBit 0 = false) (h : ∀ x : Fin 46, n.testBit x.val = true → b < tlv x) :
    ctx I K ⊢ MayWait (c : Thread nD τ) sm () (owedOf c n) := by
  unfold ctx levs
  iintro ⟨-, H⟩
  iapply (mayWait (F := F) c sm n b hb h0 h)
  iexact H
theorem reachedAll_o (d : Dev nD) (j : Fin 81) : (reachedAll d : sProp 𝕄) ⊢ reached ER (oCell d j) 0 := by
  unfold reachedAll
  exact bigSep_elim (Finset.mem_univ j)

/-- The tokens that pay for copy or signal `x`. -/
def dty (x : Fin 46) : Fin 5 := if x.val < 41 then 0 else Fin.ofNat 5 (x.val - 41)
def toks (c : Dev nD) (x : Fin 46) : sProp 𝕄 :=
  iprop(dutyTok ER (tcell c x) 0 (dty x) ∗ (if x.val < 41 then dutyTok ER (oCell c (sj x)) 0 0 else iprop(emp)))

/-- A cell not yet waited for, with the credit of what another device pays it. -/
def inCred (c : Dev nD) (j : Fin 81) : Kind → sProp 𝕄
  | .rcv x => cred (tallyAt (oCell c j) () (amt x))
  | _ => iprop(emp)
def fresh (c : Dev nD) (j : Fin 81) : sProp 𝕄 := iprop(atPos ER (oCell c j) 0 ∅ 0 ∗ inCred c j (kind j))
def spent (c : Dev nD) (j : Fin 81) : sProp 𝕄 := atPos ER (oCell c j) 1 ∅ 0

def debt (c : Dev nD) (n : ℕ) : sProp 𝕄 := iprop((∃ W, owes (c : Thread nD τ) (owedOf c n) W) ∗ bigSep (ms n) (toks c))
def waits (c : Dev nD) (w : ℕ) : sProp 𝕄 := iprop(bigSep (ms w) (fresh c) ∗ bigSep (Finset.univ \ ms w) (spent c))
def flying (c : Dev nD) (T : ℕ) : sProp 𝕄 := bigSep (ms T) fun x : Fin 46 => cred (tallyAt (oCell c (sj x)) () (amt x))

def St (c : Dev nD) (n w T : ℕ) : sProp 𝕄 := iprop(debt c n ∗ waits c w ∗ flying c T)

/-! ## The steps -/

section Steps

variable (c : Dev nD)
variable {α : Type} {Q : α → sProp (MT nD τ sig Unit (Elt F) ℕ UU ℕ)} {k : PUnit → Prog (TpuEff nD τ sig (Elt F) Λ₀ .tc) α}

/-- The kernel's weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem WP_ret {α : Type} (v : α) (Q : α → sProp 𝕄) : Q v ⊢ WP c (.ret v) Q := by
  unfold WP
  rw [wp_ret]
  iintro H
  imodintro
  iexact H
theorem WP_bind {α β : Type} (p : Prog (TpuEff nD τ sig (Elt F) Λ₀ .tc) α) (f : α → Prog (TpuEff nD τ sig (Elt F) Λ₀ .tc) β)
    (Q : β → sProp 𝕄) : WP c p (fun v => WP c (f v) Q) ⊢ WP c (p >>= f) Q := by
  unfold WP
  rw [wp_bind]

theorem toks_cp (x : Fin 46) (hx : IsCp x) :
    (toks c x : sProp 𝕄) = iprop(dutyTok ER (oCell (pk (rnd x) c) (rj x)) 0 0 ∗ dutyTok ER (oCell c (sj x)) 0 0) := by
  unfold toks tcell dty
  rw [tloc_cp x hx, if_pos hx.2, if_pos hx.2]

theorem tally_cp (x : Fin 46) (hx : IsCp x) : tally c x = tallyAt (oCell (pk (rnd x) c) (rj x)) () (amt x) := by
  unfold tally tcell
  rw [tloc_cp x hx]

section Send
variable (x : Fin 46) (hx : IsCp x) {n : Dev nD} (hn : n = pk (rnd x) c) {s : Shape}
  {src dst : Memref sig .tc .vmem s .f32} {sS sR : DmaSem sig} (hsS : SemLoc.dma sS = osem (sj x)) (hsR : SemLoc.dma sR = osem (rj x))
  (hN : dst.view.dmaCredit = amt x)
  {hsc : (dst : Memref sig (Dev.tc n : Thread nD τ).2.kind .vmem s .f32).view.ref.isScScratch = false}
  {hsrc : src.view.WordExact} {hdst : dst.view.WordExact}
  {hsem : DmaTarget.Typed .vmem (.dma sR) (.remote (Dev.tc n : Thread nD τ) (dst : Memref sig .tc .vmem s .f32) (.dma sS) hsc)}
  (fs : Buf (Elt F) (src.view.loc (c : Thread nD τ))) (fd : Buf (Elt F) (dst.view.loc (pk (rnd x) c : Thread nD τ)))
  (q : PosShare TreeShare) (Fr : sProp (MT nD τ sig Unit (Elt F) ℕ UU ℕ)) (nO w T : ℕ) (hb : nO.testBit x.val = true) (hT : T.testBit x.val = false)

include hx hn hsS hsR hN hb hT

/-- A copy: its source comes back to the sender, or (`land`) goes to the receiver. -/
theorem send_step (land : Bool)
    (hpay₁ : (bif land then iprop(emp) else (src.view.loc (c : Thread nD τ) ↦[src.view.set]{q} fs : sProp 𝕄)) ⊢ sPay I c x)
    (hpay₂ : (bif land then iprop(((dst.view.loc (pk (rnd x) c : Thread nD τ) ↦[dst.view.set]{fullShare}
          (dst.view.write (Elt F) fd (src.view.read (Elt F) fs) Finset.univ)) ∗ Fr) ∗ (src.view.loc (c : Thread nD τ) ↦[src.view.set]{q} fs))
        else iprop((dst.view.loc (pk (rnd x) c : Thread nD τ) ↦[dst.view.set]{fullShare}
          (dst.view.write (Elt F) fd (src.view.read (Elt F) fs) Finset.univ)) ∗ Fr)) ⊢ rPay I (pk (rnd x) c) x) :
    iprop(ctx I K ∗ reachedAll c ∗ reachedAll (pk (rnd x) c) ∗ St c nO w T
        ∗ (src.view.loc (c : Thread nD τ) ↦[src.view.set]{q} fs)
        ∗ (dst.view.loc (pk (rnd x) c : Thread nD τ) ↦[dst.view.set]{fullShare} fd) ∗ Fr)
      ⊢ iprop((St c (nO ^^^ 2 ^ x.val) w (T ^^^ 2 ^ x.val) -∗ WP c (k ⟨⟩) Q)
        -∗ WP c (.op (.enqueueDma src (.remote (Dev.tc n : Thread nD τ) dst (.dma sS) hsc) (.dma sR) hsrc hdst hsem) k) Q) := by
  subst hn
  iintro ⟨#Hctx, #Hrc, #Hrp, HS, Hsrc, Hdst, HF⟩ Hk
  unfold St debt flying
  rw [take_bit nO x hb, toks_cp c x hx, owed_flip c nO x hb, tally_cp c x hx, put_bit T x hT]
  icases HS with ⟨⟨⟨%W, HO⟩, ⟨Ht₂, Ht₁⟩, Hts⟩, Hw, Hfl⟩
  ihave #HI₁ := (ctx_o I K c (sj x)) $$ Hctx
  ihave #HI₂ := (ctx_o I K (pk (rnd x) c) (rj x)) $$ Hctx
  ihave #Hr₁ := (reachedAll_o (F := F) c (sj x)) $$ Hrc
  ihave #Hr₂ := (reachedAll_o (F := F) (pk (rnd x) c) (rj x)) $$ Hrp
  have e₁ : ∀ d, (rd I).amount (oCell c (sj x)) 0 d = amt x := fun d => by rw [amount_o, kind_sj x hx]; rfl
  have e₂ : ∀ d, (rd I).amount (oCell (pk (rnd x) c) (rj x)) 0 d = amt x := fun d => by rw [amount_o, kind_rj x hx]; rfl
  have p₁ : (rd I).payload (oCell c (sj x)) 0 0 = sPay I c x := by rw [payload_o, kind_sj x hx]; rfl
  have p₂ : (rd I).payload (oCell (pk (rnd x) c) (rj x)) 0 0 = rPay I (pk (rnd x) c) x := by rw [payload_o, kind_rj x hx]; rfl
  have d₁ : (0 : Fin 5) ∈ (rd I).duties (oCell c (sj x)) 0 := by rw [duties_o]; exact Finset.mem_singleton_self _
  have d₂ : (0 : Fin 5) ∈ (rd I).duties (oCell (pk (rnd x) c) (rj x)) 0 := by rw [duties_o]; exact Finset.mem_singleton_self _
  unfold oCell at d₁ d₂ e₁ e₂ p₁ p₂ ⊢
  rw [← hsS] at d₁ e₁ p₁ ⊢
  rw [← hsR] at d₂ e₂ p₂ ⊢
  iapply (Rounds.wp_send_bif 𝒱₀ ER (rd I) (c : Thread nD τ) none (κ₁ := K ((c : Thread nD τ), SemLoc.dma sS)) (κ₂ := K ((pk (rnd x) c : Thread nD τ), SemLoc.dma sR))
    land (r₁ := 0) (r₂ := 0) (d₁ := 0) (d₂ := 0) (fs := fs) (q := q) d₁ d₂ () () (amt x) hN (e₁ 0) (e₂ 0)
    (owedOf c (nO ^^^ 2 ^ x.val)) rfl (W := W) (by rw [p₁]; exact hpay₁) (by rw [p₂]; exact hpay₂)) $$ [HO Ht₁ Ht₂ Hsrc Hdst HF]
  · isplitr; · iexact HI₁
    isplitr; · iexact HI₂
    isplitl [Hsrc]; · iexact Hsrc
    isplitl [Hdst HF]
    · iapply (writeUpdate_frame (pk (rnd x) c : Thread nD τ))
      isplitl [Hdst]
      · iapply (pointsTo_writeUpdate (pk (rnd x) c : Thread nD τ) (v := dst.view) subset_rfl); iexact Hdst
      iexact HF
    isplitl [HO]; · iexact HO
    isplitl [Ht₁]; · iexact Ht₁
    isplitr; · iexact Hr₁
    isplitl [Ht₂]; · iexact Ht₂
    iexact Hr₂
  iintro ⟨Hc, HO⟩
  iapply Hk
  isplitl [HO Hts]
  · isplitl [HO]; · iexists W; iexact HO
    iexact Hts
  isplitl [Hw]; · iexact Hw
  isplitl [Hc]; · iexact Hc
  iexact Hfl

end Send

/-- Taking an own cell out of the cells not yet waited for, and putting it among those waited for. -/
theorem waits_take (w : ℕ) (j : Fin 81) (h : w.testBit j.val = true) :
    (waits c w : sProp 𝕄) ⊢ iprop(fresh c j ∗ (spent c j -∗ waits c (w ^^^ 2 ^ j.val))) := by
  unfold waits
  have hn : j ∉ (Finset.univ \ ms w : Finset (Fin 81)) := by simp [mem_ms, h]
  have hi : (bigSep (insert j (Finset.univ \ ms w)) (spent c) : sProp 𝕄) = iprop(spent c j ∗ bigSep (Finset.univ \ ms w) (spent c)) :=
    bigSep_insert hn
  rw [take_bit w j h, compl_flip w j h, hi]
  iintro ⟨⟨Hj, Hw⟩, Hs⟩
  isplitl [Hj]; · iexact Hj
  iintro Hn
  isplitl [Hw]; · iexact Hw
  isplitl [Hn] <;> iassumption

section Wait
variable {sp sp' : Space} {s s' : Shape} {e e' : EltTy} {src : Memref sig .tc sp' s' e'} {dst : Memref sig .tc sp s e} {sm : DmaSem sig}
  {hsrc : src.view.WordExact} {hdst : dst.view.WordExact} (nO w T : ℕ)

/-- A wait on the own cell `j`, with its credit in hand. -/
theorem wait_step (j : Fin 81) (hsm : SemLoc.dma sm = osem j) (hN : dst.view.dmaCredit = kAmt (kind j)) (hw : w.testBit j.val = true)
    (b : ℕ) (hb : lv (oCell c j) () ≤ b) (h0 : nO.testBit 0 = false) (hl : ∀ x : Fin 46, nO.testBit x.val = true → b < tlv x) :
    iprop(ctx I K ∗ debt c nO ∗ (∃ P, fresh c j ∗ P ∗ ⌜iprop(inCred c j (kind j) ∗ P) ⊢ cred (tallyAt (oCell c j) () (kAmt (kind j)))⌝))
      ⊢ iprop((debt c nO ∗ spent c j ∗ dmaPay I c (kind j) -∗ WP c (k ⟨⟩) Q)
        -∗ WP c (.op (.waitDma2 sm src dst hsrc hdst) k) Q) := by
  iintro ⟨#Hctx, Hd, ⟨%P, Hf, HP, %hP⟩⟩ Hk
  unfold debt fresh
  icases Hd with ⟨⟨%W, HO⟩, Hts⟩
  icases Hf with ⟨Hat, Hc⟩
  ihave #HI := (ctx_o I K c j) $$ Hctx
  ihave Hcr := hP $$ [Hc HP]
  · isplitl [Hc] <;> iassumption
  have he := expect_o I c j
  rw [show K (oCell c j) = K ((c : Thread nD τ), osem j) from rfl]
  have hre := rest_o I c j
  have hmw := ctx_mayWait I K c (osem j) nO b hb h0 hl
  unfold oCell at he hre ⊢
  rw [← hsm] at he hre hmw ⊢
  rw [← hN] at he ⊢
  iapply (Rounds.wp_wait_rest_token 𝒱₀ ER (rd I) (c : Thread nD τ) none (κ := K ((c : Thread nD τ), SemLoc.dma sm)) (wpE_waitDma2_eq 𝒱₀ (c : Thread nD τ) none Set.univ)
    (Set.mem_univ _) () (O := owedOf c nO) (W := W) (R := 0) (m := 0) (T := ∅) (by rw [zero_add]; exact he.symm)) $$ [HO Hat Hcr]
  · isplitr; · iexact HI
    isplitl [Hcr]; · iexact Hcr
    isplitl [HO]; · iexact HO
    isplitr; · iapply hmw; iexact Hctx
    iexact Hat
  iintro ⟨HO, Hat, -, Hpay⟩
  iapply Hk
  isplitl [HO Hts]
  · isplitl [HO]; · iexists (insert (SemLoc.dma sm, ()) W); iexact HO
    iexact Hts
  isplitl [Hat]
  · unfold spent oCell
    rw [← hsm]; iexact Hat
  rw [← hre]
  iexact Hpay

/-- A wait for what another device copies. -/
theorem recv_step (x : Fin 46) (hx : IsCp x) (hsm : SemLoc.dma sm = osem (rj x)) (hN : dst.view.dmaCredit = amt x)
    (hw : w.testBit (rj x).val = true) (h0 : nO.testBit 0 = false) (hl : ∀ y : Fin 46, nO.testBit y.val = true → tlv x < tlv y) :
    iprop(ctx I K ∗ St c nO w T)
      ⊢ iprop((St c nO (w ^^^ 2 ^ (rj x).val) T ∗ rPay I c x -∗ WP c (k ⟨⟩) Q)
        -∗ WP c (.op (.waitDma2 sm src dst hsrc hdst) k) Q) := by
  have hk := kind_rj x hx
  iintro ⟨#Hctx, HS⟩ Hk
  unfold St
  icases HS with ⟨Hd, Hw, Hfl⟩
  ihave Hw' := (waits_take (F := F) c w (rj x) hw) $$ Hw
  icases Hw' with ⟨Hf, Hw⟩
  iapply (wait_step I K c nO (rj x) hsm (by rw [hk]; exact hN) (w := w) hw (tlv x) (by rw [lv_o, hk]) h0 hl) $$ [Hd Hf]
  · isplitr; · iexact Hctx
    isplitl [Hd]; · iexact Hd
    iexists iprop(emp)
    isplitl [Hf]; · iexact Hf
    isplitr; · iempintro
    ipureintro
    rw [hk, show (inCred c (rj x) (.rcv x) : sProp 𝕄) = cred (tallyAt (oCell c (rj x)) () (amt x)) from rfl, show kAmt (.rcv x) = amt x from rfl]
    iintro ⟨H, -⟩
    iexact H
  rw [hk, show dmaPay I c (.rcv x) = rPay I c x from rfl]
  iintro ⟨Hd, Hsp, Hp⟩
  iapply Hk
  isplitl [Hd Hsp Hw Hfl]
  · isplitl [Hd]; · iexact Hd
    isplitl [Hsp Hw]; · iapply Hw; iexact Hsp
    iexact Hfl
  iexact Hp

/-- A wait for the read-out of an own copy. -/
theorem sent_step (x : Fin 46) (hx : IsCp x) (hsm : SemLoc.dma sm = osem (sj x)) (hN : dst.view.dmaCredit = amt x)
    (hw : w.testBit (sj x).val = true) (hT : T.testBit x.val = true) (h0 : nO.testBit 0 = false) :
    iprop(ctx I K ∗ St c nO w T)
      ⊢ iprop((St c nO (w ^^^ 2 ^ (sj x).val) (T ^^^ 2 ^ x.val) ∗ sPay I c x -∗ WP c (k ⟨⟩) Q)
        -∗ WP c (.op (.waitDma2 sm src dst hsrc hdst) k) Q) := by
  have hk := kind_sj x hx
  have hp : ∀ y : Fin 46, 0 < tlv y := by decide +kernel
  iintro ⟨#Hctx, HS⟩ Hk
  unfold St flying
  rw [take_bit T x hT]
  icases HS with ⟨Hd, Hw, Hc, Hfl⟩
  ihave Hw' := (waits_take (F := F) c w (sj x) hw) $$ Hw
  icases Hw' with ⟨Hf, Hw⟩
  iapply (wait_step I K c nO (sj x) hsm (by rw [hk]; exact hN) (w := w) hw 0 (by rw [lv_o, hk]) h0 (fun y _ => hp y)) $$ [Hd Hf Hc]
  · isplitr; · iexact Hctx
    isplitl [Hd]; · iexact Hd
    iexists (cred (tallyAt (oCell c (sj x)) () (amt x)) : sProp 𝕄)
    isplitl [Hf]; · iexact Hf
    isplitl [Hc]; · iexact Hc
    ipureintro
    rw [hk]
    iintro ⟨-, H⟩
    iexact H
  rw [hk, show dmaPay I c (.snd x) = sPay I c x from rfl]
  iintro ⟨Hd, Hsp, Hp⟩
  iapply Hk
  isplitl [Hd Hsp Hw Hfl]
  · isplitl [Hd]; · iexact Hd
    isplitl [Hsp Hw]; · iapply Hw; iexact Hsp
    iexact Hfl
  iexact Hp

/-- The wait for the residual's rows. -/
theorem resid_step (hsm : SemLoc.dma sm = osem 80) (hN : dst.view.dmaCredit = 1024)
    (hw : w.testBit 80 = true) (h0 : nO.testBit 0 = false) :
    iprop(ctx I K ∗ St c nO w T ∗ cred (tallyAt (oCell c 80) () 1024))
      ⊢ iprop((St c nO (w ^^^ 2 ^ 80) T ∗ residPay I c -∗ WP c (k ⟨⟩) Q)
        -∗ WP c (.op (.waitDma2 sm src dst hsrc hdst) k) Q) := by
  have hk := kind_resid
  have hp : ∀ y : Fin 46, 0 < tlv y := by decide +kernel
  iintro ⟨#Hctx, HS, Hc⟩ Hk
  unfold St
  icases HS with ⟨Hd, Hw, Hfl⟩
  ihave Hw' := (waits_take (F := F) c w 80 hw) $$ Hw
  icases Hw' with ⟨Hf, Hw⟩
  iapply (wait_step I K c nO 80 hsm (by rw [hk]; exact hN) (w := w) hw 0 (by rw [lv_o, hk]) h0 (fun y _ => hp y)) $$ [Hd Hf Hc]
  · isplitr; · iexact Hctx
    isplitl [Hd]; · iexact Hd
    iexists (cred (tallyAt (oCell c 80) () 1024) : sProp 𝕄)
    isplitl [Hf]; · iexact Hf
    isplitl [Hc]; · iexact Hc
    ipureintro
    rw [hk]
    iintro ⟨-, H⟩
    iexact H
  rw [hk, show dmaPay I c .resid = residPay I c from rfl]
  iintro ⟨Hd, Hsp, Hp⟩
  iapply Hk
  isplitl [Hd Hsp Hw Hfl]
  · isplitl [Hd]; · iexact Hd
    isplitl [Hsp Hw]; · iapply Hw; iexact Hsp
    iexact Hfl
  iexact Hp

end Wait

theorem sigN : ∀ r : Fin 5, rnd ⟨41 + r.val, by omega⟩ = r ∧ dty ⟨41 + r.val, by omega⟩ = r ∧ amt ⟨41 + r.val, by omega⟩ = 1 := by decide

/-- A barrier signal to round `r`'s partner: it hands over the landing buffers for that partner's copies. -/
theorem signal_step (r : Fin 5) {n : Dev nD} (hn : n = pk r c) (nO w T : ℕ) {sm : Sem sig} (hsm : sm = barS)
    (hb : nO.testBit (41 + r.val) = true) :
    iprop(ctx I K ∗ St c nO w T ∗ reachedAll c ∗ bigSep (stg r) (bufAny c))
      ⊢ iprop((St c (nO ^^^ 2 ^ (41 + r.val)) w T -∗ WP c (k ⟨⟩) Q)
        -∗ WP c (.op (.semSignal (Dev.tc n : Thread nD τ) sm 1) k) Q) := by
  subst hn hsm
  have hx : rnd ⟨41 + r.val, by omega⟩ = r := (sigN r).1
  have hd : dty ⟨41 + r.val, by omega⟩ = r := (sigN r).2.1
  have ha : amt ⟨41 + r.val, by omega⟩ = 1 := (sigN r).2.2
  iintro ⟨#Hctx, HS, #Hra, Hb⟩ Hk
  have hto : (toks c ⟨41 + r.val, by omega⟩ : sProp 𝕄) = iprop(dutyTok ER (bCell (pk r c)) 0 r ∗ emp) := by
    unfold toks tcell
    rw [hx, hd, tloc_bar _ (by show 41 ≤ 41 + r.val; omega), if_neg (by show ¬ 41 + r.val < 41; omega)]
  have hta : tally c ⟨41 + r.val, by omega⟩ = tallyAt (bCell (pk r c)) () 1 := by
    unfold tally tcell
    rw [hx, ha, tloc_bar _ (by show 41 ≤ 41 + r.val; omega)]
  unfold St debt
  rw [take_bit nO ⟨41 + r.val, by omega⟩ hb, owed_flip c nO ⟨41 + r.val, by omega⟩ hb, hto, hta]
  icases HS with ⟨⟨⟨%W, HO⟩, ⟨Ht, -⟩, Hts⟩, Hw, Hfl⟩
  ihave #HB := (ctx_b I K (pk r c)) $$ Hctx
  icases HB with ⟨#HI, #Hr⟩
  iapply (Rounds.wp_signal 𝒱₀ ER (rd I) (c : Thread nD τ) none (dst := (pk r c : Thread nD τ)) (κ := K (bCell (pk r c)))
    (d := r) (r := 0) (k' := 1) (by rw [duties_b]; exact Finset.mem_univ _) (amount_b I _ r) () (owedOf c (nO ^^^ 2 ^ (41 + r.val))) rfl (W := W)) $$ [HO Ht Hb]
  · isplitr; · iexact HI
    isplitl [HO]; · iexact HO
    isplitl [Ht]; · iexact Ht
    isplitl [Hb]
    · rw [payload_b]
      unfold barPay
      rw [pk_pk]
      isplitl [Hb]; · iexact Hb
      iexact Hra
    iexact Hr
  iintro HO
  iapply Hk
  isplitl [HO Hts]
  · isplitl [HO]; · iexists W; iexact HO
    iexact Hts
  isplitl [Hw] <;> iassumption

/-- The wait for the five partners' signals. -/
theorem bar_step (nO w T : ℕ) {sm : Sem sig} (hsm : sm = barS) (h0 : nO.testBit 0 = false)
    (hl : ∀ y : Fin 46, nO.testBit y.val = true → 1 < tlv y) :
    iprop(ctx I K ∗ St c nO w T ∗ atPos ER (bCell c) 0 ∅ 0 ∗ cred (tallyAt (bCell c) () 5))
      ⊢ iprop((St c nO w T ∗ atPos ER (bCell c) 1 ∅ 0 ∗ bigSep Finset.univ (barPay c) -∗ WP c (k ⟨⟩) Q)
        -∗ WP c (.op (.semWait sm 5) k) Q) := by
  subst hsm
  iintro ⟨#Hctx, HS, Hat, Hc⟩ Hk
  unfold St debt
  icases HS with ⟨⟨⟨%W, HO⟩, Hts⟩, Hw, Hfl⟩
  ihave #HB := (ctx_b I K c) $$ Hctx
  icases HB with ⟨#HI, -⟩
  iapply (Rounds.wp_wait_rest_token 𝒱₀ ER (rd I) (c : Thread nD τ) none (κ := K (bCell c)) (wpE_semWait_eq 𝒱₀ (c : Thread nD τ) none Set.univ)
    (Set.mem_univ _) () (O := owedOf c nO) (W := W) (R := 0) (m := 0) (T := ∅) (by rw [expect_b])) $$ [HO Hat Hc]
  · isplitr; · iexact HI
    isplitl [Hc]; · iexact Hc
    isplitl [HO]; · iexact HO
    isplitr
    · iapply (ctx_mayWait I K c (.reg barS) nO 1 le_rfl h0 hl); iexact Hctx
    iexact Hat
  iintro ⟨HO, Hat, -, Hpay⟩
  iapply Hk
  isplitl [HO Hts Hw Hfl]
  · isplitl [HO Hts]
    · isplitl [HO]; · iexists (insert (SemLoc.reg barS, ()) W); iexact HO
      iexact Hts
    isplitl [Hw] <;> iassumption
  isplitl [Hat]; · iexact Hat
  rw [← rest_b I c]
  iexact Hpay

end Steps

end Cert.KernelIdeal.Pf
-- ==== Proof.I.Gather.lean ====
/-
  The gather's layer: a device's state in the gather (`Ag`) is the masks of what it still owes, what it has not yet waited
  for, its copies in flight, and the shares of result blocks it holds; the three steps (`Op`) flip bits. `Runs` says that a
  program performs a list of steps.
-/
module

public import proofs.«01_k».proof.Proof.I.Steps

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Blocks and their shares -/

/-- The copy that fills block `r`. -/
def cp (r : Fin 32) : Fin 46 := ⟨r.val, by omega⟩
/-- The partner's block that the copy fills, at anything. -/
def dstP (c : Dev nD) (r : Fin 32) : sProp 𝕄 := outAny (pk (rnd (cp r)) c) (2 ^ r.val)
/-- The share of the block that the copy filling block `r` of a partner reads. -/
def share (I : Inp F) (c : Dev nD) (r : Fin 32) : sProp 𝕄 := outP c (2 ^ (low r).val) (shq (rnd (cp r))) (Out I)
/-- What of an own block no copy reads. -/
def keep (I : Inp F) (c : Dev nD) (r : Fin 32) : sProp 𝕄 :=
  iprop(outP c (2 ^ r.val) shr (Out I) ∗ bigSep (Finset.univ.filter fun k : Fin 5 => ¬ r < top k) fun k => outP c (2 ^ r.val) (shq k) (Out I))
/-- The copies that read block `r`. -/
def chm (r : Fin 32) : ℕ :=
  (if r.val < 16 then 2 ^ (r.val + 16) else 0) ||| (if r.val < 8 then 2 ^ (r.val + 8) else 0)
    ||| (if r.val < 4 then 2 ^ (r.val + 4) else 0) ||| (if r.val < 2 then 2 ^ (r.val + 2) else 0) ||| (if r.val < 1 then 2 ^ (r.val + 1) else 0)

theorem chm_bit : ∀ r i : Fin 32, (chm r).testBit i.val = true ↔ ∃ k : Fin 5, r < top k ∧ r + top k = i := by decide +kernel
theorem top_inj : ∀ (r : Fin 32) (k l : Fin 5), r + top k = r + top l → k = l := by decide +kernel
theorem chm_low : ∀ (r : Fin 32) (k : Fin 5), r < top k → low (r + top k) = r ∧ rnd (cp (r + top k)) = k := by decide +kernel

/-- Two disjoint sets of blocks together. -/
theorem outP_union (c : Dev nD) (a b : ℕ) (q : PosShare TreeShare) (f : FVec F S512x512 .f32) (h : a &&& b = 0) :
    (outP c (a ||| b) q f : sProp 𝕄) ⊣⊢ iprop(outP c a q f ∗ outP c b q f) := by
  unfold outP
  rw [blk_union]
  exact pointsTo_union (blk_disj c h)
theorem outP_join (c : Dev nD) (a b : ℕ) (q : PosShare TreeShare) (f : FVec F S512x512 .f32) (h : a &&& b = 0) (ho : a ^^^ b = a ||| b) :
    iprop(outP c a q f ∗ outP c b q f) ⊢ (outP c (a ^^^ b) q f : sProp 𝕄) := by
  rw [ho]
  exact (outP_union c a b q f h).2

/-- A block whole is what no copy reads and the shares of the copies that read it. -/
theorem outP_shares (I : Inp F) (c : Dev nD) (r : Fin 32) :
    (outP c (2 ^ r.val) fullShare (Out I) : sProp 𝕄) ⊣⊢ iprop(keep I c r ∗ bigSep (ms (chm r)) (share I c)) := by
  have hm : (ms (chm r) : Finset (Fin 32)) = (Finset.univ.filter fun k : Fin 5 => r < top k).map ⟨fun k => r + top k, fun k l h => top_inj r k l h⟩ := by
    ext i
    rw [mem_ms, chm_bit, Finset.mem_map]
    simp only [Finset.mem_filter, Finset.mem_univ, true_and]
    exact Iff.rfl
  have hs : (bigSep (ms (chm r)) (share I c) : sProp 𝕄)
      = bigSep (Finset.univ.filter fun k : Fin 5 => r < top k) fun k => outP c (2 ^ r.val) (shq k) (Out I) := by
    rw [hm, bigSep_map]
    refine bigSep_congr fun k hk => ?_
    obtain ⟨h₁, h₂⟩ := chm_low r k (Finset.mem_filter.mp hk).2
    show share I c (r + top k) = _
    unfold share
    rw [h₁, h₂]
  have ht : (outP c (2 ^ r.val) fullShare (Out I) : sProp 𝕄)
      ⊣⊢ iprop(outP c (2 ^ r.val) shr (Out I) ∗ bigSep Finset.univ fun k : Fin 5 => outP c (2 ^ r.val) (shq k) (Out I)) :=
    Transfers.pointsTo_toks fullShare 5
  rw [hs]
  have hf : (bigSep Finset.univ fun k : Fin 5 => (outP c (2 ^ r.val) (shq k) (Out I) : sProp 𝕄))
      = iprop((bigSep (Finset.univ.filter fun k : Fin 5 => r < top k) fun k => outP c (2 ^ r.val) (shq k) (Out I))
        ∗ bigSep (Finset.univ.filter fun k : Fin 5 => ¬ r < top k) fun k => outP c (2 ^ r.val) (shq k) (Out I)) :=
    bigSep_filter_split Finset.univ (fun k : Fin 5 => r < top k)
  rw [hf] at ht
  refine ht.trans ?_
  unfold keep
  constructor
  · iintro ⟨H₁, H₂, H₃⟩
    isplitl [H₁ H₃]
    · isplitl [H₁] <;> iassumption
    iexact H₂
  · iintro ⟨⟨H₁, H₃⟩, H₂⟩
    isplitl [H₁]; · iexact H₁
    isplitl [H₂] <;> iassumption

/-- Two disjoint masks together. -/
theorem ms_xor {N : ℕ} {Φ : Fin N → sProp 𝕄} (a b : ℕ) (h : a &&& b = 0) :
    (bigSep (ms (a ^^^ b)) Φ : sProp 𝕄) = iprop(bigSep (ms a) Φ ∗ bigSep (ms b) Φ) := by
  have hb : ∀ i : ℕ, ¬ (a.testBit i = true ∧ b.testBit i = true) := fun i ⟨h₁, h₂⟩ => by
    have := Nat.testBit_and a b i
    rw [h, h₁, h₂, Nat.zero_testBit] at this
    simp at this
  have e : (ms (a ^^^ b) : Finset (Fin N)) = ms a ∪ ms b := by
    ext i
    rw [Finset.mem_union, mem_ms, mem_ms, mem_ms, Nat.testBit_xor]
    have := hb i.val
    cases ha : a.testBit i.val <;> cases hb' : b.testBit i.val <;> simp_all
  rw [e]
  exact bigSep_union (Finset.disjoint_left.mpr fun i h₁ h₂ => hb i.val ⟨mem_ms.mp h₁, mem_ms.mp h₂⟩)

/-- The shares of the blocks below `n`. -/
def upto : ℕ → ℕ
  | 0 => 0
  | n + 1 => if h : n < 32 then upto n ^^^ chm ⟨n, h⟩ else upto n

theorem upto_disj : ∀ n : Fin 32, upto n.val &&& chm n = 0 := by decide +kernel
theorem below_bit : ∀ n : Fin 32, ((2 ^ n.val - 1).testBit n.val = false) ∧ 2 ^ (n.val + 1) - 1 = (2 ^ n.val - 1) ^^^ 2 ^ n.val := by decide +kernel

/-- All shares of the blocks below `n` make those blocks whole. -/
theorem blocks_whole (I : Inp F) (c : Dev nD) : ∀ n : ℕ, n ≤ 32 →
    iprop(bigSep (ms (upto n)) (share I c) ∗ bigSep (ms (2 ^ n - 1) : Finset (Fin 32)) (keep I c)) ⊢ outP c (2 ^ n - 1) fullShare (Out I) := by
  intro n
  induction n with
  | zero =>
    intro _
    iintro -
    have e : blk c (2 ^ 0 - 1) = ∅ := by
      ext i; rw [mem_blk]; simp
    unfold outP
    rw [e, pointsTo_empty]
    iempintro
  | succ n ih =>
    intro hn
    have hn' : n < 32 := by omega
    have h1 := below_bit ⟨n, hn'⟩
    have hu : upto (n + 1) = upto n ^^^ chm ⟨n, hn'⟩ := dif_pos hn'
    have hd : (2 ^ n - 1) &&& 2 ^ n = 0 := Nat.eq_of_testBit_eq fun i => by
      rw [Nat.testBit_and, Nat.zero_testBit, Nat.testBit_two_pow]
      by_cases hi : n = i
      · subst hi; rw [h1.1]; rfl
      · simp [hi]
    have ho : (2 ^ n - 1) ^^^ 2 ^ n = (2 ^ n - 1) ||| 2 ^ n := Nat.eq_of_testBit_eq fun i => by
      rw [Nat.testBit_xor, Nat.testBit_or, Nat.testBit_two_pow]
      by_cases hi : n = i
      · subst hi; rw [h1.1]; simp
      · simp [hi]
    rw [hu, ms_xor _ _ (upto_disj ⟨n, hn'⟩), h1.2, put_bit (N := 32) _ ⟨n, hn'⟩ h1.1]
    iintro ⟨⟨Hs, Hc⟩, Hk, Hks⟩
    ihave H := (ih (by omega)) $$ [Hs Hks]
    · isplitl [Hs] <;> iassumption
    ihave Hb := (outP_shares I c ⟨n, hn'⟩).2 $$ [Hk Hc]
    · isplitl [Hk] <;> iassumption
    iapply (outP_join c _ _ fullShare (Out I) hd ho)
    isplitl [H] <;> iassumption

/-! ## The state and its steps -/

structure Mst where
  n : ℕ
  w : ℕ
  T : ℕ
  H : ℕ
  G : ℕ

inductive Op
  | snd (r : Fin 32)
  | rcv (r : Fin 32)
  | wsd (r : Fin 32)

def Op.ok : Op → Mst → Bool
  | .snd r, m => decide (0 < r.val) && m.n.testBit r.val && !m.T.testBit r.val && m.H.testBit r.val
  | .rcv r, m => decide (0 < r.val) && m.w.testBit (rj (cp r)).val && !m.n.testBit 0 && decide (m.H &&& chm r = 0) && !m.G.testBit r.val
      && decide (∀ y : Fin 46, m.n.testBit y.val = true → tlv (cp r) < tlv y)
  | .wsd r, m => decide (0 < r.val) && m.w.testBit (sj (cp r)).val && m.T.testBit r.val && !m.H.testBit r.val && !m.n.testBit 0

def Op.step : Op → Mst → Mst
  | .snd r, m => ⟨m.n ^^^ 2 ^ r.val, m.w, m.T ^^^ 2 ^ r.val, m.H ^^^ 2 ^ r.val, m.G⟩
  | .rcv r, m => ⟨m.n, m.w ^^^ 2 ^ (rj (cp r)).val, m.T, m.H ^^^ chm r, m.G ^^^ 2 ^ r.val⟩
  | .wsd r, m => ⟨m.n, m.w ^^^ 2 ^ (sj (cp r)).val, m.T ^^^ 2 ^ r.val, m.H ^^^ 2 ^ r.val, m.G⟩

def okAll : List Op → Mst → Bool
  | [], _ => true
  | o :: os, m => o.ok m && okAll os (o.step m)
def runAll : List Op → Mst → Mst
  | [], m => m
  | o :: os, m => runAll os (o.step m)

theorem okAll_append (a b : List Op) (m : Mst) : okAll (a ++ b) m = (okAll a m && okAll b (runAll a m)) := by
  induction a generalizing m with
  | nil => rfl
  | cons o os ih => show (o.ok m && okAll (os ++ b) (o.step m)) = _; rw [ih, ← Bool.and_assoc]; rfl
theorem runAll_append (a b : List Op) (m : Mst) : runAll (a ++ b) m = runAll b (runAll a m) := by
  induction a generalizing m with
  | nil => rfl
  | cons o os ih => exact ih (o.step m)

/-- Every partner's cells are open. -/
def rctx (c : Dev nD) : sProp 𝕄 := iprop(reachedAll c ∗ bigSep Finset.univ fun k : Fin 5 => reachedAll (pk k c))
instance rctx_persistent (c : Dev nD) : BI.Persistent (rctx (F := F) c) := by unfold rctx; infer_instance

def Ag (I : Inp F) (c : Dev nD) (m : Mst) : sProp 𝕄 :=
  iprop(St c m.n m.w m.T ∗ bigSep (ms m.n : Finset (Fin 32)) (dstP c) ∗ bigSep (ms m.H : Finset (Fin 32)) (share I c)
    ∗ bigSep (ms m.G : Finset (Fin 32)) (keep I c))

/-- The program performs the steps. -/
def Runs (c : Dev nD) {α : Type} (p : Prog (TpuEff nD τ sig (Elt F) Λ₀ .tc) α) (ops : List Op) : Prop :=
  ∀ (I : Inp F) (K : GSem nD τ sig → ℕ) (m : Mst) (Q : α → sProp (MT nD τ sig Unit (Elt F) ℕ UU ℕ)), okAll ops m = true →
    iprop(ctx I K ∗ rctx c ∗ Ag I c m) ⊢ iprop((∀ v, Ag I c (runAll ops m) -∗ Q v) -∗ WP c p Q)

theorem runs_ret (c : Dev nD) {α : Type} (v : α) : Runs (F := F) c (.ret v) [] := by
  intro I K m Q _
  iintro ⟨-, -, HA⟩ Hk
  iapply WP_ret
  iapply Hk
  iexact HA

theorem runs_bind (c : Dev nD) {α β : Type} {p : Prog (TpuEff nD τ sig (Elt F) Λ₀ .tc) α}
    {f : α → Prog (TpuEff nD τ sig (Elt F) Λ₀ .tc) β} {a b : List Op} (hp : Runs c p a) (hf : ∀ v, Runs c (f v) b) :
    Runs (F := F) c (p >>= f) (a ++ b) := by
  intro I K m Q hok
  rw [okAll_append, Bool.and_eq_true] at hok
  iintro ⟨#Hc, #Hr, HA⟩ Hk
  iapply WP_bind
  iapply (hp I K m _ hok.1) $$ [HA]
  · isplitr; · iexact Hc
    isplitr; · iexact Hr
    iexact HA
  iintro %v HA
  iapply (hf v I K _ Q hok.2) $$ [HA]
  · isplitr; · iexact Hc
    isplitr; · iexact Hr
    iexact HA
  rw [runAll_append]
  iexact Hk

theorem amt_cp : ∀ r : Fin 32, 0 < r.val → amt (cp r) = 1024 := by decide +kernel
theorem cp_isCp (r : Fin 32) (h : 0 < r.val) : IsCp (cp r) := ⟨h, by show r.val < 41; omega⟩

/-- Rows of the result's staging array, as a slice's points-to. -/
theorem outP_slice (c : Dev nD) (n : ℕ) (q : PosShare TreeShare) (f : FVec F S512x512 .f32) {off size : Fin 2 → ℕ}
    (inb : ∀ a, off a + size a ≤ S512x512.size a) (h) (hs : (Rect.unit (s := S512x512) off size inb).set = blk c n) :
    (outP c n q f : sProp 𝕄) = ((oM.slice (Rect.unit (s := S512x512) off size inb) h).view.loc (c : Thread nD τ)
      ↦[(oM.slice (Rect.unit (s := S512x512) off size inb) h).view.set]{q} f) := by
  unfold outP
  rw [← hs, ← oM_set]

/-- Writing through a view what is read through it. -/
theorem write_read_same {s : Shape} {e : EltTy} {sp : Space} (c : Dev nD) (v : View sig .tc sp s e) (q : PosShare TreeShare)
    (fd fs : Buf (Elt F) (v.loc (c : Thread nD τ))) :
    (v.loc (c : Thread nD τ) ↦[v.set]{q} v.write (Elt F) fd (v.read (Elt F) fs) Finset.univ : sProp 𝕄)
      = (v.loc (c : Thread nD τ) ↦[v.set]{q} fs) :=
  pointsTo_congr fun i hi => by
    exact (congrFun (v.write_read_eq_piecewise (Val := Elt F) fd fs Finset.univ) i).trans (Finset.piecewise_eq_of_mem _ _ _ hi)

/-- What a copy of sixteen rows credits. -/
theorem oM_credit (off : Fin 2 → ℕ) (inb : ∀ a, off a + S16x512.size a ≤ S512x512.size a) (h) :
    (oM.slice (Rect.unit (s := S512x512) off S16x512.size inb) h).view.dmaCredit = 1024 := by
  change sig.dmaCredit Idealize.ShloMosaic.Kind.tc (Idealize.ShloMosaic.Kind.tc.table .vmem) (oM : Memref sig .tc .vmem S512x512 .f32).view.buf S16x512 .f32 = 1024
  decide +kernel

section
variable (c : Dev nD) {α : Type} {k : PUnit → Prog (TpuEff nD τ sig (Elt F) Λ₀ .tc) α} {ops : List Op}

theorem runs_snd (r : Fin 32) {n : Dev nD} (hn : n = pk (rnd (cp r)) c) {off : Fin 2 → ℕ}
    {inb : ∀ a, off a + S16x512.size a ≤ S512x512.size a} (hs : (Rect.unit (s := S512x512) off S16x512.size inb).set = blk c (2 ^ (low r).val))
    {h} {sS sR : DmaSem sig} (hsS : SemLoc.dma sS = osem (sj (cp r))) (hsR : SemLoc.dma sR = osem (rj (cp r))) {hsc hsrc hdst hsem}
    (hk : Runs (F := F) c (k ⟨⟩) ops) :
    Runs c (.op (.enqueueDma (oM.slice (Rect.unit (s := S512x512) off S16x512.size inb) h)
      (.remote (Dev.tc n : Thread nD τ) (oM.slice (Rect.unit (s := S512x512) off S16x512.size inb) h) (.dma sS) hsc) (.dma sR) hsrc hdst hsem) k)
      (.snd r :: ops) := by
  intro I K m Q hok
  rw [okAll, Bool.and_eq_true, Op.ok] at hok
  obtain ⟨h1, hok⟩ := hok
  simp only [Bool.and_eq_true, decide_eq_true_eq, Bool.not_eq_true'] at h1
  obtain ⟨⟨⟨h0, hn1⟩, hT⟩, hH⟩ := h1
  have hb : blk (pk (rnd (cp r)) c) (2 ^ r.val) = blk c (2 ^ (low r).val) := by
    apply blk_pk
    have : ∀ (r : Fin 32), 0 < r.val → ∀ j : Fin 32, (2 ^ (low r).val).testBit j.val = (2 ^ r.val).testBit (j ^^^ top (rnd (cp r))).val := by
      decide +kernel
    exact this r h0
  have hsp : ∀ (q : PosShare TreeShare) (f : FVec F S512x512 .f32), (outP (pk (rnd (cp r)) c) (2 ^ r.val) q f : sProp 𝕄)
      = ((oM.slice (Rect.unit (s := S512x512) off S16x512.size inb) h).view.loc (pk (rnd (cp r)) c : Thread nD τ)
      ↦[(oM.slice (Rect.unit (s := S512x512) off S16x512.size inb) h).view.set]{q} f) := fun q f => outP_slice _ _ _ _ _ _ (by rw [hb]; exact hs)
  iintro ⟨#Hc, #Hr, HA⟩ Hk
  unfold Ag
  rw [take_bit (N := 32) m.n r hn1, take_bit (N := 32) m.H r hH]
  icases HA with ⟨HS, Hd, Hsh, Hkp⟩
  icases Hd with ⟨Hd, Hds⟩
  icases Hsh with ⟨Hsr, Hsh⟩
  unfold dstP outAny
  icases Hd with ⟨%fd, Hd⟩
  unfold rctx
  icases Hr with ⟨#Hr0, #Hrs⟩
  ihave #Hrp := (elim_of (fun k : Fin 5 => reachedAll (F := F) (pk k c)) (Finset.mem_univ (rnd (cp r)))) $$ Hrs
  ihave Hd' := (Entails.of_eq (hsp fullShare fd)) $$ Hd
  ihave Hsr' := (Entails.of_eq (outP_slice c (2 ^ (low r).val) (shq (rnd (cp r))) (Out I) inb h hs)) $$ [Hsr]
  · unfold share; iexact Hsr
  iapply (send_step I K c (cp r) (cp_isCp r h0) hn hsS hsR (by show _ = amt (cp r); rw [show amt (cp r) = 1024 from by exact amt_cp r h0]; exact oM_credit _ _ _) (Out I) fd (shq (rnd (cp r))) iprop(emp) m.n m.w m.T hn1 hT false
    (by
      rw [← outP_slice c _ _ _ inb h hs]
      unfold sPay
      rw [dif_pos (show (cp r).val < 32 from r.isLt)]
      exact Entails.refl _)
    (by
      show iprop(_ ∗ emp) ⊢ _
      rw [write_read_same (pk (rnd (cp r)) c), ← hsp]
      unfold rPay
      rw [dif_pos (show (cp r).val < 32 from r.isLt)]
      iintro ⟨H, -⟩
      iexact H)) $$ [HS Hd' Hsr']
  · isplitr; · iexact Hc
    isplitr; · iexact Hr0
    isplitr; · iexact Hrp
    isplitl [HS]; · iexact HS
    isplitl [Hsr']; · iexact Hsr'
    isplitl [Hd']; · iexact Hd'
    iempintro
  iintro HS
  iapply (hk I K _ Q hok) $$ [HS Hds Hsh Hkp]
  · isplitr; · iexact Hc
    isplitr
    · unfold rctx; isplitr; · iexact Hr0
      iexact Hrs
    unfold Ag Op.step
    isplitl [HS]; · iexact HS
    isplitl [Hds]; · iexact Hds
    isplitl [Hsh] <;> iassumption
  iexact Hk

variable {sp sp' : Space} {s s' : Shape} {e e' : EltTy} {src : Memref sig .tc sp' s' e'} {dst : Memref sig .tc sp s e} {sm : DmaSem sig}
  {hsrc : src.view.WordExact} {hdst : dst.view.WordExact}

theorem runs_rcv (r : Fin 32) (hsm : SemLoc.dma sm = osem (rj (cp r))) (hN : dst.view.dmaCredit = 1024) (hk : Runs (F := F) c (k ⟨⟩) ops) :
    Runs c (.op (.waitDma2 sm src dst hsrc hdst) k) (.rcv r :: ops) := by
  intro I K m Q hok
  rw [okAll, Bool.and_eq_true, Op.ok] at hok
  obtain ⟨h1, hok⟩ := hok
  simp only [Bool.and_eq_true, decide_eq_true_eq, Bool.not_eq_true'] at h1
  obtain ⟨⟨⟨⟨⟨h0, hw⟩, hn0⟩, hH⟩, hG⟩, hl⟩ := h1
  iintro ⟨#Hc, #Hr, HA⟩ Hk
  unfold Ag
  icases HA with ⟨HS, Hd, Hsh, Hkp⟩
  iapply (recv_step I K c m.n m.w m.T (cp r) (cp_isCp r h0) hsm (by rw [hN, amt_cp r h0]) hw hn0 hl) $$ [HS]
  · isplitr; · iexact Hc
    iexact HS
  iintro ⟨HS, Hp⟩
  have hp : rPay I c (cp r) = outP c (2 ^ r.val) fullShare (Out I) := dif_pos (show (cp r).val < 32 from r.isLt)
  ihave Hp' := ((Entails.of_eq hp).trans (outP_shares I c r).1) $$ Hp
  icases Hp' with ⟨Hkr, Hsr⟩
  iapply (hk I K _ Q hok) $$ [HS Hd Hsh Hkp Hkr Hsr]
  · isplitr; · iexact Hc
    isplitr; · iexact Hr
    unfold Ag Op.step
    isplitl [HS]; · iexact HS
    isplitl [Hd]; · iexact Hd
    isplitl [Hsh Hsr]
    · rw [ms_xor _ _ hH]
      isplitl [Hsh] <;> iassumption
    rw [put_bit (N := 32) m.G r hG]
    isplitl [Hkr] <;> iassumption
  iexact Hk

theorem runs_wsd (r : Fin 32) (hsm : SemLoc.dma sm = osem (sj (cp r))) (hN : dst.view.dmaCredit = 1024) (hk : Runs (F := F) c (k ⟨⟩) ops) :
    Runs c (.op (.waitDma2 sm src dst hsrc hdst) k) (.wsd r :: ops) := by
  intro I K m Q hok
  rw [okAll, Bool.and_eq_true, Op.ok] at hok
  obtain ⟨h1, hok⟩ := hok
  simp only [Bool.and_eq_true, decide_eq_true_eq, Bool.not_eq_true'] at h1
  obtain ⟨⟨⟨⟨h0, hw⟩, hT⟩, hH⟩, hn0⟩ := h1
  iintro ⟨#Hc, #Hr, HA⟩ Hk
  unfold Ag
  icases HA with ⟨HS, Hd, Hsh, Hkp⟩
  iapply (sent_step I K c m.n m.w m.T (cp r) (cp_isCp r h0) hsm (by rw [hN, amt_cp r h0]) hw hT hn0) $$ [HS]
  · isplitr; · iexact Hc
    iexact HS
  iintro ⟨HS, Hp⟩
  have hp : sPay I c (cp r) = share I c r := dif_pos (show (cp r).val < 32 from r.isLt)
  iapply (hk I K _ Q hok) $$ [HS Hd Hsh Hkp Hp]
  · isplitr; · iexact Hc
    isplitr; · iexact Hr
    unfold Ag Op.step
    isplitl [HS]; · iexact HS
    isplitl [Hd]; · iexact Hd
    isplitl [Hsh Hp]
    · rw [put_bit (N := 32) m.H r hH]
      isplitl [Hp]
      · iapply (Entails.of_eq hp); iexact Hp
      iexact Hsh
    iexact Hkp
  iexact Hk
end

end Cert.KernelIdeal.Pf
-- ==== Proof.I.GatherParts.lean ====
/-
  The gather's parts of the kernel's text, as lists of steps.
-/
module

public import proofs.«01_k».proof.Proof.I.Gather

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part at the buffers and semaphores of the launch. -/
abbrev atBufs {β : Sort*} (f : (arg0 : Memref sig .tc .vmem S512x512 .f32) → (harg0 : arg0.IsWhole) → (arg1 : Memref sig .tc .hbm S512x512 .f32) →
    (harg1 : arg1.IsWhole) → (arg2 : Memref sig .tc .vmem S1x512 .f32) → (harg2 : arg2.IsWhole) → (arg3 : Memref sig .tc .vmem S512x512 .f32) →
    (harg3 : arg3.IsWhole) → (arg4 : Memref sig .tc .vmem S256x512 .f32) → (harg4 : arg4.IsWhole) → (arg5 : Memref sig .tc .vmem S128x512 .f32) →
    (harg5 : arg5.IsWhole) → (arg6 : Memref sig .tc .vmem S64x512 .f32) → (harg6 : arg6.IsWhole) → (arg7 : Memref sig .tc .vmem S32x512 .f32) →
    (harg7 : arg7.IsWhole) → (arg8 : Memref sig .tc .vmem S16x512 .f32) → (harg8 : arg8.IsWhole) → (arg9 : Memref sig .tc .vmem S16x512 .f32) →
    (harg9 : arg9.IsWhole) → DmaSems sig S9 → DmaSems sig S9 → DmaSems sig S31 → DmaSems sig S31 → DmaSems sig S_ → β) : β :=
  f xM (Memref.isWhole_whole _) (Memref.whole main_arg1) (Memref.isWhole_whole _) (Memref.whole cc0_stg1_0) (Memref.isWhole_whole _)
    oM (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10

variable (c : Dev nD)

theorem run14 (v2 v23 : BitVec 32) : Runs (F := F) c (atBufs (k0_part14 (F := F)) c v2 v23)
    [.snd 1, .snd 2, .snd 4] := by
  unfold atBufs
  rw [k0_part14_eq_skeleton]
  unfold k0_part14_skel
  simp only [Prog.lift, Prog.bind_op, Prog.bind_ret, Prog.pure_eq_ret]
  refine runs_snd c 1 (Fin.ext (congrFun (devs_eq c) 14)) (rect21 c 0) rfl rfl ?_
  refine runs_snd c 2 (Fin.ext (congrFun (devs_eq c) 15)) (rect21 c 0) rfl rfl ?_
  refine runs_snd c 4 (Fin.ext (congrFun (devs_eq c) 16)) (rect21 c 0) rfl rfl ?_
  exact runs_ret c _

theorem run15 (v2 v23 v396 : BitVec 32) : Runs (F := F) c (atBufs (k0_part15 (F := F)) c v2 v23 v396)
    [.snd 8, .snd 16, .rcv 1, .snd 3] := by
  unfold atBufs
  rw [k0_part15_eq_skeleton]
  unfold k0_part15_skel
  simp only [Prog.lift, Prog.bind_op, Prog.bind_ret, Prog.pure_eq_ret]
  refine runs_snd c 8 (Fin.ext (congrFun (devs_eq c) 17)) (rect21 c 0) rfl rfl ?_
  refine runs_snd c 16 (Fin.ext (congrFun (devs_eq c) 18)) (rect21 c 0) rfl rfl ?_
  refine runs_rcv c 1 rfl (oM_credit _ _ _) ?_
  refine runs_snd c 3 (Fin.ext (congrFun (devs_eq c) 19)) (rect21 c 1) rfl rfl ?_
  exact runs_ret c _

theorem run16 (v2 v23 v466 : BitVec 32) : Runs (F := F) c (atBufs (k0_part16 (F := F)) c v2 v23 v466)
    [.snd 5, .snd 9, .snd 17] := by
  unfold atBufs
  rw [k0_part16_eq_skeleton]
  unfold k0_part16_skel
  simp only [Prog.lift, Prog.bind_op, Prog.bind_ret, Prog.pure_eq_ret]
  refine runs_snd c 5 (Fin.ext (congrFun (devs_eq c) 20)) (rect21 c 1) rfl rfl ?_
  refine runs_snd c 9 (Fin.ext (congrFun (devs_eq c) 21)) (rect21 c 1) rfl rfl ?_
  refine runs_snd c 17 (Fin.ext (congrFun (devs_eq c) 22)) (rect21 c 1) rfl rfl ?_
  exact runs_ret c _

theorem run17 (v2 v23 v407 : BitVec 32) : Runs (F := F) c (atBufs (k0_part17 (F := F)) c v2 v23 v407)
    [.rcv 2, .snd 6, .snd 10] := by
  unfold atBufs
  rw [k0_part17_eq_skeleton]
  unfold k0_part17_skel
  simp only [Prog.lift, Prog.bind_op, Prog.bind_ret, Prog.pure_eq_ret]
  refine runs_rcv c 2 rfl (oM_credit _ _ _) ?_
  refine runs_snd c 6 (Fin.ext (congrFun (devs_eq c) 23)) (rect21 c 2) rfl rfl ?_
  refine runs_snd c 10 (Fin.ext (congrFun (devs_eq c) 24)) (rect21 c 2) rfl rfl ?_
  exact runs_ret c _

theorem run18 (v2 v23 v418 v530 : BitVec 32) : Runs (F := F) c (atBufs (k0_part18 (F := F)) c v2 v23 v418 v530)
    [.snd 18, .rcv 4, .snd 12] := by
  unfold atBufs
  rw [k0_part18_eq_skeleton]
  unfold k0_part18_skel
  simp only [Prog.lift, Prog.bind_op, Prog.bind_ret, Prog.pure_eq_ret]
  refine runs_snd c 18 (Fin.ext (congrFun (devs_eq c) 25)) (rect21 c 2) rfl rfl ?_
  refine runs_rcv c 4 rfl (oM_credit _ _ _) ?_
  refine runs_snd c 12 (Fin.ext (congrFun (devs_eq c) 26)) (rect21 c 4) rfl rfl ?_
  exact runs_ret c _

theorem run19 (v2 v23 v429 v440 v457 : BitVec 32) : Runs (F := F) c (atBufs (k0_part19 (F := F)) c v2 v23 v429 v440 v457)
    [.snd 20, .rcv 8, .snd 24, .rcv 16] := by
  unfold atBufs
  rw [k0_part19_eq_skeleton]
  unfold k0_part19_skel
  simp only [Prog.lift, Prog.bind_op, Prog.bind_ret, Prog.pure_eq_ret]
  refine runs_snd c 20 (Fin.ext (congrFun (devs_eq c) 27)) (rect21 c 4) rfl rfl ?_
  refine runs_rcv c 8 rfl (oM_credit _ _ _) ?_
  refine runs_snd c 24 (Fin.ext (congrFun (devs_eq c) 28)) (rect21 c 8) rfl rfl ?_
  refine runs_rcv c 16 rfl (oM_credit _ _ _) ?_
  exact runs_ret c _

theorem run20 (v2 v23 : BitVec 32) : Runs (F := F) c (atBufs (k0_part20 (F := F)) c v2 v23)
    [.rcv 3, .snd 7, .snd 11] := by
  unfold atBufs
  rw [k0_part20_eq_skeleton]
  unfold k0_part20_skel
  simp only [Prog.lift, Prog.bind_op, Prog.bind_ret, Prog.pure_eq_ret]
  refine runs_rcv c 3 rfl (oM_credit _ _ _) ?_
  refine runs_snd c 7 (Fin.ext (congrFun (devs_eq c) 29)) (rect21 c 3) rfl rfl ?_
  refine runs_snd c 11 (Fin.ext (congrFun (devs_eq c) 30)) (rect21 c 3) rfl rfl ?_
  exact runs_ret c _

theorem run21 (v2 v23 v468 v507 : BitVec 32) : Runs (F := F) c (atBufs (k0_part21 (F := F)) c v2 v23 v468 v507)
    [.snd 19, .rcv 6, .snd 14, .snd 22] := by
  unfold atBufs
  rw [k0_part21_eq_skeleton]
  unfold k0_part21_skel
  simp only [Prog.lift, Prog.bind_op, Prog.bind_ret, Prog.pure_eq_ret]
  refine runs_snd c 19 (Fin.ext (congrFun (devs_eq c) 31)) (rect21 c 3) rfl rfl ?_
  refine runs_rcv c 6 rfl (oM_credit _ _ _) ?_
  refine runs_snd c 14 (Fin.ext (congrFun (devs_eq c) 32)) (rect21 c 6) rfl rfl ?_
  refine runs_snd c 22 (Fin.ext (congrFun (devs_eq c) 33)) (rect21 c 6) rfl rfl ?_
  exact runs_ret c _

theorem run22 (v2 v23 v546 v656 : BitVec 32) : Runs (F := F) c (atBufs (k0_part22 (F := F)) c v2 v23 v546 v656)
    [.rcv 5, .snd 13, .snd 21] := by
  unfold atBufs
  rw [k0_part22_eq_skeleton]
  unfold k0_part22_skel
  simp only [Prog.lift, Prog.bind_op, Prog.bind_ret, Prog.pure_eq_ret]
  refine runs_rcv c 5 rfl (oM_credit _ _ _) ?_
  refine runs_snd c 13 (Fin.ext (congrFun (devs_eq c) 34)) (rect21 c 5) rfl rfl ?_
  refine runs_snd c 21 (Fin.ext (congrFun (devs_eq c) 35)) (rect21 c 5) rfl rfl ?_
  exact runs_ret c _

theorem run23 (v2 v23 v479 v518 : BitVec 32) : Runs (F := F) c (atBufs (k0_part23 (F := F)) c v2 v23 v479 v518)
    [.rcv 12, .snd 28, .rcv 10, .snd 26] := by
  unfold atBufs
  rw [k0_part23_eq_skeleton]
  unfold k0_part23_skel
  simp only [Prog.lift, Prog.bind_op, Prog.bind_ret, Prog.pure_eq_ret]
  refine runs_rcv c 12 rfl (oM_credit _ _ _) ?_
  refine runs_snd c 28 (Fin.ext (congrFun (devs_eq c) 36)) (rect21 c 12) rfl rfl ?_
  refine runs_rcv c 10 rfl (oM_credit _ _ _) ?_
  refine runs_snd c 26 (Fin.ext (congrFun (devs_eq c) 37)) (rect21 c 10) rfl rfl ?_
  exact runs_ret c _

theorem run24 (v2 v23 v529 v557 v574 v718 c0_i32_539 : BitVec 32) : Runs (F := F) c (atBufs (k0_part24 (F := F)) c v2 v23 v529 v557 v574 v718 c0_i32_539)
    [.rcv 9, .snd 25, .rcv 24, .rcv 20] := by
  unfold atBufs
  rw [k0_part24_eq_skeleton]
  unfold k0_part24_skel
  simp only [Prog.lift, Prog.bind_op, Prog.bind_ret, Prog.pure_eq_ret]
  refine runs_rcv c 9 rfl (oM_credit _ _ _) ?_
  refine runs_snd c 25 (Fin.ext (congrFun (devs_eq c) 38)) (rect21 c 9) rfl rfl ?_
  refine runs_rcv c 24 rfl (oM_credit _ _ _) ?_
  refine runs_rcv c 20 rfl (oM_credit _ _ _) ?_
  exact runs_ret c _

theorem run25 (v2 v23 v490 v597 : BitVec 32) : Runs (F := F) c (atBufs (k0_part25 (F := F)) c v2 v23 v490 v597)
    [.rcv 18, .rcv 17, .rcv 7, .snd 15] := by
  unfold atBufs
  rw [k0_part25_eq_skeleton]
  unfold k0_part25_skel
  simp only [Prog.lift, Prog.bind_op, Prog.bind_ret, Prog.pure_eq_ret]
  refine runs_rcv c 18 rfl (oM_credit _ _ _) ?_
  refine runs_rcv c 17 rfl (oM_credit _ _ _) ?_
  refine runs_rcv c 7 rfl (oM_credit _ _ _) ?_
  refine runs_snd c 15 (Fin.ext (congrFun (devs_eq c) 39)) (rect21 c 7) rfl rfl ?_
  exact runs_ret c _

theorem run26 (v2 v23 v636 v664 v778 : BitVec 32) : Runs (F := F) c (atBufs (k0_part26 (F := F)) c v2 v23 v636 v664 v778)
    [.snd 23, .rcv 14, .snd 30, .rcv 13] := by
  unfold atBufs
  rw [k0_part26_eq_skeleton]
  unfold k0_part26_skel
  simp only [Prog.lift, Prog.bind_op, Prog.bind_ret, Prog.pure_eq_ret]
  refine runs_snd c 23 (Fin.ext (congrFun (devs_eq c) 40)) (rect21 c 7) rfl rfl ?_
  refine runs_rcv c 14 rfl (oM_credit _ _ _) ?_
  refine runs_snd c 30 (Fin.ext (congrFun (devs_eq c) 41)) (rect21 c 14) rfl rfl ?_
  refine runs_rcv c 13 rfl (oM_credit _ _ _) ?_
  exact runs_ret c _

theorem run27 (v2 v23 v608 v692 c208_i32 : BitVec 32) : Runs (F := F) c (atBufs (k0_part27 (F := F)) c v2 v23 v608 v692 c208_i32)
    [.snd 29, .rcv 11, .snd 27] := by
  unfold atBufs
  rw [k0_part27_eq_skeleton]
  unfold k0_part27_skel
  simp only [Prog.lift, Prog.bind_op, Prog.bind_ret, Prog.pure_eq_ret]
  refine runs_snd c 29 (Fin.ext (congrFun (devs_eq c) 42)) (rect21 c 13) rfl rfl ?_
  refine runs_rcv c 11 rfl (oM_credit _ _ _) ?_
  refine runs_snd c 27 (Fin.ext (congrFun (devs_eq c) 43)) (rect21 c 11) rfl rfl ?_
  exact runs_ret c _

theorem run28 (v647 v675 v709 v726 : BitVec 32) : Runs (F := F) c (atBufs (k0_part28 (F := F)) c v647 v675 v709 v726)
    [.rcv 28, .rcv 26, .rcv 25, .rcv 22, .rcv 21] := by
  unfold atBufs
  rw [k0_part28_eq_skeleton]
  unfold k0_part28_skel
  simp only [Prog.lift, Prog.bind_op, Prog.bind_ret, Prog.pure_eq_ret]
  refine runs_rcv c 28 rfl (oM_credit _ _ _) ?_
  refine runs_rcv c 26 rfl (oM_credit _ _ _) ?_
  refine runs_rcv c 25 rfl (oM_credit _ _ _) ?_
  refine runs_rcv c 22 rfl (oM_credit _ _ _) ?_
  refine runs_rcv c 21 rfl (oM_credit _ _ _) ?_
  exact runs_ret c _

theorem run29 (v2 v23 v619 v767 v795 v812 c1_i32_660 : BitVec 32) : Runs (F := F) c (atBufs (k0_part29 (F := F)) c v2 v23 v619 v767 v795 v812 c1_i32_660)
    [.rcv 19, .rcv 15, .snd 31, .rcv 30] := by
  unfold atBufs
  rw [k0_part29_eq_skeleton]
  unfold k0_part29_skel
  simp only [Prog.lift, Prog.bind_op, Prog.bind_ret, Prog.pure_eq_ret]
  refine runs_rcv c 19 rfl (oM_credit _ _ _) ?_
  refine runs_rcv c 15 rfl (oM_credit _ _ _) ?_
  refine runs_snd c 31 (Fin.ext (congrFun (devs_eq c) 44)) (rect21 c 15) rfl rfl ?_
  refine runs_rcv c 30 rfl (oM_credit _ _ _) ?_
  exact runs_ret c _

theorem run30 (v778 v829 v882 v897 : BitVec 32) : Runs (F := F) c (atBufs (k0_part30 (F := F)) c v778 v829 v882 v897)
    [.rcv 29, .rcv 27, .rcv 23, .rcv 31, .wsd 1] := by
  unfold atBufs
  rw [k0_part30_eq_skeleton]
  unfold k0_part30_skel
  simp only [Prog.lift, Prog.bind_op, Prog.bind_ret, Prog.pure_eq_ret]
  refine runs_rcv c 29 rfl (oM_credit _ _ _) ?_
  refine runs_rcv c 27 rfl (oM_credit _ _ _) ?_
  refine runs_rcv c 23 rfl (oM_credit _ _ _) ?_
  refine runs_rcv c 31 rfl (oM_credit _ _ _) ?_
  refine runs_wsd c 1 rfl (oM_credit _ _ _) ?_
  exact runs_ret c _

theorem run31 : Runs (F := F) c (atBufs (k0_part31 (F := F)) c)
    [.wsd 2, .wsd 4, .wsd 8, .wsd 16, .wsd 3, .wsd 5] := by
  unfold atBufs
  rw [k0_part31_eq_skeleton]
  unfold k0_part31_skel
  simp only [Prog.lift, Prog.bind_op, Prog.bind_ret, Prog.pure_eq_ret]
  refine runs_wsd c 2 rfl (oM_credit _ _ _) ?_
  refine runs_wsd c 4 rfl (oM_credit _ _ _) ?_
  refine runs_wsd c 8 rfl (oM_credit _ _ _) ?_
  refine runs_wsd c 16 rfl (oM_credit _ _ _) ?_
  refine runs_wsd c 3 rfl (oM_credit _ _ _) ?_
  refine runs_wsd c 5 rfl (oM_credit _ _ _) ?_
  exact runs_ret c _

theorem run32 : Runs (F := F) c (atBufs (k0_part32 (F := F)) c)
    [.wsd 9, .wsd 17, .wsd 6, .wsd 10, .wsd 18, .wsd 12] := by
  unfold atBufs
  rw [k0_part32_eq_skeleton]
  unfold k0_part32_skel
  simp only [Prog.lift, Prog.bind_op, Prog.bind_ret, Prog.pure_eq_ret]
  refine runs_wsd c 9 rfl (oM_credit _ _ _) ?_
  refine runs_wsd c 17 rfl (oM_credit _ _ _) ?_
  refine runs_wsd c 6 rfl (oM_credit _ _ _) ?_
  refine runs_wsd c 10 rfl (oM_credit _ _ _) ?_
  refine runs_wsd c 18 rfl (oM_credit _ _ _) ?_
  refine runs_wsd c 12 rfl (oM_credit _ _ _) ?_
  exact runs_ret c _

theorem run33 : Runs (F := F) c (atBufs (k0_part33 (F := F)) c)
    [.wsd 20, .wsd 24, .wsd 7, .wsd 11, .wsd 19, .wsd 14] := by
  unfold atBufs
  rw [k0_part33_eq_skeleton]
  unfold k0_part33_skel
  simp only [Prog.lift, Prog.bind_op, Prog.bind_ret, Prog.pure_eq_ret]
  refine runs_wsd c 20 rfl (oM_credit _ _ _) ?_
  refine runs_wsd c 24 rfl (oM_credit _ _ _) ?_
  refine runs_wsd c 7 rfl (oM_credit _ _ _) ?_
  refine runs_wsd c 11 rfl (oM_credit _ _ _) ?_
  refine runs_wsd c 19 rfl (oM_credit _ _ _) ?_
  refine runs_wsd c 14 rfl (oM_credit _ _ _) ?_
  exact runs_ret c _

theorem run34 : Runs (F := F) c (atBufs (k0_part34 (F := F)) c)
    [.wsd 22, .wsd 13, .wsd 21, .wsd 28, .wsd 26, .wsd 25] := by
  unfold atBufs
  rw [k0_part34_eq_skeleton]
  unfold k0_part34_skel
  simp only [Prog.lift, Prog.bind_op, Prog.bind_ret, Prog.pure_eq_ret]
  refine runs_wsd c 22 rfl (oM_credit _ _ _) ?_
  refine runs_wsd c 13 rfl (oM_credit _ _ _) ?_
  refine runs_wsd c 21 rfl (oM_credit _ _ _) ?_
  refine runs_wsd c 28 rfl (oM_credit _ _ _) ?_
  refine runs_wsd c 26 rfl (oM_credit _ _ _) ?_
  refine runs_wsd c 25 rfl (oM_credit _ _ _) ?_
  exact runs_ret c _

end Cert.KernelIdeal.Pf
-- ==== Proof.I.Reduce.lean ====
/-
  The reduction's layer: a device's state in the reduction (`RG`) is the masks of what it owes and has not waited for, the
  landing buffers and result blocks it may copy into, what has landed, and its rows by how many summands they hold. Each step
  of the kernel flips bits of the masks.
-/
module

public import proofs.«01_k».proof.Proof.I.GatherParts

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Programs with their states -/

section Hoare
variable (I : Inp F) (K : GSem nD τ sig → ℕ) (c : Dev nD)

/-- From `P` the program ends in `R`. -/
def Hr {α : Type} (P : sProp (MT nD τ sig Unit (Elt F) ℕ UU ℕ)) (p : Prog (TpuEff nD τ sig (Elt F) Λ₀ .tc) α)
    (R : α → sProp (MT nD τ sig Unit (Elt F) ℕ UU ℕ)) : Prop :=
  ∀ Q : α → sProp 𝕄, iprop(ctx I K ∗ P) ⊢ iprop((∀ v, R v -∗ Q v) -∗ WP c p Q)

variable {I K c} {α β : Type} {P P' X : sProp (MT nD τ sig Unit (Elt F) ℕ UU ℕ)} {p : Prog (TpuEff nD τ sig (Elt F) Λ₀ .tc) α}
  {R R' : α → sProp (MT nD τ sig Unit (Elt F) ℕ UU ℕ)} {R₂ : β → sProp (MT nD τ sig Unit (Elt F) ℕ UU ℕ)}

theorem Hr.ret {v : α} (h : P ⊢ R v) : Hr I K c P (.ret v) R := by
  intro Q
  iintro ⟨-, H⟩ Hk
  iapply WP_ret
  iapply Hk
  iapply h
  iexact H

theorem Hr.bind {f : α → Prog (TpuEff nD τ sig (Elt F) Λ₀ .tc) β} (hp : Hr I K c P p R) (hf : ∀ v, Hr I K c (R v) (f v) R₂) :
    Hr I K c P (p >>= f) R₂ := by
  intro Q
  iintro ⟨#Hc, H⟩ Hk
  iapply WP_bind
  iapply (hp _) $$ [H]
  · isplitr; · iexact Hc
    iexact H
  iintro %v H
  iapply (hf v Q) $$ [H]
  · isplitr; · iexact Hc
    iexact H
  iexact Hk

theorem Hr.conseq (h : P' ⊢ P) (hp : Hr I K c P p R) (h' : ∀ v, R v ⊢ R' v) : Hr I K c P' p R' := by
  intro Q
  iintro ⟨#Hc, H⟩ Hk
  iapply (hp Q) $$ [H]
  · isplitr; · iexact Hc
    iapply h; iexact H
  iintro %v H
  iapply Hk
  iapply (h' v); iexact H

theorem Hr.pre (h : P' ⊢ P) (hp : Hr I K c P p R) : Hr I K c P' p R := hp.conseq h fun _ => Entails.refl _

theorem Hr.frame (hp : Hr I K c P p R) : Hr I K c iprop(P ∗ X) p fun v => iprop(R v ∗ X) := by
  intro Q
  iintro ⟨#Hc, H, HX⟩ Hk
  iapply (hp Q) $$ [H]
  · isplitr; · iexact Hc
    iexact H
  iintro %v H
  iapply Hk
  isplitl [H] <;> iassumption

theorem Hr.fact {φ : Prop} (h : φ → Hr I K c P p R) : Hr I K c iprop(⌜φ⌝ ∗ P) p R := by
  intro Q
  iintro ⟨#Hc, %hφ, H⟩ Hk
  iapply (h hφ Q) $$ [H]
  · isplitr; · iexact Hc
    iexact H
  iexact Hk

theorem Hr.runs {ops : List Op} {m m' : Mst} (h : Runs c p ops) (hok : okAll ops m = true) (he : runAll ops m = m') :
    Hr I K c iprop(rctx c ∗ Ag I c m) p fun _ => iprop(rctx c ∗ Ag I c m') := by
  subst he
  intro Q
  iintro ⟨#Hc, #Hr, H⟩ Hk
  iapply (h I K m Q hok) $$ [H]
  · isplitr; · iexact Hc
    isplitr; · iexact Hr
    iexact H
  iintro %v H
  iapply Hk
  isplitr; · iexact Hr
  iexact H
end Hoare

/-! ## Masks of rows -/

theorem outP_take (c : Dev nD) (a b : ℕ) (q : PosShare TreeShare) (f : FVec F S512x512 .f32) (h : a &&& b = b) :
    (outP c a q f : sProp 𝕄) ⊢ iprop(outP c b q f ∗ outP c (a ^^^ b) q f) := by
  have hd : b &&& (a ^^^ b) = 0 := Nat.eq_of_testBit_eq fun i => by
    have := congrArg (fun n => n.testBit i) h
    simp only [Nat.testBit_and, Nat.testBit_xor, Nat.zero_testBit] at this ⊢
    cases ha : a.testBit i <;> cases hb : b.testBit i <;> simp_all
  have ho : b ||| (a ^^^ b) = a := Nat.eq_of_testBit_eq fun i => by
    have := congrArg (fun n => n.testBit i) h
    simp only [Nat.testBit_and, Nat.testBit_or, Nat.testBit_xor] at this ⊢
    cases ha : a.testBit i <;> cases hb : b.testBit i <;> simp_all
  have := (outP_union c b (a ^^^ b) q f hd).1
  rwa [ho] at this

theorem outP_put (c : Dev nD) (a b : ℕ) (q : PosShare TreeShare) (f : FVec F S512x512 .f32) (h : a &&& b = 0) :
    iprop(outP c b q f ∗ outP c a q f) ⊢ (outP c (a ^^^ b) q f : sProp 𝕄) := by
  iintro ⟨Hb, Ha⟩
  iapply (outP_join c a b q f h (Nat.eq_of_testBit_eq fun i => by
    have := congrArg (fun n => n.testBit i) h
    simp only [Nat.testBit_and, Nat.testBit_or, Nat.testBit_xor, Nat.zero_testBit] at this ⊢
    cases ha : a.testBit i <;> cases hb : b.testBit i <;> simp_all))
  isplitl [Ha] <;> iassumption

theorem outAny_take (c : Dev nD) (a b : ℕ) (h : a &&& b = b) :
    (outAny c a : sProp 𝕄) ⊢ iprop(outAny c b ∗ outAny c (a ^^^ b)) := by
  unfold outAny
  iintro ⟨%f, H⟩
  ihave H' := (outP_take c a b fullShare f h) $$ H
  icases H' with ⟨H₁, H₂⟩
  isplitl [H₁] <;> (iexists f; iassumption)

theorem xP_take (c : Dev nD) (a b : ℕ) (f : FVec F S512x512 .f32) (h : a &&& b = b) :
    (xP c a f : sProp 𝕄) ⊢ iprop(xP c b f ∗ xP c (a ^^^ b) f) := by
  have hd : b &&& (a ^^^ b) = 0 := Nat.eq_of_testBit_eq fun i => by
    have := congrArg (fun n => n.testBit i) h
    simp only [Nat.testBit_and, Nat.testBit_xor, Nat.zero_testBit] at this ⊢
    cases ha : a.testBit i <;> cases hb : b.testBit i <;> simp_all
  have ho : b ||| (a ^^^ b) = a := Nat.eq_of_testBit_eq fun i => by
    have := congrArg (fun n => n.testBit i) h
    simp only [Nat.testBit_and, Nat.testBit_or, Nat.testBit_xor] at this ⊢
    cases ha : a.testBit i <;> cases hb : b.testBit i <;> simp_all
  unfold xP
  conv_lhs => rw [← ho]
  rw [blk_union]
  exact (pointsTo_union (blk_disj c hd)).1

theorem xP_put (c : Dev nD) (a b : ℕ) (f : FVec F S512x512 .f32) (h : a &&& b = 0) :
    iprop(xP c b f ∗ xP c a f) ⊢ (xP c (a ^^^ b) f : sProp 𝕄) := by
  have e : a ^^^ b = b ||| a := Nat.eq_of_testBit_eq fun i => by
    have := congrArg (fun n => n.testBit i) h
    simp only [Nat.testBit_and, Nat.testBit_or, Nat.testBit_xor, Nat.zero_testBit] at this ⊢
    cases ha : a.testBit i <;> cases hb : b.testBit i <;> simp_all
  rw [e]
  unfold xP
  rw [blk_union]
  exact (pointsTo_union (blk_disj c (by rw [Nat.and_comm]; exact h))).2

/-- Rows at anything, block by block. -/
theorem outAny_blocks (c : Dev nD) (n : ℕ) (hn : n < 2 ^ 32) :
    (outAny c n : sProp 𝕄) ⊢ bigSep (ms n : Finset (Fin 32)) fun r => outAny c (2 ^ r.val) := by
  have e : blk c n = (ms n : Finset (Fin 32)).biUnion fun r => blk c (2 ^ r.val) := by
    ext i
    simp only [mem_blk, Finset.mem_biUnion, mem_ms, Nat.testBit_two_pow, decide_eq_true_eq]
    constructor
    · intro h
      refine ⟨⟨_, ?_⟩, h, rfl⟩
      by_contra hge
      rw [Nat.testBit_lt_two_pow (lt_of_lt_of_le hn (Nat.pow_le_pow_right (by decide) (by omega)))] at h
      cases h
    · rintro ⟨r, hr, he⟩
      rw [← he]; exact hr
  unfold outAny
  iintro ⟨%f, H⟩
  ihave H' := (show outP c n fullShare f ⊢ bigSep (ms n : Finset (Fin 32)) fun r => (outP c (2 ^ r.val) fullShare f : sProp 𝕄) from by
    unfold outP
    rw [e]
    exact Entails.of_eq (pointsTo_biUnion _ _ (fun r _ r' _ hne => blk_disj c (Nat.eq_of_testBit_eq fun i => by
      rw [Nat.testBit_and, Nat.testBit_two_pow, Nat.testBit_two_pow, Nat.zero_testBit]
      by_cases h₁ : r.val = i
      · by_cases h₂ : r'.val = i
        · exact absurd (Fin.ext (h₁.trans h₂.symm)) hne
        · simp [h₂]
      · simp [h₁])))) $$ H
  have hm : (bigSep (ms n : Finset (Fin 32)) fun r => outP c (2 ^ r.val) fullShare f : sProp 𝕄)
      ⊢ bigSep (ms n : Finset (Fin 32)) fun r => iprop(∃ f, outP c (2 ^ r.val) fullShare f) := bigSep_mono fun r _ =>
      (show outP c (2 ^ r.val) fullShare f ⊢ (iprop(∃ f, outP c (2 ^ r.val) fullShare f) : sProp 𝕄) from by
    iintro H
    iexists f
    iexact H)
  iapply hm
  iexact H'

theorem blk_mono (c : Dev nD) {a b : ℕ} (h : a &&& b = b) : blk c b ⊆ blk c a := fun i hi => by
  rw [mem_blk] at hi ⊢
  have := congrArg (fun n => n.testBit (rel c (i 0)).val) h
  simp only [Nat.testBit_and, hi, Bool.and_true] at this
  exact this

/-- Rows of the summand's staging array, as a slice's points-to. -/
theorem xP_slice (c : Dev nD) (n : ℕ) (f : FVec F S512x512 .f32) {off size : Fin 2 → ℕ}
    (inb : ∀ a, off a + size a ≤ S512x512.size a) (h) (hs : (Rect.unit (s := S512x512) off size inb).set = blk c n) :
    (xP c n f : sProp 𝕄) = ((xM.slice (Rect.unit (s := S512x512) off size inb) h).view.loc (c : Thread nD τ)
      ↦[(xM.slice (Rect.unit (s := S512x512) off size inb) h).view.set]{fullShare} f) := by
  unfold xP
  rw [← hs, ← xM_set]

/-! ## The state -/

/-- Copy `32 + i` of the reduction. -/
def ri (i : Fin 9) : Fin 46 := ⟨32 + i.val, by omega⟩
theorem ri_isCp (i : Fin 9) : IsCp (ri i) := ⟨by show 0 < 32 + i.val; omega, by show 32 + i.val < 41; omega⟩

/-- The partner's landing buffer of copy `32 + i`. -/
def pbuf (c : Dev nD) (i : Fin 9) : sProp 𝕄 := bufAny (pk (rnd (ri i)) c) i
/-- The rows of the result that hold the sums after rounds 1 to 5. -/
def sums (I : Inp F) (c : Dev nD) (V : Fin 5 → ℕ) : sProp 𝕄 :=
  bigSep Finset.univ fun k : Fin 5 => outP c (V k) fullShare (A I (k.val + 1) c)
def upd (V : Fin 5 → ℕ) (k : Fin 5) (a : ℕ) : Fin 5 → ℕ := fun j => if j = k then V j ^^^ a else V j

theorem sums_split (I : Inp F) (c : Dev nD) (V : Fin 5 → ℕ) (k : Fin 5) :
    (sums I c V : sProp 𝕄) = iprop(outP c (V k) fullShare (A I (k.val + 1) c)
      ∗ bigSep (Finset.univ.erase k) fun k : Fin 5 => outP c (V k) fullShare (A I (k.val + 1) c)) := by
  unfold sums
  exact bigSep_erase (Finset.mem_univ k)
theorem sums_rest (I : Inp F) (c : Dev nD) (V : Fin 5 → ℕ) (k : Fin 5) (a : ℕ) :
    (bigSep (Finset.univ.erase k) fun j : Fin 5 => outP c (upd V k a j) fullShare (A I (j.val + 1) c) : sProp 𝕄)
      = bigSep (Finset.univ.erase k) fun j : Fin 5 => outP c (V j) fullShare (A I (j.val + 1) c) :=
  bigSep_congr fun j hj => by unfold upd; rw [if_neg (Finset.ne_of_mem_erase hj)]

theorem sums_take (I : Inp F) (c : Dev nD) (V : Fin 5 → ℕ) (k : Fin 5) (a : ℕ) (h : V k &&& a = a) :
    (sums I c V : sProp 𝕄) ⊢ iprop(outP c a fullShare (A I (k.val + 1) c) ∗ sums I c (upd V k a)) := by
  rw [sums_split I c V k, sums_split I c (upd V k a) k, sums_rest, show upd V k a k = V k ^^^ a from if_pos rfl]
  iintro ⟨H, Hr⟩
  ihave H' := (outP_take c _ a fullShare _ h) $$ H
  icases H' with ⟨H₁, H₂⟩
  isplitl [H₁]; · iexact H₁
  isplitl [H₂] <;> iassumption
theorem sums_put (I : Inp F) (c : Dev nD) (V : Fin 5 → ℕ) (k : Fin 5) (a : ℕ) (h : V k &&& a = 0) :
    iprop(outP c a fullShare (A I (k.val + 1) c) ∗ sums I c V) ⊢ (sums I c (upd V k a) : sProp 𝕄) := by
  rw [sums_split I c V k, sums_split I c (upd V k a) k, sums_rest, show upd V k a k = V k ^^^ a from if_pos rfl]
  iintro ⟨H, H₁, Hr⟩
  isplitl [H H₁]
  · iapply (outP_put c _ a fullShare _ h)
    isplitl [H] <;> iassumption
  iexact Hr

/-- What the reduction does not touch until its end. -/
def RC (I : Inp F) (c : Dev nD) : sProp 𝕄 :=
  iprop(cred (tallyAt (oCell c 80) () 1024) ∗ ((c : Thread nD τ).loc cc0_stg1_0 ↦{fullShare} I.g c) ∗ atPos ER (bCell c) 1 ∅ 0)

structure Rst where
  n : ℕ
  w : ℕ
  T : ℕ
  D : ℕ
  B : ℕ
  L : ℕ
  U : ℕ
  X : ℕ
  V : Fin 5 → ℕ

def RG (I : Inp F) (c : Dev nD) (m : Rst) : sProp 𝕄 :=
  iprop(rctx c ∗ St c m.n m.w m.T ∗ bigSep (ms m.D : Finset (Fin 32)) (dstP c) ∗ bigSep (ms m.B : Finset (Fin 9)) (pbuf c)
    ∗ bigSep (ms m.L : Finset (Fin 9)) (bufLand I c) ∗ outAny c m.U ∗ sums I c m.V ∗ xP c m.X (I.x c) ∗ RC I c)

theorem RG_eq (I : Inp F) (c : Dev nD) (m m' : Rst) (h : m.n = m'.n ∧ m.w = m'.w ∧ m.T = m'.T ∧ m.D = m'.D ∧ m.B = m'.B ∧ m.L = m'.L
    ∧ m.U = m'.U ∧ m.X = m'.X ∧ ∀ k, m.V k = m'.V k) : (RG I c m : sProp 𝕄) ⊢ RG I c m' := by
  obtain ⟨h₁, h₂, h₃, h₄, h₅, h₆, h₇, h₈, h₉⟩ := h
  have : m = m' := by cases m; cases m'; simp only at *; subst h₁ h₂ h₃ h₄ h₅ h₆ h₇ h₈; congr; exact funext h₉
  rw [this]

/-! ## The steps -/

section Ops
variable {I : Inp F} {K : GSem nD τ sig → ℕ} {c : Dev nD} {α : Type} {R : α → sProp (MT nD τ sig Unit (Elt F) ℕ UU ℕ)} {m : Rst}

theorem outAny_dst (i : Fin 9) : (outAny (pk (rnd (ri i)) c) (sent i) : sProp 𝕄) ⊢ bigSep (ms (sent i) : Finset (Fin 32)) (dstP c) := by
  have hlt : ∀ i : Fin 9, sent i < 2 ^ 32 := by decide +kernel
  have hr : ∀ (i : Fin 9) (r : Fin 32), (sent i).testBit r.val = true → rnd (cp r) = rnd (ri i) := by decide +kernel
  refine (outAny_blocks _ _ (hlt i)).trans (Entails.of_eq (bigSep_congr fun r hm => ?_))
  unfold dstP
  rw [hr i r (mem_ms.mp hm)]

section Copy
variable (i : Fin 9) {n : Dev nD} (hn : n = pk (rnd (ri i)) c) {off size : Fin 2 → ℕ} {inb : ∀ a, off a + size a ≤ S512x512.size a}
  (hs : (Rect.unit (s := S512x512) off size inb).set = blk c (sent i))
  {dst : Memref sig .tc .vmem (Rect.unit (s := S512x512) off size inb).shape .f32} {sS sR : DmaSem sig} (hsS : SemLoc.dma sS = osem (sj (ri i))) (hsR : SemLoc.dma sR = osem (rj (ri i)))
  (hN : dst.view.dmaCredit = amt (ri i))
  {hsc : (dst : Memref sig (Dev.tc n : Thread nD τ).2.kind .vmem (Rect.unit (s := S512x512) off size inb).shape .f32).view.ref.isScScratch = false}
  {hdst : dst.view.WordExact}
  {hsem : DmaTarget.Typed .vmem (.dma sR) (.remote (Dev.tc n : Thread nD τ) (dst : Memref sig .tc .vmem (Rect.unit (s := S512x512) off size inb).shape .f32) (.dma sS) hsc)}
  (hany : ∀ d : Dev nD, (bufAny d i : sProp (MT nD τ sig Unit (Elt F) ℕ UU ℕ)) = anyP dst d)
  {k : PUnit → Prog (TpuEff nD τ sig (Elt F) Λ₀ .tc) α}

include hn hs hsS hsR hN hany

/-- A copy of rows of the summand: they come back when it has been read out. -/
theorem hr_send_x {hst} {hsrc : (xM.slice (Rect.unit (s := S512x512) off size inb) hst).view.WordExact}
    (hland : (bufLand I (pk (rnd (ri i)) c) i : sProp (MT nD τ sig Unit (Elt F) ℕ UU ℕ)) = landP dst (pk (rnd (ri i)) c) ((xM.slice (Rect.unit (s := S512x512) off size inb) hst).view.read (Elt F) (I.x c)))
    (hi : i.val < 2)
    (h : m.n.testBit (ri i).val = true ∧ m.T.testBit (ri i).val = false ∧ m.B.testBit i.val = true ∧ m.X &&& sent i = sent i ∧ m.U &&& sent i = sent i)
    (hk : Hr I K c (RG I c { m with n := m.n ^^^ 2 ^ (ri i).val, T := m.T ^^^ 2 ^ (ri i).val, B := m.B ^^^ 2 ^ i.val, X := m.X ^^^ sent i, U := m.U ^^^ sent i }) (k ⟨⟩) R) :
    Hr I K c (RG I c m) (.op (.enqueueDma (xM.slice (Rect.unit (s := S512x512) off size inb) hst) (.remote (Dev.tc n : Thread nD τ) dst (.dma sS) hsc) (.dma sR) hsrc hdst hsem) k) R := by
  obtain ⟨h₁, h₂, h₃, h₄, h₅⟩ := h
  intro Q
  unfold RG
  rw [take_bit (N := 9) m.B i h₃]
  iintro ⟨#Hc, #Hr, HS, HD, ⟨Hb, HB⟩, HL, HU, HV, HX, HC⟩ Hk
  unfold rctx
  icases Hr with ⟨#Hr0, #Hrs⟩
  ihave #Hrp := (elim_of (fun k : Fin 5 => reachedAll (F := F) (pk k c)) (Finset.mem_univ (rnd (ri i)))) $$ Hrs
  ihave Hb' := (Entails.of_eq (show pbuf c i = iprop(∃ f : Buf (Elt F) (dst.view.loc (pk (rnd (ri i)) c : Thread nD τ)), dst.view.loc (pk (rnd (ri i)) c : Thread nD τ) ↦[dst.view.set]{fullShare} f) from hany _)) $$ Hb
  icases Hb' with ⟨%fd, Hb⟩
  ihave HX' := (xP_take c m.X (sent i) (I.x c) h₄) $$ HX
  icases HX' with ⟨Hx, HX⟩
  ihave HU' := (outAny_take c m.U (sent i) h₅) $$ HU
  icases HU' with ⟨Hu, HU⟩
  ihave Hx' := (Entails.of_eq (xP_slice c _ (I.x c) inb hst hs)) $$ Hx
  iapply (send_step I K c (ri i) (ri_isCp i) hn hsS hsR hN (I.x c) fd fullShare (outAny c (sent i)) m.n m.w m.T h₁ h₂ false
    (by
      show ((xM.slice (Rect.unit (s := S512x512) off size inb) hst).view.loc (c : Thread nD τ) ↦[(xM.slice (Rect.unit (s := S512x512) off size inb) hst).view.set]{fullShare} I.x c : sProp 𝕄) ⊢ _
      rw [← xP_slice c _ _ inb hst hs]
      have hm : sent i = if (ri i).val = 32 then 4278190080 else 16711680 :=
        (by decide +kernel : ∀ i : Fin 9, i.val < 2 → sent i = if (ri i).val = 32 then 4278190080 else 16711680) i hi
      unfold sPay
      rw [dif_neg (show ¬ (ri i).val < 32 by show ¬ 32 + i.val < 32; omega), if_pos (show (ri i).val < 34 by show 32 + i.val < 34; omega), ← hm])
    (by
      show iprop(_ ∗ outAny c (sent i)) ⊢ _
      have hi' : (⟨(ri i).val - 32, by have := i.isLt; show 32 + i.val - 32 < 9; omega⟩ : Fin 9) = i := Fin.ext (by show 32 + i.val - 32 = i.val; omega)
      unfold rPay
      rw [dif_neg (show ¬ (ri i).val < 32 by show ¬ 32 + i.val < 32; omega), dif_pos (show (ri i).val < 41 by have := i.isLt; show 32 + i.val < 41; omega), hi', pk_pk, hland]
      unfold landP
      iintro ⟨H, Hu⟩
      isplitl [H]
      · iexists (dst.view.write (Elt F) fd ((xM.slice (Rect.unit (s := S512x512) off size inb) hst).view.read (Elt F) (I.x c)) Finset.univ)
        isplitr
        · ipureintro; exact View.read_write_univ _ _
        iexact H
      iexact Hu)) $$ [HS Hx' Hb Hu]
  · isplitr; · iexact Hc
    isplitr; · iexact Hr0
    isplitr; · iexact Hrp
    isplitl [HS]; · iexact HS
    isplitl [Hx']; · iexact Hx'
    isplitl [Hb] <;> iassumption
  iintro HS
  iapply (hk Q) $$ [HS HD HB HL HU HV HX HC]
  · isplitr; · iexact Hc
    unfold RG rctx
    isplitr; · (isplitr; · iexact Hr0); iexact Hrs
    isplitl [HS]; · iexact HS
    isplitl [HD]; · iexact HD
    isplitl [HB]; · iexact HB
    isplitl [HL]; · iexact HL
    isplitl [HU]; · iexact HU
    isplitl [HV]; · iexact HV
    isplitl [HX] <;> iassumption
  iexact Hk

/-- A copy of rows of partial sums: they go to the receiver, with the landing. -/
theorem hr_send_o (v : Fin 5) {hst} {hsrc : (oM.slice (Rect.unit (s := S512x512) off size inb) hst).view.WordExact}
    (hland : (bufLand I (pk (rnd (ri i)) c) i : sProp (MT nD τ sig Unit (Elt F) ℕ UU ℕ)) = landP dst (pk (rnd (ri i)) c) ((oM.slice (Rect.unit (s := S512x512) off size inb) hst).view.read (Elt F) (A I (v.val + 1) c)))
    (hi : 2 ≤ i.val)
    (h : m.n.testBit (ri i).val = true ∧ m.T.testBit (ri i).val = false ∧ m.B.testBit i.val = true ∧ m.V v &&& sent i = sent i)
    (hk : Hr I K c (RG I c { m with n := m.n ^^^ 2 ^ (ri i).val, T := m.T ^^^ 2 ^ (ri i).val, B := m.B ^^^ 2 ^ i.val, V := upd m.V v (sent i) }) (k ⟨⟩) R) :
    Hr I K c (RG I c m) (.op (.enqueueDma (oM.slice (Rect.unit (s := S512x512) off size inb) hst) (.remote (Dev.tc n : Thread nD τ) dst (.dma sS) hsc) (.dma sR) hsrc hdst hsem) k) R := by
  obtain ⟨h₁, h₂, h₃, h₄⟩ := h
  intro Q
  unfold RG
  rw [take_bit (N := 9) m.B i h₃]
  iintro ⟨#Hc, #Hr, HS, HD, ⟨Hb, HB⟩, HL, HU, HV, HX, HC⟩ Hk
  unfold rctx
  icases Hr with ⟨#Hr0, #Hrs⟩
  ihave #Hrp := (elim_of (fun k : Fin 5 => reachedAll (F := F) (pk k c)) (Finset.mem_univ (rnd (ri i)))) $$ Hrs
  ihave Hb' := (Entails.of_eq (show pbuf c i = iprop(∃ f : Buf (Elt F) (dst.view.loc (pk (rnd (ri i)) c : Thread nD τ)), dst.view.loc (pk (rnd (ri i)) c : Thread nD τ) ↦[dst.view.set]{fullShare} f) from hany _)) $$ Hb
  icases Hb' with ⟨%fd, Hb⟩
  ihave HV' := (sums_take I c m.V v (sent i) h₄) $$ HV
  icases HV' with ⟨Hx, HV⟩
  ihave Hx' := (Entails.of_eq (outP_slice c _ fullShare (A I (v.val + 1) c) inb hst hs)) $$ Hx
  iapply (send_step I K c (ri i) (ri_isCp i) hn hsS hsR hN (A I (v.val + 1) c) fd fullShare iprop(emp) m.n m.w m.T h₁ h₂ true
    (by
      rw [cond_true]
      unfold sPay
      rw [dif_neg (show ¬ (ri i).val < 32 by show ¬ 32 + i.val < 32; omega), if_neg (show ¬ (ri i).val < 34 by show ¬ 32 + i.val < 34; omega)])
    (by
      rw [cond_true]
      rw [← outP_slice c _ _ _ inb hst hs]
      have hi' : (⟨(ri i).val - 32, by have := i.isLt; show 32 + i.val - 32 < 9; omega⟩ : Fin 9) = i := Fin.ext (by show 32 + i.val - 32 = i.val; omega)
      unfold rPay
      rw [dif_neg (show ¬ (ri i).val < 32 by show ¬ 32 + i.val < 32; omega), dif_pos (show (ri i).val < 41 by have := i.isLt; show 32 + i.val < 41; omega), hi', pk_pk, hland]
      unfold landP outAny
      iintro ⟨⟨H, -⟩, Hu⟩
      isplitl [H]
      · iexists (dst.view.write (Elt F) fd ((oM.slice (Rect.unit (s := S512x512) off size inb) hst).view.read (Elt F) (A I (v.val + 1) c)) Finset.univ)
        isplitr
        · ipureintro; exact View.read_write_univ _ _
        iexact H
      iexists (A I (v.val + 1) c)
      iexact Hu)) $$ [HS Hx' Hb]
  · isplitr; · iexact Hc
    isplitr; · iexact Hr0
    isplitr; · iexact Hrp
    isplitl [HS]; · iexact HS
    isplitl [Hx']; · iexact Hx'
    isplitl [Hb]; · iexact Hb
    iempintro
  iintro HS
  iapply (hk Q) $$ [HS HD HB HL HU HV HX HC]
  · isplitr; · iexact Hc
    unfold RG rctx
    isplitr; · (isplitr; · iexact Hr0); iexact Hrs
    isplitl [HS]; · iexact HS
    isplitl [HD]; · iexact HD
    isplitl [HB]; · iexact HB
    isplitl [HL]; · iexact HL
    isplitl [HU]; · iexact HU
    isplitl [HV]; · iexact HV
    isplitl [HX] <;> iassumption
  iexact Hk
end Copy

section Wait
variable {sp sp' : Space} {s s' : Shape} {e e' : EltTy} {src : Memref sig .tc sp' s' e'} {dst : Memref sig .tc sp s e} {sm : DmaSem sig}
  {hsrc : src.view.WordExact} {hdst : dst.view.WordExact} {k : PUnit → Prog (TpuEff nD τ sig (Elt F) Λ₀ .tc) α}

/-- A wait for a landing: the partner's sums have landed, and the partner's blocks may be filled later. -/
theorem hr_recv (i : Fin 9) (hsm : SemLoc.dma sm = osem (rj (ri i))) (hN : dst.view.dmaCredit = amt (ri i))
    (h : m.w.testBit (rj (ri i)).val = true ∧ m.n.testBit 0 = false ∧ m.L.testBit i.val = false ∧ m.D &&& sent i = 0
      ∧ ∀ y : Fin 46, m.n.testBit y.val = true → tlv (ri i) < tlv y)
    (hk : Hr I K c (RG I c { m with w := m.w ^^^ 2 ^ (rj (ri i)).val, L := m.L ^^^ 2 ^ i.val, D := m.D ^^^ sent i }) (k ⟨⟩) R) :
    Hr I K c (RG I c m) (.op (.waitDma2 sm src dst hsrc hdst) k) R := by
  obtain ⟨h₁, h₂, h₃, h₄, h₅⟩ := h
  intro Q
  unfold RG
  iintro ⟨#Hc, #Hr, HS, HD, HB, HL, HU, HV, HX, HC⟩ Hk
  iapply (recv_step I K c m.n m.w m.T (ri i) (ri_isCp i) hsm hN h₁ h₂ h₅) $$ [HS]
  · isplitr; · iexact Hc
    iexact HS
  iintro ⟨HS, Hp⟩
  have hi' : (⟨(ri i).val - 32, by have := i.isLt; show 32 + i.val - 32 < 9; omega⟩ : Fin 9) = i := Fin.ext (by show 32 + i.val - 32 = i.val; omega)
  have hp : (rPay I c (ri i) : sProp 𝕄) = iprop(bufLand I c i ∗ outAny (pk (rnd (ri i)) c) (sent i)) := by
    unfold rPay
    rw [dif_neg (show ¬ (ri i).val < 32 by show ¬ 32 + i.val < 32; omega), dif_pos (show (ri i).val < 41 by have := i.isLt; show 32 + i.val < 41; omega), hi']
  ihave Hp' := (Entails.of_eq hp) $$ Hp
  icases Hp' with ⟨Hl, Hd⟩
  ihave Hd' := (outAny_dst (c := c) i) $$ Hd
  iapply (hk Q) $$ [HS HD HB HL HU HV HX HC Hl Hd']
  · isplitr; · iexact Hc
    unfold RG
    isplitr; · iexact Hr
    isplitl [HS]; · iexact HS
    isplitl [HD Hd']
    · iapply (Entails.of_eq (ms_xor (Φ := dstP (F := F) c) m.D (sent i) h₄).symm)
      isplitl [HD] <;> iassumption
    isplitl [HB]; · iexact HB
    isplitl [HL Hl]
    · iapply (Entails.of_eq (put_bit (N := 9) (Φ := bufLand I c) m.L i h₃).symm)
      isplitl [Hl] <;> iassumption
    isplitl [HU]; · iexact HU
    isplitl [HV]; · iexact HV
    isplitl [HX] <;> iassumption
  iexact Hk

/-- A wait for a copy's read-out, after the first two: the summand's rows come back. -/
theorem hr_sent (i : Fin 9) (hsm : SemLoc.dma sm = osem (sj (ri i))) (hN : dst.view.dmaCredit = amt (ri i))
    (h : m.w.testBit (sj (ri i)).val = true ∧ m.T.testBit (ri i).val = true ∧ m.n.testBit 0 = false ∧ (i.val < 2 → m.X &&& sent i = 0))
    (hk : Hr I K c (RG I c { m with w := m.w ^^^ 2 ^ (sj (ri i)).val, T := m.T ^^^ 2 ^ (ri i).val, X := if i.val < 2 then m.X ^^^ sent i else m.X }) (k ⟨⟩) R) :
    Hr I K c (RG I c m) (.op (.waitDma2 sm src dst hsrc hdst) k) R := by
  obtain ⟨h₁, h₂, h₃, h₄⟩ := h
  intro Q
  unfold RG
  iintro ⟨#Hc, #Hr, HS, HD, HB, HL, HU, HV, HX, HC⟩ Hk
  iapply (sent_step I K c m.n m.w m.T (ri i) (ri_isCp i) hsm hN h₁ h₂ h₃) $$ [HS]
  · isplitr; · iexact Hc
    iexact HS
  iintro ⟨HS, Hp⟩
  have hm : i.val < 2 → sent i = if (ri i).val = 32 then 4278190080 else 16711680 :=
    (by decide +kernel : ∀ i : Fin 9, i.val < 2 → sent i = if (ri i).val = 32 then 4278190080 else 16711680) i
  have hx : iprop(sPay I c (ri i) ∗ xP c m.X (I.x c)) ⊢ (xP c (if i.val < 2 then m.X ^^^ sent i else m.X) (I.x c) : sProp 𝕄) := by
    unfold sPay
    rw [dif_neg (show ¬ (ri i).val < 32 by show ¬ 32 + i.val < 32; omega)]
    by_cases hi : i.val < 2
    · rw [if_pos (show (ri i).val < 34 by show 32 + i.val < 34; omega), if_pos hi, ← hm hi]
      exact xP_put c m.X (sent i) (I.x c) (h₄ hi)
    · rw [if_neg (show ¬ (ri i).val < 34 by show ¬ 32 + i.val < 34; omega), if_neg hi]
      iintro ⟨-, H⟩
      iexact H
  ihave HX' := hx $$ [Hp HX]
  · isplitl [Hp] <;> iassumption
  iapply (hk Q) $$ [HS HD HB HL HU HV HX' HC]
  · isplitr; · iexact Hc
    unfold RG
    isplitr; · iexact Hr
    isplitl [HS]; · iexact HS
    isplitl [HD]; · iexact HD
    isplitl [HB]; · iexact HB
    isplitl [HL]; · iexact HL
    isplitl [HU]; · iexact HU
    isplitl [HV]; · iexact HV
    isplitl [HX'] <;> iassumption
  iexact Hk
end Wait

section Access
variable {off size : Fin 2 → ℕ} {inb : ∀ a, off a + size a ≤ S512x512.size a} {b : ℕ}

/-- A load of rows of the summand. -/
theorem hr_ld_x (hs : (Rect.unit (s := S512x512) off size inb).set = blk c b) {hl : xM.view.LoadsAt (Rect.unit (s := S512x512) off size inb).toLoadRect}
    {k : ((Rect.unit (s := S512x512) off size inb).shape.Idx → Elt F .f32) → Prog (TpuEff nD τ sig (Elt F) Λ₀ .tc) α} (h : m.X &&& b = b)
    (hk : Hr I K c (RG I c m) (k ((oM.slice (Rect.unit (s := S512x512) off size inb) (fun _ => rfl)).view.read (Elt F) (A I 0 c))) R) :
    Hr I K c (RG I c m) (.op (.load xM (Rect.unit (s := S512x512) off size inb).toLoadRect hl) k) R := by
  intro Q
  unfold RG
  iintro ⟨#Hc, #Hr, HS, HD, HB, HL, HU, HV, HX, HC⟩ Hk
  unfold xP WP
  iapply (wp_load_rect 𝒱₀ (c : Thread nD τ) none Set.univ (m := xM) (show (xM.access (Rect.unit (s := S512x512) off size inb)).set ⊆ blk c m.X by
    rw [xM_set, hs]; exact blk_mono c h)) $$ HX
  iintro HX
  iapply (hk Q) $$ [HS HD HB HL HU HV HX HC]
  · isplitr; · iexact Hc
    unfold RG xP
    isplitr; · iexact Hr
    isplitl [HS]; · iexact HS
    isplitl [HD]; · iexact HD
    isplitl [HB]; · iexact HB
    isplitl [HL]; · iexact HL
    isplitl [HU]; · iexact HU
    isplitl [HV]; · iexact HV
    isplitl [HX] <;> iassumption
  iexact Hk

/-- A load of rows of partial sums. -/
theorem hr_ld_o (v : Fin 5) (hs : (Rect.unit (s := S512x512) off size inb).set = blk c b) {hl : oM.view.LoadsAt (Rect.unit (s := S512x512) off size inb).toLoadRect}
    {k : ((Rect.unit (s := S512x512) off size inb).shape.Idx → Elt F .f32) → Prog (TpuEff nD τ sig (Elt F) Λ₀ .tc) α} (h : m.V v &&& b = b)
    (hk : Hr I K c (RG I c m) (k ((oM.slice (Rect.unit (s := S512x512) off size inb) (fun _ => rfl)).view.read (Elt F) (A I (v.val + 1) c))) R) :
    Hr I K c (RG I c m) (.op (.load oM (Rect.unit (s := S512x512) off size inb).toLoadRect hl) k) R := by
  intro Q
  unfold RG
  rw [sums_split I c m.V v]
  iintro ⟨#Hc, #Hr, HS, HD, HB, HL, HU, ⟨Hv, HV⟩, HX, HC⟩ Hk
  unfold outP WP
  iapply (wp_load_rect 𝒱₀ (c : Thread nD τ) none Set.univ (m := oM) (show (oM.access (Rect.unit (s := S512x512) off size inb)).set ⊆ blk c (m.V v) by
    rw [oM_set, hs]; exact blk_mono c h)) $$ Hv
  iintro Hv
  iapply (hk Q) $$ [HS HD HB HL HU HV HX HC Hv]
  · isplitr; · iexact Hc
    unfold RG
    rw [sums_split I c m.V v]
    unfold outP
    isplitr; · iexact Hr
    isplitl [HS]; · iexact HS
    isplitl [HD]; · iexact HD
    isplitl [HB]; · iexact HB
    isplitl [HL]; · iexact HL
    isplitl [HU]; · iexact HU
    isplitl [HV Hv]; · isplitl [Hv] <;> iassumption
    isplitl [HX] <;> iassumption
  iexact Hk

/-- A load of result rows at anything, whose value is not used. -/
theorem hr_ld_u (hs : (Rect.unit (s := S512x512) off size inb).set = blk c b) {hl : oM.view.LoadsAt (Rect.unit (s := S512x512) off size inb).toLoadRect}
    {k : ((Rect.unit (s := S512x512) off size inb).shape.Idx → Elt F .f32) → Prog (TpuEff nD τ sig (Elt F) Λ₀ .tc) α} (h : m.U &&& b = b)
    (hk : ∀ v, Hr I K c (RG I c m) (k v) R) :
    Hr I K c (RG I c m) (.op (.load oM (Rect.unit (s := S512x512) off size inb).toLoadRect hl) k) R := by
  intro Q
  unfold RG outAny
  iintro ⟨#Hc, #Hr, HS, HD, HB, HL, ⟨%f, HU⟩, HV, HX, HC⟩ Hk
  unfold outP WP
  iapply (wp_load_rect 𝒱₀ (c : Thread nD τ) none Set.univ (m := oM) (show (oM.access (Rect.unit (s := S512x512) off size inb)).set ⊆ blk c m.U by
    rw [oM_set, hs]; exact blk_mono c h)) $$ HU
  iintro HU
  iapply (hk _ Q) $$ [HS HD HB HL HU HV HX HC]
  · isplitr; · iexact Hc
    unfold RG outAny outP
    isplitr; · iexact Hr
    isplitl [HS]; · iexact HS
    isplitl [HD]; · iexact HD
    isplitl [HB]; · iexact HB
    isplitl [HL]; · iexact HL
    isplitl [HU]; · iexists f; iexact HU
    isplitl [HV]; · iexact HV
    isplitl [HX] <;> iassumption
  iexact Hk

/-- A store over rows: they hold what the stored value reads. -/
theorem st_rows (hs : (Rect.unit (s := S512x512) off size inb).set = blk c b) {w : (Rect.unit (s := S512x512) off size inb).shape.Idx → Elt F .f32}
    {hx : (oM.access (Rect.unit (s := S512x512) off size inb)).Stores Finset.univ} {hm}
    {k : PUnit → Prog (TpuEff nD τ sig (Elt F) Λ₀ .tc) α} (f g : FVec F S512x512 .f32)
    (hw : w = (oM.slice (Rect.unit (s := S512x512) off size inb) (fun _ => rfl)).view.read (Elt F) g) (Q : α → sProp 𝕄) :
    (outP c b fullShare f : sProp 𝕄) ⊢ iprop((outP c b fullShare g -∗ WP c (k ⟨⟩) Q)
      -∗ WP c (.op (.store oM (Rect.unit (s := S512x512) off size inb) w Finset.univ hx hm) k) Q) := by
  subst hw
  unfold WP
  have e := fun f => outP_slice (F := F) c b fullShare f inb (fun _ => rfl) hs
  rw [e f, e g]
  iintro H Hk
  iapply (wp_store 𝒱₀ (c : Thread nD τ) none Set.univ (m := oM) (r := Rect.unit (s := S512x512) off size inb) (S := ((oM.slice (Rect.unit (s := S512x512) off size inb) (fun _ => rfl)).view.set)) subset_rfl) $$ H
  iintro H
  iapply Hk
  iapply (Entails.of_eq (write_read_same c (oM.access (Rect.unit (s := S512x512) off size inb)) fullShare f g))
  iexact H

/-- The first sums of rows, stored over anything. -/
theorem hr_st_u (hs : (Rect.unit (s := S512x512) off size inb).set = blk c b) {w : (Rect.unit (s := S512x512) off size inb).shape.Idx → Elt F .f32}
    {hx : (oM.access (Rect.unit (s := S512x512) off size inb)).Stores Finset.univ} {hm}
    {k : PUnit → Prog (TpuEff nD τ sig (Elt F) Λ₀ .tc) α}
    (hw : w = (oM.slice (Rect.unit (s := S512x512) off size inb) (fun _ => rfl)).view.read (Elt F) (A I 1 c))
    (h : m.U &&& b = b ∧ m.V 0 &&& b = 0)
    (hk : Hr I K c (RG I c { m with U := m.U ^^^ b, V := upd m.V 0 b }) (k ⟨⟩) R) :
    Hr I K c (RG I c m) (.op (.store oM (Rect.unit (s := S512x512) off size inb) w Finset.univ hx hm) k) R := by
  intro Q
  unfold RG
  iintro ⟨#Hc, #Hr, HS, HD, HB, HL, HU, HV, HX, HC⟩ Hk
  ihave HU' := (outAny_take c m.U b h.1) $$ HU
  icases HU' with ⟨Hu, HU⟩
  unfold outAny
  icases Hu with ⟨%f, Hu⟩
  iapply (st_rows (c := c) hs f (A I 1 c) hw Q) $$ Hu
  iintro Hu
  ihave HV' := (sums_put I c m.V 0 b h.2) $$ [HV Hu]
  · isplitl [Hu]; · iexact Hu
    iexact HV
  iapply (hk Q) $$ [HS HD HB HL HU HV' HX HC]
  · isplitr; · iexact Hc
    unfold RG outAny
    isplitr; · iexact Hr
    isplitl [HS]; · iexact HS
    isplitl [HD]; · iexact HD
    isplitl [HB]; · iexact HB
    isplitl [HL]; · iexact HL
    isplitl [HU]; · iexact HU
    isplitl [HV']; · iexact HV'
    isplitl [HX] <;> iassumption
  iexact Hk

/-- The next sums of rows, stored over the sums before. -/
theorem hr_st_o (v v' : Fin 5) (hs : (Rect.unit (s := S512x512) off size inb).set = blk c b) {w : (Rect.unit (s := S512x512) off size inb).shape.Idx → Elt F .f32}
    {hx : (oM.access (Rect.unit (s := S512x512) off size inb)).Stores Finset.univ} {hm}
    {k : PUnit → Prog (TpuEff nD τ sig (Elt F) Λ₀ .tc) α}
    (hw : w = (oM.slice (Rect.unit (s := S512x512) off size inb) (fun _ => rfl)).view.read (Elt F) (A I (v'.val + 1) c))
    (h : m.V v &&& b = b ∧ upd m.V v b v' &&& b = 0)
    (hk : Hr I K c (RG I c { m with V := upd (upd m.V v b) v' b }) (k ⟨⟩) R) :
    Hr I K c (RG I c m) (.op (.store oM (Rect.unit (s := S512x512) off size inb) w Finset.univ hx hm) k) R := by
  intro Q
  unfold RG
  iintro ⟨#Hc, #Hr, HS, HD, HB, HL, HU, HV, HX, HC⟩ Hk
  ihave HV' := (sums_take I c m.V v b h.1) $$ HV
  icases HV' with ⟨Hu, HV⟩
  iapply (st_rows (c := c) hs _ (A I (v'.val + 1) c) hw Q) $$ Hu
  iintro Hu
  ihave HV' := (sums_put I c _ v' b h.2) $$ [HV Hu]
  · isplitl [Hu] <;> iassumption
  iapply (hk Q) $$ [HS HD HB HL HU HV' HX HC]
  · isplitr; · iexact Hc
    unfold RG
    isplitr; · iexact Hr
    isplitl [HS]; · iexact HS
    isplitl [HD]; · iexact HD
    isplitl [HB]; · iexact HB
    isplitl [HL]; · iexact HL
    isplitl [HU]; · iexact HU
    isplitl [HV']; · iexact HV'
    isplitl [HX] <;> iassumption
  iexact Hk
end Access

/-- A load of a landing buffer. -/
theorem hr_ld_b (i : Fin 9) {s₀ : Shape} {M : Memref sig .tc .vmem s₀ .f32} {r : Rect s₀} (hr : ∀ a, r.stride a = 1)
    (v : r.shape.Idx → Elt F .f32) (hb : (bufLand I c i : sProp (MT nD τ sig Unit (Elt F) ℕ UU ℕ)) = landP (M.slice r hr) c v) {hl : M.view.LoadsAt r.toLoadRect}
    {k : (r.shape.Idx → Elt F .f32) → Prog (TpuEff nD τ sig (Elt F) Λ₀ .tc) α} (h : m.L.testBit i.val = true)
    (hk : Hr I K c (RG I c m) (k v) R) :
    Hr I K c (RG I c m) (.op (.load M r.toLoadRect hl) k) R := by
  intro Q
  unfold RG
  have et : (bigSep (ms m.L : Finset (Fin 9)) (bufLand I c) : sProp 𝕄) = iprop(landP (M.slice r hr) c v ∗ bigSep (ms (m.L ^^^ 2 ^ i.val) : Finset (Fin 9)) (bufLand I c)) := by
    rw [take_bit (N := 9) m.L i h, hb]
  rw [et]
  iintro ⟨#Hc, #Hr, HS, HD, HB, ⟨Hl, HL⟩, HU, HV, HX, HC⟩ Hk
  unfold landP WP
  icases Hl with ⟨%f, %hf, Hl⟩
  iapply (wp_load_rect 𝒱₀ (c : Thread nD τ) none Set.univ (m := M) (r := r) (f := f) subset_rfl) $$ Hl
  iintro Hl
  rw [show (M.access r).read (Elt F) f = v from hf]
  iapply (hk Q) $$ [HS HD HB HL HU HV HX HC Hl]
  · isplitr; · iexact Hc
    unfold RG
    rw [et]
    isplitr; · iexact Hr
    isplitl [HS]; · iexact HS
    isplitl [HD]; · iexact HD
    isplitl [HB]; · iexact HB
    isplitl [HL Hl]
    · isplitl [Hl]
      · unfold landP
        iexists f
        isplitr
        · ipureintro; exact hf
        iexact Hl
      iexact HL
    isplitl [HU]; · iexact HU
    isplitl [HV]; · iexact HV
    isplitl [HX] <;> iassumption
  iexact Hk
end Ops

end Cert.KernelIdeal.Pf
-- ==== Proof.I.ReduceParts.lean ====
/-
  The reduction's parts of the kernel's text, from state to state.
-/
module

public import Idealize.ShloMosaic.Lib.Pipeline.Value
public import proofs.«01_k».proof.Proof.I.Reduce

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : GSem nD τ sig → ℕ) (c : Dev nD)

/-! ## What lands, and what is stored -/

/-- Rows read at equal offsets are equal. -/
theorem rd_congr {off off' size : Fin 2 → ℕ} (h : off = off') (inb : ∀ a, off a + size a ≤ S512x512.size a) (inb' : ∀ a, off' a + size a ≤ S512x512.size a)
    (f : FVec F S512x512 .f32) : (oM.slice (Rect.unit (s := S512x512) off size inb) (fun _ => rfl)).view.read (Elt F) f
      = (oM.slice (Rect.unit (s := S512x512) off' size inb') (fun _ => rfl)).view.read (Elt F) f := by
  subst h; rfl

theorem land0 : (bufLand I (pk (rnd (ri 0)) c) 0 : sProp 𝕄) = landP b0 (pk (rnd (ri 0)) c)
    ((xM.slice (Rect.unit (s := S512x512) (k0_off2 c) S128x512.size (k0_off2_inb c)) (fun _ => rfl)).view.read (Elt F) (I.x c)) := by
  have h : k0_off4 (pk 0 c) = k0_off2 c := by rw [← off2_pk, pk_pk]
  show landP b0 (pk 0 c) (rd128 (k0_off4 (pk 0 c)) (k0_off4_inb (pk 0 c)) (A I 0 (pk 0 (pk 0 c)))) = _
  rw [pk_pk]
  exact congrArg (landP b0 (pk 0 c)) (rd_congr h _ _ _)
theorem land1 : (bufLand I (pk (rnd (ri 1)) c) 1 : sProp 𝕄) = landP b1 (pk (rnd (ri 1)) c)
    ((xM.slice (Rect.unit (s := S512x512) (k0_off3 c) S128x512.size (k0_off3_inb c)) (fun _ => rfl)).view.read (Elt F) (I.x c)) := by
  have h : k0_off7 (pk 0 c) = k0_off3 c := by rw [← off3_pk, pk_pk]
  show landP b1 (pk 0 c) (rd128 (k0_off7 (pk 0 c)) (k0_off7_inb (pk 0 c)) (A I 0 (pk 0 (pk 0 c)))) = _
  rw [pk_pk]
  exact congrArg (landP b1 (pk 0 c)) (rd_congr h _ _ _)
theorem land2 : (bufLand I (pk (rnd (ri 2)) c) 2 : sProp 𝕄) = landP b2 (pk (rnd (ri 2)) c)
    ((oM.slice (Rect.unit (s := S512x512) (k0_off5 c) S64x512.size (k0_off5_inb c)) (fun _ => rfl)).view.read (Elt F) (A I 1 c)) := by
  have h : k0_off8 (pk 1 c) = k0_off5 c := by rw [← off5_pk, pk_pk]
  show landP b2 (pk 1 c) (rd64 (k0_off8 (pk 1 c)) (k0_off8_inb (pk 1 c)) (A I 1 (pk 1 (pk 1 c)))) = _
  rw [pk_pk]
  exact congrArg (landP b2 (pk 1 c)) (rd_congr h _ _ _)
theorem land3 : (bufLand I (pk (rnd (ri 3)) c) 3 : sProp 𝕄) = landP b3 (pk (rnd (ri 3)) c)
    ((oM.slice (Rect.unit (s := S512x512) (k0_off6 c) S64x512.size (k0_off6_inb c)) (fun _ => rfl)).view.read (Elt F) (A I 1 c)) := by
  have h : k0_off11 (pk 1 c) = k0_off6 c := by rw [← off6_pk, pk_pk]
  show landP b3 (pk 1 c) (rd64 (k0_off11 (pk 1 c)) (k0_off11_inb (pk 1 c)) (A I 1 (pk 1 (pk 1 c)))) = _
  rw [pk_pk]
  exact congrArg (landP b3 (pk 1 c)) (rd_congr h _ _ _)
theorem land4 : (bufLand I (pk (rnd (ri 4)) c) 4 : sProp 𝕄) = landP b4 (pk (rnd (ri 4)) c)
    ((oM.slice (Rect.unit (s := S512x512) (k0_off9 c) S32x512.size (k0_off9_inb c)) (fun _ => rfl)).view.read (Elt F) (A I 2 c)) := by
  have h : k0_off12 (pk 2 c) = k0_off9 c := by rw [← off9_pk, pk_pk]
  show landP b4 (pk 2 c) (rd32 (k0_off12 (pk 2 c)) (k0_off12_inb (pk 2 c)) (A I 2 (pk 2 (pk 2 c)))) = _
  rw [pk_pk]
  exact congrArg (landP b4 (pk 2 c)) (rd_congr h _ _ _)
theorem land5 : (bufLand I (pk (rnd (ri 5)) c) 5 : sProp 𝕄) = landP b5 (pk (rnd (ri 5)) c)
    ((oM.slice (Rect.unit (s := S512x512) (k0_off10 c) S32x512.size (k0_off10_inb c)) (fun _ => rfl)).view.read (Elt F) (A I 2 c)) := by
  have h : k0_off15 (pk 2 c) = k0_off10 c := by rw [← off10_pk, pk_pk]
  show landP b5 (pk 2 c) (rd32 (k0_off15 (pk 2 c)) (k0_off15_inb (pk 2 c)) (A I 2 (pk 2 (pk 2 c)))) = _
  rw [pk_pk]
  exact congrArg (landP b5 (pk 2 c)) (rd_congr h _ _ _)
theorem land6 : (bufLand I (pk (rnd (ri 6)) c) 6 : sProp 𝕄) = landP b6 (pk (rnd (ri 6)) c)
    ((oM.slice (Rect.unit (s := S512x512) (k0_off13 c) S16x512.size (k0_off13_inb c)) (fun _ => rfl)).view.read (Elt F) (A I 3 c)) := by
  have h : k0_off16 (pk 3 c) = k0_off13 c := by rw [← off13_pk, pk_pk]
  show landP b6 (pk 3 c) (rd16 (k0_off16 (pk 3 c)) (k0_off16_inb (pk 3 c)) (A I 3 (pk 3 (pk 3 c)))) = _
  rw [pk_pk]
  exact congrArg (landP b6 (pk 3 c)) (rd_congr h _ _ _)
theorem land7 : (bufLand I (pk (rnd (ri 7)) c) 7 : sProp 𝕄) = landP b7 (pk (rnd (ri 7)) c)
    ((oM.slice (Rect.unit (s := S512x512) (k0_off14 c) S16x512.size (k0_off14_inb c)) (fun _ => rfl)).view.read (Elt F) (A I 3 c)) := by
  have h : k0_off18 (pk 3 c) = k0_off14 c := by rw [← off14_pk, pk_pk]
  show landP b7 (pk 3 c) (rd16 (k0_off18 (pk 3 c)) (k0_off18_inb (pk 3 c)) (A I 3 (pk 3 (pk 3 c)))) = _
  rw [pk_pk]
  exact congrArg (landP b7 (pk 3 c)) (rd_congr h _ _ _)
theorem land8 : (bufLand I (pk (rnd (ri 8)) c) 8 : sProp 𝕄) = landP b8 (pk (rnd (ri 8)) c)
    ((oM.slice (Rect.unit (s := S512x512) (k0_off17 c) S16x512.size (k0_off17_inb c)) (fun _ => rfl)).view.read (Elt F) (A I 4 c)) := by
  have h : k0_off19 (pk 4 c) = k0_off17 c := by rw [← off17_pk, pk_pk]
  show landP b8 (pk 4 c) (rd16 (k0_off19 (pk 4 c)) (k0_off19_inb (pk 4 c)) (A I 4 (pk 4 (pk 4 c)))) = _
  rw [pk_pk]
  exact congrArg (landP b8 (pk 4 c)) (rd_congr h _ _ _)
theorem buf0 : (bufLand I c 0 : sProp 𝕄) = landP b0 c (rd128 (k0_off4 c) (k0_off4_inb c) (A I 0 (pk 0 c))) := rfl
theorem buf1 : (bufLand I c 1 : sProp 𝕄) = landP b1 c (rd128 (k0_off7 c) (k0_off7_inb c) (A I 0 (pk 0 c))) := rfl
theorem buf2 : (bufLand I c 2 : sProp 𝕄) = landP b2 c (rd64 (k0_off8 c) (k0_off8_inb c) (A I 1 (pk 1 c))) := rfl
theorem buf3 : (bufLand I c 3 : sProp 𝕄) = landP b3 c (rd64 (k0_off11 c) (k0_off11_inb c) (A I 1 (pk 1 c))) := rfl
theorem buf4 : (bufLand I c 4 : sProp 𝕄) = landP b4 c (rd32 (k0_off12 c) (k0_off12_inb c) (A I 2 (pk 2 c))) := rfl
theorem buf5 : (bufLand I c 5 : sProp 𝕄) = landP b5 c (rd32 (k0_off15 c) (k0_off15_inb c) (A I 2 (pk 2 c))) := rfl
theorem buf6 : (bufLand I c 6 : sProp 𝕄) = landP b6 c (rd16 (k0_off16 c) (k0_off16_inb c) (A I 3 (pk 3 c))) := rfl
theorem buf7 : (bufLand I c 7 : sProp 𝕄) = landP b7 c (rd16 (k0_off18 c) (k0_off18_inb c) (A I 3 (pk 3 c))) := rfl
/-- A buffer of sixteen rows read whole. -/
theorem landP_whole (b : Fin 2 → ℕ) (hb : b = fun _ => 0) (inb : ∀ a, b a + S16x512.size a ≤ S16x512.size a) (h) (M : Memref sig .tc .vmem S16x512 .f32)
    (hM : M = b8 ∨ M = b9) (v : FVec F S16x512 .f32) :
    (landP M c v : sProp 𝕄) = landP (M.slice (Rect.unit (s := S16x512) b S16x512.size inb) h) c v := by
  subst hb
  have hs : ((Rect.unit (s := S16x512) (fun _ => 0) S16x512.size inb)).set = Finset.univ := Rect.set_whole S16x512
  have hset : (M.slice (Rect.unit (s := S16x512) (fun _ => 0) S16x512.size inb) h).view.set = M.view.set := by
    show (M.view.slice _).set = _
    rw [View.set_slice, hs]; rfl
  unfold landP
  rw [hset]
  rcases hM with rfl | rfl
  · refine congrArg _ (funext fun f => ?_)
    rw [show (b8.slice (Rect.unit (s := S16x512) (fun _ => 0) S16x512.size inb) h).view.read (Elt F) f = b8.view.read (Elt F) f from
      (Memref.read_access_unit_zero (Elt F) cc0_scratch4 rfl inb f).trans rfl]
  · refine congrArg _ (funext fun f => ?_)
    rw [show (b9.slice (Rect.unit (s := S16x512) (fun _ => 0) S16x512.size inb) h).view.read (Elt F) f = b9.view.read (Elt F) f from
      (Memref.read_access_unit_zero (Elt F) cc0_scratch5 rfl inb f).trans rfl]
theorem zero2 : (![0, 0] : Fin 2 → ℕ) = fun _ => 0 := by decide
theorem buf8 : (bufLand I c 8 : sProp 𝕄) = landP (b8.slice (Rect.unit (s := S16x512) ![0, 0] S16x512.size inb_S16x512_S16x512_0_0) (fun _ => rfl)) c
    (rd16 (k0_off19 c) (k0_off19_inb c) (A I 4 (pk 4 c))) := landP_whole c _ zero2 _ _ _ (Or.inl rfl) _

theorem val2 (h h') : k0_pay2 (rd128 (k0_off4 c) h (A I 0 c)) (rd128 (k0_off4 c) h' (A I 0 (pk 0 c))) = rd128 (k0_off4 c) h (A I 1 c) := rfl
theorem val3 (h h') : k0_pay3 (rd128 (k0_off7 c) h (A I 0 c)) (rd128 (k0_off7 c) h' (A I 0 (pk 0 c))) = rd128 (k0_off7 c) h (A I 1 c) := by
  unfold k0_pay3
  rw [shapeCast_self]
  rfl
theorem val5 (h h') : k0_pay5 (rd64 (k0_off8 c) h (A I 1 c)) (rd64 (k0_off8 c) h' (A I 1 (pk 1 c))) = rd64 (k0_off8 c) h (A I 2 c) := rfl
theorem val6 (h h') : k0_pay6 (rd64 (k0_off11 c) h (A I 1 c)) (rd64 (k0_off11 c) h' (A I 1 (pk 1 c))) = rd64 (k0_off11 c) h (A I 2 c) := by
  unfold k0_pay6
  rw [shapeCast_self]
  rfl
theorem val7 (h h') : k0_pay7 (rd32 (k0_off12 c) h (A I 2 c)) (rd32 (k0_off12 c) h' (A I 2 (pk 2 c))) = rd32 (k0_off12 c) h (A I 3 c) := by
  unfold k0_pay7
  rw [shapeCast_self]
  rfl
theorem val8 (h h') : k0_pay8 (rd32 (k0_off15 c) h (A I 2 c)) (rd32 (k0_off15 c) h' (A I 2 (pk 2 c))) = rd32 (k0_off15 c) h (A I 3 c) := by
  unfold k0_pay8
  rw [shapeCast_self]
  rfl
theorem val9 (h h') : k0_pay9 (rd16 (k0_off16 c) h (A I 3 c)) (rd16 (k0_off16 c) h' (A I 3 (pk 3 c))) = rd16 (k0_off16 c) h (A I 4 c) := by
  unfold k0_pay9
  rw [shapeCast_self]
  rfl
theorem val10 (h h') : k0_pay10 (rd16 (k0_off18 c) h (A I 3 c)) (rd16 (k0_off18 c) h' (A I 3 (pk 3 c))) = rd16 (k0_off18 c) h (A I 4 c) := by
  unfold k0_pay10
  rw [shapeCast_self]
  rfl
theorem val11 (h h') : k0_pay11 (rd16 (k0_off19 c) h (A I 4 c)) (rd16 (k0_off19 c) h' (A I 4 (pk 4 c))) = rd16 (k0_off19 c) h (A I 5 c) := by
  unfold k0_pay11
  rw [shapeCast_self]
  rfl
theorem xM_credit128 (off : Fin 2 → ℕ) (inb : ∀ a, off a + S128x512.size a ≤ S512x512.size a) (h) :
    (xM.slice (Rect.unit (s := S512x512) off S128x512.size inb) h).view.dmaCredit = 8192 := by
  change sig.dmaCredit Idealize.ShloMosaic.Kind.tc (Idealize.ShloMosaic.Kind.tc.table .vmem) (xM : Memref sig .tc .vmem S512x512 .f32).view.buf S128x512 .f32 = 8192
  decide +kernel
theorem oM_credit64 (off : Fin 2 → ℕ) (inb : ∀ a, off a + S64x512.size a ≤ S512x512.size a) (h) :
    (oM.slice (Rect.unit (s := S512x512) off S64x512.size inb) h).view.dmaCredit = 4096 := by
  change sig.dmaCredit Idealize.ShloMosaic.Kind.tc (Idealize.ShloMosaic.Kind.tc.table .vmem) (oM : Memref sig .tc .vmem S512x512 .f32).view.buf S64x512 .f32 = 4096
  decide +kernel
theorem oM_credit32 (off : Fin 2 → ℕ) (inb : ∀ a, off a + S32x512.size a ≤ S512x512.size a) (h) :
    (oM.slice (Rect.unit (s := S512x512) off S32x512.size inb) h).view.dmaCredit = 2048 := by
  change sig.dmaCredit Idealize.ShloMosaic.Kind.tc (Idealize.ShloMosaic.Kind.tc.table .vmem) (oM : Memref sig .tc .vmem S512x512 .f32).view.buf S32x512 .f32 = 2048
  decide +kernel
theorem cr0 : b0.view.dmaCredit = amt (ri 0) := by decide +kernel
theorem cr1 : b1.view.dmaCredit = amt (ri 1) := by decide +kernel
theorem cr2 : b2.view.dmaCredit = amt (ri 2) := by decide +kernel
theorem cr3 : b3.view.dmaCredit = amt (ri 3) := by decide +kernel
theorem cr4 : b4.view.dmaCredit = amt (ri 4) := by decide +kernel
theorem cr5 : b5.view.dmaCredit = amt (ri 5) := by decide +kernel
theorem cr6 : b6.view.dmaCredit = amt (ri 6) := by decide +kernel
theorem cr7 : b7.view.dmaCredit = amt (ri 7) := by decide +kernel
theorem cr8 : b8.view.dmaCredit = amt (ri 8) := by decide +kernel
theorem oM_credit16 (off : Fin 2 → ℕ) (inb : ∀ a, off a + S16x512.size a ≤ S512x512.size a) (h) :
    (oM.slice (Rect.unit (s := S512x512) off S16x512.size inb) h).view.dmaCredit = 1024 := oM_credit off inb h

/-- The end of a part: the value it returns and the state. -/
theorem RG_fact {I : Inp F} {c : Dev nD} {m m' : Rst} {φ : Prop} (hφ : φ) (h : m.n = m'.n ∧ m.w = m'.w ∧ m.T = m'.T ∧ m.D = m'.D ∧ m.B = m'.B ∧ m.L = m'.L
    ∧ m.U = m'.U ∧ m.X = m'.X ∧ ∀ k, m.V k = m'.V k) : (RG I c m : sProp 𝕄) ⊢ iprop(⌜φ⌝ ∗ RG I c m') := by
  iintro H
  isplitr
  · ipureintro; exact hφ
  iapply (RG_eq I c m m' h)
  iexact H

theorem pay1_eq (x : FVec F S128x512 .f32) : k0_pay1 x = x := shapeCast_self x shapeCasts_S128x512_S128x512
theorem pay4_eq (x : FVec F S64x512 .f32) : k0_pay4 x = x := shapeCast_self x shapeCasts_S64x512_S64x512

/-! ## The states between the parts -/

def rs2 : Rst := ⟨2199023255550, 2417851639229258349412351, 0, 0, 511, 0, 4294967295, 4294967295, ![0, 0, 0, 0, 0]⟩
def rs3 : Rst := ⟨2186138353662, 2417851639229258349411839, 12884901888, 4278190080, 508, 1, 65535, 65535, ![0, 0, 0, 0, 0]⟩
def rs4 : Rst := ⟨2168958484478, 2417851639229258349411839, 30064771072, 4278190080, 504, 1, 255, 65535, ![3840, 0, 0, 0, 0]⟩
def rs5 : Rst := ⟨2134598746110, 2417851639229258349408767, 64424509440, 4294963200, 496, 7, 0, 65535, ![255, 0, 0, 0, 0]⟩
def rs6 : Rst := ⟨2065879269374, 2417851639229258349408767, 133143986176, 4294963200, 480, 7, 0, 65535, ![15, 48, 0, 0, 0]⟩
def rs7 : Rst := ⟨1928440315902, 2417851639229258349396479, 270582939648, 4294967232, 448, 31, 0, 65535, ![0, 15, 0, 0, 0]⟩
def rs8 : Rst := ⟨1653562408958, 2417851639229258349396479, 545460846592, 4294967232, 384, 31, 0, 65535, ![0, 3, 4, 0, 0]⟩
def rs9 : Rst := ⟨1103806595070, 2417851639229258349347327, 1095216660480, 4294967288, 256, 127, 0, 65535, ![0, 0, 3, 0, 0]⟩
def rs10 : Rst := ⟨4294967294, 2417851639229258349281791, 2194728288256, 4294967292, 0, 255, 0, 65535, ![0, 0, 1, 0, 0]⟩
def rs11 : Rst := ⟨4294967294, 2417851639229258349150716, 2181843386368, 4294967294, 0, 511, 0, 4294967295, ![0, 0, 0, 0, 1]⟩
def rs12 : Rst := ⟨4294967294, 2417851639229258349150592, 1649267441664, 4294967294, 0, 511, 0, 4294967295, ![0, 0, 0, 0, 1]⟩

/-! ## The parts -/

theorem red3 (v41 v47 v51 : BitVec 32) (v54 : BitVec 1) (c₁ c₂ : BitVec 32) : Hr I K c (RG I c rs2) (atBufs (k0_part3 (F := F)) c v41 v47 v51 v54 c₁ c₂) (fun v => iprop(⌜v.2.2 = rd128 (k0_off4 c) (k0_off4_inb c) (A I 0 c)⌝ ∗ RG I c rs3)) := by
  unfold atBufs
  rw [k0_part3_eq_skeleton]
  unfold k0_part3_skel
  simp only [Prog.lift, Prog.bind_op, Prog.bind_ret, Prog.pure_eq_ret]
  refine hr_send_x 0 (Fin.ext (congrFun (devs_eq c) 5)) (rect2 c) rfl rfl cr0 (fun _ => rfl) (land0 I c) (by decide) (by decide +kernel) ?_
  refine hr_send_x 1 (Fin.ext (congrFun (devs_eq c) 6)) (rect3 c) rfl rfl cr1 (fun _ => rfl) (land1 I c) (by decide) (by decide +kernel) ?_
  refine hr_recv 0 rfl cr0 (by decide +kernel) ?_
  refine hr_ld_x (rect4 c) (by decide +kernel) ?_
  exact Hr.ret (RG_fact (pay1_eq (rd128 (k0_off4 c) (k0_off4_inb c) (A I 0 c))) (by decide +kernel))

theorem red4 (v2 v51 v84 : BitVec 32) : Hr I K c (RG I c rs3) (atBufs (k0_part4 (F := F)) c v2 v51 v84 (rd128 (k0_off4 c) (k0_off4_inb c) (A I 0 c))) (fun _ => RG I c rs4) := by
  unfold atBufs
  rw [k0_part4_eq_skeleton]
  unfold k0_part4_skel
  simp only [Prog.lift, Prog.bind_op, Prog.bind_ret, Prog.pure_eq_ret]
  refine hr_ld_b 0 (fun _ => rfl) _ (buf0 I c) (by decide +kernel) ?_
  refine hr_ld_u (rect4 c) (by decide +kernel) fun _ => ?_
  refine hr_st_u (rect4 c) (val2 I c _ _) (by decide +kernel) ?_
  refine hr_send_o 2 (Fin.ext (congrFun (devs_eq c) 7)) (rect5 c) rfl rfl cr2 (fun _ => rfl) 0 (land2 I c) (by decide) (by decide +kernel) ?_
  exact Hr.ret (RG_eq I c _ _ (by decide +kernel))

theorem red5 (v41 v51 v67 v92 v102 v108 v120 : BitVec 32) : Hr I K c (RG I c rs4) (atBufs (k0_part5 (F := F)) c v41 v51 v67 v92 v102 v108 v120) (fun v => iprop(⌜v.2 = rd64 (k0_off8 c) (k0_off8_inb c) (A I 1 c)⌝ ∗ RG I c rs5)) := by
  unfold atBufs
  rw [k0_part5_eq_skeleton]
  unfold k0_part5_skel
  simp only [Prog.lift, Prog.bind_op, Prog.bind_ret, Prog.pure_eq_ret]
  refine hr_send_o 3 (Fin.ext (congrFun (devs_eq c) 8)) (rect6 c) rfl rfl cr3 (fun _ => rfl) 0 (land3 I c) (by decide) (by decide +kernel) ?_
  refine hr_recv 1 rfl cr1 (by decide +kernel) ?_
  refine hr_ld_x (rect7 c) (by decide +kernel) ?_
  refine hr_ld_b 1 (fun _ => rfl) _ (buf1 I c) (by decide +kernel) ?_
  refine hr_ld_u (rect7 c) (by decide +kernel) fun _ => ?_
  refine hr_st_u (rect7 c) (val3 I c _ _) (by decide +kernel) ?_
  refine hr_recv 2 rfl cr2 (by decide +kernel) ?_
  refine hr_ld_o 0 (rect8 c) (by decide +kernel) ?_
  exact Hr.ret (RG_fact (pay4_eq (rd64 (k0_off8 c) (k0_off8_inb c) (A I 1 c))) (by decide +kernel))

theorem red6 (v2 v102 v150 : BitVec 32) : Hr I K c (RG I c rs5) (atBufs (k0_part6 (F := F)) c v2 v102 v150 (rd64 (k0_off8 c) (k0_off8_inb c) (A I 1 c))) (fun _ => RG I c rs6) := by
  unfold atBufs
  rw [k0_part6_eq_skeleton]
  unfold k0_part6_skel
  simp only [Prog.lift, Prog.bind_op, Prog.bind_ret, Prog.pure_eq_ret]
  refine hr_ld_b 2 (fun _ => rfl) _ (buf2 I c) (by decide +kernel) ?_
  refine hr_ld_o 0 (rect8 c) (by decide +kernel) ?_
  refine hr_st_o 0 1 (rect8 c) (val5 I c _ _) (by decide +kernel) ?_
  refine hr_send_o 4 (Fin.ext (congrFun (devs_eq c) 9)) (rect9 c) rfl rfl cr4 (fun _ => rfl) 1 (land4 I c) (by decide) (by decide +kernel) ?_
  exact Hr.ret (RG_eq I c _ _ (by decide +kernel))

theorem red7 (v92 v102 v118 v158 v168 v174 c₁ : BitVec 32) : Hr I K c (RG I c rs6) (atBufs (k0_part7 (F := F)) c v92 v102 v118 v158 v168 v174 c₁) (fun v => iprop(⌜v.2 = rd32 (k0_off12 c) (k0_off12_inb c) (A I 2 c)⌝ ∗ RG I c rs7)) := by
  unfold atBufs
  rw [k0_part7_eq_skeleton]
  unfold k0_part7_skel
  simp only [Prog.lift, Prog.bind_op, Prog.bind_ret, Prog.pure_eq_ret]
  refine hr_send_o 5 (Fin.ext (congrFun (devs_eq c) 10)) (rect10 c) rfl rfl cr5 (fun _ => rfl) 1 (land5 I c) (by decide) (by decide +kernel) ?_
  refine hr_recv 3 rfl cr3 (by decide +kernel) ?_
  refine hr_ld_o 0 (rect11 c) (by decide +kernel) ?_
  refine hr_ld_b 3 (fun _ => rfl) _ (buf3 I c) (by decide +kernel) ?_
  refine hr_ld_o 0 (rect11 c) (by decide +kernel) ?_
  refine hr_st_o 0 1 (rect11 c) (val6 I c _ _) (by decide +kernel) ?_
  refine hr_recv 4 rfl cr4 (by decide +kernel) ?_
  refine hr_ld_o 1 (rect12 c) (by decide +kernel) ?_
  exact Hr.ret (RG_fact (rfl) (by decide +kernel))

theorem red8 (v2 v168 v216 : BitVec 32) : Hr I K c (RG I c rs7) (atBufs (k0_part8 (F := F)) c v2 v168 v216 (rd32 (k0_off12 c) (k0_off12_inb c) (A I 2 c))) (fun _ => RG I c rs8) := by
  unfold atBufs
  rw [k0_part8_eq_skeleton]
  unfold k0_part8_skel
  simp only [Prog.lift, Prog.bind_op, Prog.bind_ret, Prog.pure_eq_ret]
  refine hr_ld_b 4 (fun _ => rfl) _ (buf4 I c) (by decide +kernel) ?_
  refine hr_ld_o 1 (rect12 c) (by decide +kernel) ?_
  refine hr_st_o 1 2 (rect12 c) (val7 I c _ _) (by decide +kernel) ?_
  refine hr_send_o 6 (Fin.ext (congrFun (devs_eq c) 11)) (rect13 c) rfl rfl cr6 (fun _ => rfl) 2 (land6 I c) (by decide) (by decide +kernel) ?_
  exact Hr.ret (RG_eq I c _ _ (by decide +kernel))

theorem red9 (v158 v168 v184 v224 v234 v240 : BitVec 32) : Hr I K c (RG I c rs8) (atBufs (k0_part9 (F := F)) c v158 v168 v184 v224 v234 v240) (fun _ => RG I c rs9) := by
  unfold atBufs
  rw [k0_part9_eq_skeleton]
  unfold k0_part9_skel
  simp only [Prog.lift, Prog.bind_op, Prog.bind_ret, Prog.pure_eq_ret]
  refine hr_send_o 7 (Fin.ext (congrFun (devs_eq c) 12)) (rect14 c) rfl rfl cr7 (fun _ => rfl) 2 (land7 I c) (by decide) (by decide +kernel) ?_
  refine hr_recv 5 rfl cr5 (by decide +kernel) ?_
  refine hr_ld_o 1 (rect15 c) (by decide +kernel) ?_
  refine hr_ld_b 5 (fun _ => rfl) _ (buf5 I c) (by decide +kernel) ?_
  refine hr_ld_o 1 (rect15 c) (by decide +kernel) ?_
  refine hr_st_o 1 2 (rect15 c) (val8 I c _ _) (by decide +kernel) ?_
  refine hr_recv 6 rfl cr6 (by decide +kernel) ?_
  exact Hr.ret (RG_eq I c _ _ (by decide +kernel))

theorem red10 (v2 v224 v234 v250 v282 : BitVec 32) : Hr I K c (RG I c rs9) (atBufs (k0_part10 (F := F)) c v2 v224 v234 v250 v282) (fun v => iprop(⌜v.2.2.2 = rd16 (k0_off18 c) (k0_off18_inb c) (A I 3 c)⌝ ∗ RG I c rs10)) := by
  unfold atBufs
  rw [k0_part10_eq_skeleton]
  unfold k0_part10_skel
  simp only [Prog.lift, Prog.bind_op, Prog.bind_ret, Prog.pure_eq_ret]
  refine hr_ld_o 2 (rect16 c) (by decide +kernel) ?_
  refine hr_ld_b 6 (fun _ => rfl) _ (buf6 I c) (by decide +kernel) ?_
  refine hr_ld_o 2 (rect16 c) (by decide +kernel) ?_
  refine hr_st_o 2 3 (rect16 c) (val9 I c _ _) (by decide +kernel) ?_
  refine hr_send_o 8 (Fin.ext (congrFun (devs_eq c) 13)) (rect17 c) rfl rfl cr8 (fun _ => rfl) 3 (land8 I c) (by decide) (by decide +kernel) ?_
  refine hr_recv 7 rfl cr7 (by decide +kernel) ?_
  refine hr_ld_o 2 (rect18 c) (by decide +kernel) ?_
  exact Hr.ret (RG_fact (rfl) (by decide +kernel))

theorem red11 (v290 v300 v315 : BitVec 32) : Hr I K c (RG I c rs10) (atBufs (k0_part11 (F := F)) c v290 v300 v315 (rd16 (k0_off18 c) (k0_off18_inb c) (A I 3 c))) (fun _ => RG I c rs11) := by
  unfold atBufs
  rw [k0_part11_eq_skeleton]
  unfold k0_part11_skel
  simp only [Prog.lift, Prog.bind_op, Prog.bind_ret, Prog.pure_eq_ret]
  refine hr_ld_b 7 (fun _ => rfl) _ (buf7 I c) (by decide +kernel) ?_
  refine hr_ld_o 2 (rect18 c) (by decide +kernel) ?_
  refine hr_st_o 2 3 (rect18 c) (val10 I c _ _) (by decide +kernel) ?_
  refine hr_recv 8 rfl cr8 (by decide +kernel) ?_
  refine hr_ld_o 3 (rect19 c) (by decide +kernel) ?_
  refine hr_ld_b 8 (fun _ => rfl) _ (buf8 I c) (by decide +kernel) ?_
  refine hr_ld_o 3 (rect19 c) (by decide +kernel) ?_
  refine hr_st_o 3 4 (rect19 c) (val11 I c _ _) (by decide +kernel) ?_
  refine hr_sent 0 rfl (xM_credit128 _ _ _) (by decide +kernel) ?_
  refine hr_sent 1 rfl (xM_credit128 _ _ _) (by decide +kernel) ?_
  exact Hr.ret (RG_eq I c _ _ (by decide +kernel))

theorem red12  : Hr I K c (RG I c rs11) (atBufs (k0_part12 (F := F)) c ) (fun _ => RG I c rs12) := by
  unfold atBufs
  rw [k0_part12_eq_skeleton]
  unfold k0_part12_skel
  simp only [Prog.lift, Prog.bind_op, Prog.bind_ret, Prog.pure_eq_ret]
  refine hr_sent 2 rfl (oM_credit64 _ _ _) (by decide +kernel) ?_
  refine hr_sent 3 rfl (oM_credit64 _ _ _) (by decide +kernel) ?_
  refine hr_sent 4 rfl (oM_credit32 _ _ _) (by decide +kernel) ?_
  refine hr_sent 5 rfl (oM_credit32 _ _ _) (by decide +kernel) ?_
  refine hr_sent 6 rfl (oM_credit16 _ _ _) (by decide +kernel) ?_
  exact Hr.ret (RG_eq I c _ _ (by decide +kernel))

end Cert.KernelIdeal.Pf
-- ==== Proof.I.Body.lean ====
/-
  The kernel's body on one device: the start and the barrier (parts 1 and 2), the normalization (part 13), and the whole.
-/
module

public import proofs.«01_k».proof.Proof.I.ReduceParts

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The start -/

section Start
variable {I : Inp F} {K : GSem nD τ sig → ℕ} {c : Dev nD} {α : Type} {R : α → sProp (MT nD τ sig Unit (Elt F) ℕ UU ℕ)}

theorem hr_deviceId {P : sProp (MT nD τ sig Unit (Elt F) ℕ UU ℕ)} {k : Dev nD → Prog (TpuEff nD τ sig (Elt F) Λ₀ .tc) α}
    (hk : Hr I K c P (k c) R) : Hr I K c P (.op .deviceId k) R := by
  intro Q
  unfold WP
  rw [wp_deviceId]
  exact hk Q

/-- The state before the barrier: what is owed, and the signals not yet sent with the buffers they hand over. -/
def SB (I : Inp F) (c : Dev nD) (n b : ℕ) : sProp 𝕄 :=
  iprop(reachedAll c ∗ St c n 2417851639229258349412351 0 ∗ (bigSep (ms b : Finset (Fin 5)) fun r => bigSep (stg r) (bufAny c))
    ∗ atPos ER (bCell c) 0 ∅ 0 ∗ cred (tallyAt (bCell c) () 5) ∗ xP c 4294967295 (I.x c) ∗ outAny c 4294967295
    ∗ ((c : Thread nD τ).loc cc0_stg1_0 ↦{fullShare} I.g c))

theorem hr_signal {X : sProp (MT nD τ sig Unit (Elt F) ℕ UU ℕ)} (r : Fin 5) {n : Dev nD} (hn : n = pk r c) {nO b : ℕ} {sm : Sem sig} (hsm : sm = barS)
    {k : PUnit → Prog (TpuEff nD τ sig (Elt F) Λ₀ .tc) α} (h : nO.testBit (41 + r.val) = true ∧ b.testBit r.val = true)
    (hk : Hr I K c iprop(SB I c (nO ^^^ 2 ^ (41 + r.val)) (b ^^^ 2 ^ r.val) ∗ X) (k ⟨⟩) R) :
    Hr I K c iprop(SB I c nO b ∗ X) (.op (.semSignal (Dev.tc n : Thread nD τ) sm 1) k) R := by
  intro Q
  unfold SB
  rw [take_bit (N := 5) b r h.2]
  iintro ⟨#Hc, ⟨#Hr, HS, ⟨Hb, Hbs⟩, Hrest⟩, HX⟩ Hk
  iapply (signal_step I K c r hn nO _ _ hsm h.1) $$ [HS Hb]
  · isplitr; · iexact Hc
    isplitl [HS]; · iexact HS
    isplitr; · iexact Hr
    iexact Hb
  iintro HS
  iapply (hk Q) $$ [HS Hbs Hrest HX]
  · isplitr; · iexact Hc
    isplitr [HX]
    · unfold SB
      isplitr; · iexact Hr
      isplitl [HS]; · iexact HS
      isplitl [Hbs]; · iexact Hbs
      iexact Hrest
    iexact HX
  iexact Hk

theorem off1_off20 (c : Dev nD) : k0_off1 c = k0_off20 c := (off1_eq c).trans (off20_eq c).symm
theorem b9_amount : b9.view.amount (SemLoc.dma (cc0_scratch10 : DmaSems sig S_).sem) = 1024 := by decide +kernel

/-- The residual's rows of the device's own block. -/
abbrev mR (c : Dev nD) : Memref sig .tc .hbm S16x512 .f32 :=
  (Memref.whole main_arg1 : Memref sig .tc .hbm S512x512 .f32).slice (Rect.unit (s := S512x512) (k0_off1 c) S16x512.size (k0_off1_inb c)) (fun _ => rfl)
theorem mR_split (f : FVec F S512x512 .f32) : ((c : Thread nD τ).loc main_arg1 ↦{fullShare} f : sProp 𝕄)
    ⊣⊢ iprop(((mR c).view.loc (c : Thread nD τ) ↦[(mR c).view.set]{fullShare} f) ∗ ((c : Thread nD τ).loc main_arg1 ↦[Finset.univ \ (mR c).view.set]{fullShare} f)) :=
  pointsTo_split_subset (Finset.subset_univ _)

/-- What the copy of the residual's rows starts from. -/
def P1 (I : Inp F) (c : Dev nD) : sProp 𝕄 :=
  iprop(dutyTok ER (oCell c 80) 0 0 ∗ ((c : Thread nD τ).loc main_arg1 ↦{fullShare} I.r c) ∗ anyP b9 c)

theorem hr_resid {nO b : ℕ} {hsrc hdst hsem} {k : PUnit → Prog (TpuEff nD τ sig (Elt F) Λ₀ .tc) α}
    (hk : Hr I K c iprop(SB I c nO b ∗ cred (tallyAt (oCell c 80) () 1024)) (k ⟨⟩) R) :
    Hr I K c iprop(SB I c nO b ∗ P1 I c)
      (.op (.enqueueDma (mR c)
        (.here b9) (.dma (cc0_scratch10 : DmaSems sig S_).sem) hsrc hdst hsem) k) R := by
  intro Q
  unfold SB P1 anyP
  iintro ⟨#Hc, ⟨#Hr, HS⟩, Ht, Hm, ⟨%fd, Hb⟩⟩ Hk
  ihave #HI := (ctx_o I K c 80) $$ Hc
  ihave #Hr₁ := (reachedAll_o (F := F) c 80) $$ Hr
  have e₁ : (rd I).amount (oCell c 80) 0 0 = 1024 := by rw [amount_o, kind_resid]; rfl
  have p₁ : (rd I).payload (oCell c 80) 0 0 = residPay I c := by rw [payload_o, kind_resid]; rfl
  have d₁ : (0 : Fin 5) ∈ (rd I).duties (oCell c 80) 0 := by rw [duties_o]; exact Finset.mem_singleton_self _
  ihave Hm' := (mR_split (I.r c)).1 $$ Hm
  icases Hm' with ⟨Hm, Hmr⟩
  iapply (Rounds.wp_copy 𝒱₀ ER (rd I) (c : Thread nD τ) none (κ := K (oCell c 80)) (r := 0) (d := 0) (fs := I.r c) (q := fullShare) d₁ () 1024 b9_amount e₁
    (R := iprop((b9.view.loc (c : Thread nD τ) ↦[b9.view.set]{fullShare} (b9.view.write (Elt F) fd ((mR c).view.read (Elt F) (I.r c)) Finset.univ))
      ∗ ((c : Thread nD τ).loc main_arg1 ↦[Finset.univ \ (mR c).view.set]{fullShare} I.r c)))
    (by
      rw [p₁]
      unfold residPay landP
      iintro ⟨⟨Hb, Hmr⟩, Hm⟩
      isplitl [Hb]
      · iexists (b9.view.write (Elt F) fd ((mR c).view.read (Elt F) (I.r c)) Finset.univ)
        isplitr
        · ipureintro
          rw [View.read_write_univ]
          exact rd_congr (off1_off20 c) _ _ _
        iexact Hb
      iapply (mR_split (I.r c)).2
      isplitl [Hm] <;> iassumption)) $$ [Ht Hm Hmr Hb]
  · isplitr; · iexact HI
    isplitl [Hm]; · iexact Hm
    isplitl [Hb Hmr]
    · iapply (writeUpdate_frame (c : Thread nD τ))
      isplitl [Hb]
      · iapply (pointsTo_writeUpdate (c : Thread nD τ) (v := b9.view) subset_rfl); iexact Hb
      iexact Hmr
    isplitl [Ht]; · iexact Ht
    iexact Hr₁
  iintro Hcr
  iapply (hk Q) $$ [HS Hcr]
  · isplitr; · iexact Hc
    isplitr [Hcr]
    · unfold SB
      isplitr; · iexact Hr
      iexact HS
    iexact Hcr
  iexact Hk

end Start

variable (I : Inp F) (K : GSem nD τ sig → ℕ) (c : Dev nD)

theorem red1 : Hr I K c iprop(SB I c 70368744177662 31 ∗ P1 I c) (atBufs (k0_part1 (F := F))) (fun v => iprop(⌜v.1 = c ∧ v.2.2.2.1 = SemArray.scalar (sig.barrier 0 rfl)⌝
    ∗ SB I c 68169720922110 30 ∗ cred (tallyAt (oCell c 80) () 1024))) := by
  unfold atBufs
  rw [k0_part1_eq_skeleton]
  unfold k0_part1_skel
  simp only [semSignalWord, Prog.lift, Prog.bind_op, Prog.bind_ret, Prog.pure_eq_ret]
  refine hr_deviceId ?_
  refine hr_resid ?_
  refine hr_signal (nO := 70368744177662) (b := 31) 0 (Fin.ext (congrFun (devs_eq c) 0)) rfl (by decide +kernel) ?_
  refine Hr.ret ?_
  iintro H
  isplitr
  · ipureintro; exact ⟨rfl, rfl⟩
  iexact H

/-! ## The barrier -/

/-- The five partners' landing buffers are the nine of the reduction. -/
theorem bufs_all : (bigSep Finset.univ fun k : Fin 5 => bigSep (stg k) (bufAny (F := F) (pk k c))) = (bigSep (ms 511 : Finset (Fin 9)) (pbuf c) : sProp 𝕄) := by
  have hu : (ms 511 : Finset (Fin 9)) = Finset.univ.biUnion stg := by decide +kernel
  have hd : ∀ j ∈ (Finset.univ : Finset (Fin 5)), ∀ j' ∈ (Finset.univ : Finset (Fin 5)), j ≠ j' → Disjoint (stg j) (stg j') := by decide +kernel
  have hr : ∀ (k : Fin 5), ∀ i ∈ stg k, rnd (ri i) = k := by decide +kernel
  rw [hu, bigSep_biUnion_eq _ _ _ hd]
  refine bigSep_congr fun k _ => bigSep_congr fun i hi => ?_
  unfold pbuf
  rw [hr k i hi]

theorem outP_none (k : ℕ) : (iprop(emp) : sProp 𝕄) ⊢ outP c 0 fullShare (A I k c) := by
  have e : blk c 0 = ∅ := by ext i; rw [mem_blk]; simp
  unfold outP
  rw [e, pointsTo_empty]
theorem sums_none : (iprop(emp) : sProp 𝕄) ⊢ sums I c ![0, 0, 0, 0, 0] := by
  unfold sums
  have h : (bigSep Finset.univ fun _ : Fin 5 => (iprop(emp) : sProp 𝕄)) ⊢ bigSep Finset.univ fun k : Fin 5 => (outP c ((![0, 0, 0, 0, 0] : Fin 5 → ℕ) k) fullShare (A I (k.val + 1) c) : sProp 𝕄) :=
    bigSep_mono fun k _ => by
      rw [show (![0, 0, 0, 0, 0] : Fin 5 → ℕ) k = 0 from by revert k; decide]
      exact outP_none I c _
  exact (Entails.of_eq (bigSep_emp_const _).symm).trans h
theorem ms_none {N : ℕ} : (ms 0 : Finset (Fin N)) = ∅ := by ext j; simp [mem_ms]

theorem hr_bar {I : Inp F} {K : GSem nD τ sig → ℕ} {c : Dev nD} {α : Type} {R : α → sProp (MT nD τ sig Unit (Elt F) ℕ UU ℕ)} {sm : Sem sig} (hsm : sm = barS)
    {k : PUnit → Prog (TpuEff nD τ sig (Elt F) Λ₀ .tc) α} (hk : Hr I K c (RG I c rs2) (k ⟨⟩) R) :
    Hr I K c iprop(SB I c 2199023255550 0 ∗ cred (tallyAt (oCell c 80) () 1024)) (.op (.semWait sm 5) k) R := by
  intro Q
  unfold SB
  iintro ⟨#Hc, ⟨#Hr, HS, -, Hat, Hcr, Hx, Hu, Hg⟩, HX⟩ Hk
  iapply (bar_step I K c 2199023255550 _ _ hsm (by decide +kernel) (by decide +kernel)) $$ [HS Hat Hcr]
  · isplitr; · iexact Hc
    isplitl [HS]; · iexact HS
    isplitl [Hat] <;> iassumption
  have hb : (bigSep Finset.univ (barPay c) : sProp 𝕄) = iprop((bigSep Finset.univ fun k : Fin 5 => bigSep (stg k) (bufAny (F := F) (pk k c))) ∗ bigSep Finset.univ fun k : Fin 5 => reachedAll (pk k c)) :=
    bigSep_sep _ _ _
  rw [hb, bufs_all]
  iintro ⟨HS, Hat, Hb, #Hrs⟩
  iapply (hk Q) $$ [HS Hat Hb Hx Hu Hg HX]
  · isplitr; · iexact Hc
    unfold RG
    isplitr
    · unfold rctx
      isplitr; · iexact Hr
      iexact Hrs
    isplitl [HS]; · iexact HS
    isplitr
    · rw [show (ms rs2.D : Finset (Fin 32)) = ∅ from ms_none, bigSep_empty]; iempintro
    isplitl [Hb]; · iexact Hb
    isplitr
    · rw [show (ms rs2.L : Finset (Fin 9)) = ∅ from ms_none, bigSep_empty]; iempintro
    isplitl [Hu]; · iexact Hu
    isplitr
    · iapply (sums_none I c); iempintro
    isplitl [Hx]; · iexact Hx
    unfold RC
    isplitl [HX]; · iexact HX
    isplitl [Hg] <;> iassumption
  iexact Hk

theorem red2 (v2 v30 : BitVec 32) : Hr I K c iprop(SB I c 68169720922110 30 ∗ cred (tallyAt (oCell c 80) () 1024))
    (atBufs (k0_part2 (F := F)) c v2 (SemArray.scalar (sig.barrier 0 rfl)) v30) (fun _ => RG I c rs2) := by
  unfold atBufs
  rw [k0_part2_eq_skeleton]
  unfold k0_part2_skel
  simp only [semSignalWord, semWaitWord, Prog.lift, Prog.bind_op, Prog.bind_ret, Prog.pure_eq_ret]
  refine hr_signal (nO := 68169720922110) (b := 30) 1 (Fin.ext (congrFun (devs_eq c) 1)) rfl (by decide +kernel) ?_
  refine hr_signal (nO := 63771674411006) (b := 28) 2 (Fin.ext (congrFun (devs_eq c) 2)) rfl (by decide +kernel) ?_
  refine hr_signal (nO := 54975581388798) (b := 24) 3 (Fin.ext (congrFun (devs_eq c) 3)) rfl (by decide +kernel) ?_
  refine hr_signal (nO := 37383395344382) (b := 16) 4 (Fin.ext (congrFun (devs_eq c) 4)) rfl (by decide +kernel) ?_
  refine hr_bar rfl ?_
  exact Hr.ret (Entails.refl _)

/-! ## The normalization -/

theorem own_out : (own16 c).read (Elt F) (Out I) = rows I c := by
  funext j
  have hj : (j 0).val < 16 := (j 0).isLt
  have h0 : (((Rect.unit (s := S512x512) (k0_off20 c) S16x512.size (k0_off20_inb c)).emb j) 0).val = 16 * (pos c).val + (j 0).val := by
    rw [Rect.emb_apply]
    show k0_off20 c 0 + 1 * (j 0).val = _
    rw [off20_eq]
    show 16 * ((pos c ^^^ 0).val / 1 * 1) + _ = _
    have : pos c ^^^ 0 = pos c := by generalize pos c = p; revert p; decide
    rw [this]
    omega
  have h1 : (((Rect.unit (s := S512x512) (k0_off20 c) S16x512.size (k0_off20_inb c)).emb j) 1).val = (j 1).val := by
    rw [Rect.emb_apply]
    show k0_off20 c 1 + 1 * (j 1).val = _
    rw [off20_eq]
    show 0 + _ = _
    omega
  show Out I ((Rect.unit (s := S512x512) (k0_off20 c) S16x512.size (k0_off20_inb c)).emb j) = _
  unfold Out
  have e0 : ∀ h, (⟨(((Rect.unit (s := S512x512) (k0_off20 c) S16x512.size (k0_off20_inb c)).emb j) 0).val / 16, h⟩ : Fin 32) = pos c := fun h =>
    Fin.ext (by show _ / 16 = _; rw [h0]; omega)
  rw [e0, ofPos_pos]
  congr 1
  funext k
  match k with
  | 0 => exact Fin.ext (by show _ % 16 = _; rw [h0]; omega)
  | 1 => exact Fin.ext h1

/-- What the body holds beside the gather's state. -/
def Rest (I : Inp F) (c : Dev nD) : sProp 𝕄 :=
  iprop(residPay I c ∗ ((c : Thread nD τ).loc cc0_stg1_0 ↦{fullShare} I.g c) ∗ atPos ER (bCell c) 1 ∅ 0
    ∗ bigSep (ms 511 : Finset (Fin 9)) (bufLand I c) ∗ xP c 4294967295 (I.x c))

/-- The state at the start of the gather. -/
def m0 : Mst := ⟨4294967294, 1208925819614629174444032, 0, chm 0, 1⟩
def rs13 : Rst := ⟨4294967294, 2417851639229258349150208, 0, 4294967294, 0, 511, 0, 4294967295, ![0, 0, 0, 0, 1]⟩

theorem b9_credit : b9.view.dmaCredit = 1024 := by decide +kernel
theorem ms_one : (ms 1 : Finset (Fin 32)) = {0} := by decide +kernel

theorem red13 (v2 v23 : BitVec 32) : Hr I K c (RG I c rs12) (atBufs (k0_part13 (F := F)) c v2 v23) (fun _ => iprop((rctx c ∗ Ag I c m0) ∗ Rest I c)) := by
  unfold atBufs
  rw [k0_part13_eq_skeleton]
  unfold k0_part13_skel
  simp only [Prog.lift, Prog.bind_op, Prog.bind_ret, Prog.pure_eq_ret]
  refine hr_sent 7 rfl (oM_credit16 _ _ _) (by decide +kernel) ?_
  refine hr_sent 8 rfl (oM_credit16 _ _ _) (by decide +kernel) ?_
  refine Hr.pre (RG_eq I c _ rs13 (by decide +kernel)) ?_
  intro Q
  unfold RG RC
  have es : (sums I c rs13.V : sProp 𝕄) = iprop(outP c 1 fullShare (A I 5 c) ∗ bigSep (Finset.univ.erase 4) fun k : Fin 5 => outP c (rs13.V k) fullShare (A I (k.val + 1) c)) :=
    sums_split I c rs13.V 4
  rw [es]
  iintro ⟨#Hc, #Hr, HS, HD, -, HL, -, ⟨Hv, -⟩, HX, Hcr, Hg, Hat⟩ Hk
  iapply (resid_step I K c rs13.n rs13.w rs13.T rfl b9_credit (by decide +kernel) (by decide +kernel)) $$ [HS Hcr]
  · isplitr; · iexact Hc
    isplitl [HS] <;> iassumption
  iintro ⟨HS, Hp⟩
  unfold residPay
  icases Hp with ⟨Hb, Hm⟩
  have e := fun f => outP_slice (F := F) c 1 fullShare f (k0_off20_inb c) (fun _ => rfl) (rect20 c)
  ihave Hv := (Entails.of_eq (e (A I 5 c))) $$ Hv
  unfold WP
  iapply (wp_load_rect 𝒱₀ (c : Thread nD τ) none Set.univ (m := oM) (r := Rect.unit (s := S512x512) (k0_off20 c) S16x512.size (k0_off20_inb c)) (f := A I 5 c) subset_rfl) $$ Hv
  iintro Hv
  ihave Hb := (Entails.of_eq (landP_whole (F := F) c _ zero2 inb_S16x512_S16x512_0_0 (fun _ => rfl) b9 (Or.inr rfl) _)) $$ Hb
  unfold landP
  icases Hb with ⟨%fb, %hfb, Hb⟩
  iapply (wp_load_rect 𝒱₀ (c : Thread nD τ) none Set.univ (m := b9) (r := Rect.unit (s := S16x512) ![0, 0] S16x512.size inb_S16x512_S16x512_0_0) (f := fb) subset_rfl) $$ Hb
  iintro Hb
  iapply (wp_load_rect 𝒱₀ (c : Thread nD τ) none Set.univ (m := (Memref.whole cc0_stg1_0 : Memref sig .tc .vmem S1x512 .f32)) (r := Rect.unit (s := S1x512) ![0, 0] S1x512.size inb_S1x512_S1x512_0_0) (S := Finset.univ) (f := I.g c) (Finset.subset_univ _)) $$ Hg
  iintro Hg
  iapply (wp_load_rect 𝒱₀ (c : Thread nD τ) none Set.univ (m := oM) (r := Rect.unit (s := S512x512) (k0_off20 c) S16x512.size (k0_off20_inb c)) (f := A I 5 c) subset_rfl) $$ Hv
  iintro Hv
  ihave Hv := (Entails.of_eq (e (A I 5 c)).symm) $$ Hv
  have hg : ((Memref.whole cc0_stg1_0 : Memref sig .tc .vmem S1x512 .f32).access (Rect.unit (s := S1x512) ![0, 0] S1x512.size inb_S1x512_S1x512_0_0)).read (Elt F) (I.g c) = I.g c :=
    Memref.read_access_unit_zero (Elt F) cc0_stg1_0 zero2 _ _
  have hb' : (b9.access (Rect.unit (s := S16x512) ![0, 0] S16x512.size inb_S16x512_S16x512_0_0)).read (Elt F) fb = rd16 (k0_off20 c) (k0_off20_inb c) (I.r c) := hfb
  rw [hg, hb']
  iapply (st_rows (rect20 c) (A I 5 c) (Out I) (own_out I c).symm Q) $$ Hv
  iintro Hv
  iapply WP_ret
  iapply Hk
  isplitl [HS HD Hv]
  · isplitr; · iexact Hr
    ihave Hv := (show (outP c 1 fullShare (Out I) : sProp 𝕄) ⊢ iprop(keep I c 0 ∗ bigSep (ms (chm 0)) (share I c)) from (outP_shares I c 0).1) $$ Hv
    icases Hv with ⟨Hk0, Hsh⟩
    unfold Ag m0
    isplitl [HS]; · iexact HS
    isplitl [HD]; · iexact HD
    isplitl [Hsh]; · iexact Hsh
    rw [ms_one, bigSep_singleton]
    iexact Hk0
  unfold Rest residPay
  isplitl [Hb Hm]
  · isplitl [Hb]
    · iapply (Entails.of_eq (landP_whole (F := F) c _ zero2 inb_S16x512_S16x512_0_0 (fun _ => rfl) b9 (Or.inr rfl) _).symm)
      unfold landP
      iexists fb
      isplitr
      · ipureintro; exact hfb
      iexact Hb
    iexact Hm
  isplitl [Hg]; · iexact Hg
  isplitl [Hat]; · iexact Hat
  isplitl [HL]; · iexact HL
  iexact HX

end Cert.KernelIdeal.Pf
-- ==== Proof.I.Whole.lean ====
/-
  The kernel's body on one device, whole: from its launch resources to the result.
-/
module

public import proofs.«01_k».proof.Proof.I.Body

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : GSem nD τ sig → ℕ) (c : Dev nD)

/-- The gather before its last four waits, and its end. -/
def m35 : Mst := ⟨0, 12348030976, 3892314112, 402653182, 4294967295⟩
def mEnd : Mst := ⟨0, 0, 0, 4294967294, 4294967295⟩
deriving instance DecidableEq for Mst

/-- The gather's steps up to its last four waits. -/
def agOps : List Op :=
  [.snd 1, .snd 2, .snd 4] ++ (
  [.snd 8, .snd 16, .rcv 1, .snd 3] ++ (
  [.snd 5, .snd 9, .snd 17] ++ (
  [.rcv 2, .snd 6, .snd 10] ++ (
  [.snd 18, .rcv 4, .snd 12] ++ (
  [.snd 20, .rcv 8, .snd 24, .rcv 16] ++ (
  [.rcv 3, .snd 7, .snd 11] ++ (
  [.snd 19, .rcv 6, .snd 14, .snd 22] ++ (
  [.rcv 5, .snd 13, .snd 21] ++ (
  [.rcv 12, .snd 28, .rcv 10, .snd 26] ++ (
  [.rcv 9, .snd 25, .rcv 24, .rcv 20] ++ (
  [.rcv 18, .rcv 17, .rcv 7, .snd 15] ++ (
  [.snd 23, .rcv 14, .snd 30, .rcv 13] ++ (
  [.snd 29, .rcv 11, .snd 27] ++ (
  [.rcv 28, .rcv 26, .rcv 25, .rcv 22, .rcv 21] ++ (
  [.rcv 19, .rcv 15, .snd 31, .rcv 30] ++ (
  [.rcv 29, .rcv 27, .rcv 23, .rcv 31, .wsd 1] ++ (
  [.wsd 2, .wsd 4, .wsd 8, .wsd 16, .wsd 3, .wsd 5] ++ (
  [.wsd 9, .wsd 17, .wsd 6, .wsd 10, .wsd 18, .wsd 12] ++ (
  [.wsd 20, .wsd 24, .wsd 7, .wsd 11, .wsd 19, .wsd 14] ++ (
  [.wsd 22, .wsd 13, .wsd 21, .wsd 28, .wsd 26, .wsd 25] ++ (
  [.wsd 15, .wsd 23])))))))))))))))))))))

theorem red35 : Hr I K c iprop(SB I c 70368744177662 31 ∗ P1 I c) (atBufs (k0_part35 (F := F)))
    (fun _ => iprop((rctx c ∗ Ag I c m35) ∗ Rest I c)) := by
  unfold atBufs
  rw [k0_part35_eq_skeleton]
  unfold k0_part35_skel
  refine Hr.bind (red1 I K c) fun ⟨d0, v2, v23, v25, v30⟩ => Hr.fact fun ⟨h₁, h₂⟩ => ?_
  dsimp only at h₁ h₂
  subst h₁ h₂
  refine Hr.bind (red2 I K d0 v2 v30) fun ⟨v41, v47, v51, v54, c₁, c₂⟩ => ?_
  refine Hr.bind (red3 I K d0 v41 v47 v51 v54 c₁ c₂) fun ⟨v67, v84, v87⟩ => Hr.fact fun h => ?_
  dsimp only at h
  subst h
  refine Hr.bind (red4 I K d0 v2 v51 v84) fun ⟨v92, v102, v108, v118, v120⟩ => ?_
  refine Hr.bind (red5 I K d0 v41 v51 v67 v92 v102 v108 v120) fun ⟨v150, v153⟩ => Hr.fact fun h => ?_
  dsimp only at h
  subst h
  refine Hr.bind (red6 I K d0 v2 v102 v150) fun ⟨v158, v168, v174, v184, c₃⟩ => ?_
  refine Hr.bind (red7 I K d0 v92 v102 v118 v158 v168 v174 c₃) fun ⟨v216, v218⟩ => Hr.fact fun h => ?_
  dsimp only at h
  subst h
  refine Hr.bind (red8 I K d0 v2 v168 v216) fun ⟨v224, v234, v240, v250⟩ => ?_
  refine Hr.bind (red9 I K d0 v158 v168 v184 v224 v234 v240) fun v282 => ?_
  refine Hr.bind (red10 I K d0 v2 v224 v234 v250 v282) fun ⟨v290, v300, v315, v317⟩ => Hr.fact fun h => ?_
  dsimp only at h
  subst h
  refine Hr.bind (red11 I K d0 v290 v300 v315) fun _ => ?_
  refine Hr.bind (red12 I K d0) fun _ => ?_
  refine Hr.bind (red13 I K d0 v2 v23) fun v396 => ?_
  refine Hr.frame (Hr.runs (ops := agOps) ?run ?ok ?fin)
  case run =>
    unfold agOps
    refine runs_bind d0 (run14 (F := F) d0 _ _) fun ⟨_, _, _⟩ => ?_
    refine runs_bind d0 (run15 (F := F) d0 _ _ _) fun ⟨_, _, _⟩ => ?_
    refine runs_bind d0 (run16 (F := F) d0 _ _ _) fun ⟨_, _, _⟩ => ?_
    refine runs_bind d0 (run17 (F := F) d0 _ _ _) fun ⟨_, _, _, _⟩ => ?_
    refine runs_bind d0 (run18 (F := F) d0 _ _ _ _) fun ⟨_, _⟩ => ?_
    refine runs_bind d0 (run19 (F := F) d0 _ _ _ _ _) fun _ => ?_
    refine runs_bind d0 (run20 (F := F) d0 _ _) fun ⟨_, _, _⟩ => ?_
    refine runs_bind d0 (run21 (F := F) d0 _ _ _ _) fun ⟨_, _, _⟩ => ?_
    refine runs_bind d0 (run22 (F := F) d0 _ _ _ _) fun ⟨_, _⟩ => ?_
    refine runs_bind d0 (run23 (F := F) d0 _ _ _ _) fun ⟨_, _, _, _⟩ => ?_
    refine runs_bind d0 (run24 (F := F) d0 _ _ _ _ _ _ _) fun _ => ?_
    refine runs_bind d0 (run25 (F := F) d0 _ _ _ _) fun ⟨_, _⟩ => ?_
    refine runs_bind d0 (run26 (F := F) d0 _ _ _ _ _) fun ⟨_, _⟩ => ?_
    refine runs_bind d0 (run27 (F := F) d0 _ _ _ _ _) fun ⟨_, _⟩ => ?_
    refine runs_bind d0 (run28 (F := F) d0 _ _ _ _) fun _ => ?_
    refine runs_bind d0 (run29 (F := F) d0 _ _ _ _ _ _ _) fun ⟨_, _⟩ => ?_
    refine runs_bind d0 (run30 (F := F) d0 _ _ _ _) fun _ => ?_
    refine runs_bind d0 (run31 (F := F) d0) fun _ => ?_
    refine runs_bind d0 (run32 (F := F) d0) fun _ => ?_
    refine runs_bind d0 (run33 (F := F) d0) fun _ => ?_
    refine runs_bind d0 (run34 (F := F) d0) fun _ => ?_
    simp only [Prog.lift, Prog.bind_op, Prog.bind_ret, Prog.pure_eq_ret]
    refine runs_wsd d0 15 rfl (oM_credit _ _ _) ?_
    refine runs_wsd d0 23 rfl (oM_credit _ _ _) ?_
    exact runs_ret d0 _
  case ok => decide +kernel
  case fin => decide +kernel

/-- What a device ends with: its cells all waited for, the result whole, and what it started from. -/
def Fin0 (I : Inp F) (c : Dev nD) : sProp 𝕄 :=
  iprop((∃ W, owes (c : Thread nD τ) 0 W) ∗ bigSep Finset.univ (spent c) ∗ outP c 4294967295 fullShare (Out I) ∗ Rest I c)

theorem end_Fin0 : iprop((rctx c ∗ Ag I c mEnd) ∗ Rest I c) ⊢ (Fin0 I c : sProp 𝕄) := by
  have hs : (Finset.univ \ ms mEnd.w : Finset (Fin 81)) = Finset.univ := by
    rw [show (ms mEnd.w : Finset (Fin 81)) = ∅ from ms_none, Finset.sdiff_empty]
  have ho : owedOf c mEnd.n = 0 := owed_zero c
  unfold Ag St debt waits Fin0
  rw [hs, ho]
  iintro ⟨⟨-, ⟨⟨HO, -⟩, ⟨-, Hw⟩, -⟩, -, HH, HG⟩, HR⟩
  isplitl [HO]; · iexact HO
  isplitl [Hw]; · iexact Hw
  isplitl [HH HG]
  · iapply (show iprop(bigSep (ms mEnd.H) (share I c) ∗ bigSep (ms mEnd.G : Finset (Fin 32)) (keep I c)) ⊢ (outP c 4294967295 fullShare (Out I) : sProp 𝕄) from
      (by
        have h := blocks_whole I c 32 le_rfl
        have hu : upto 32 = 4294967294 := by decide +kernel
        rw [hu] at h
        exact h))
    isplitl [HH] <;> iassumption
  iexact HR

theorem body_run : Hr I K c iprop(SB I c 70368744177662 31 ∗ P1 I c) (atBufs (cc0_body (F := F))) (fun _ => Fin0 I c) := by
  unfold atBufs
  rw [cc0_body_eq_skeleton]
  unfold cc0_body_skel
  refine Hr.bind (red35 I K c) fun d0 => ?_
  refine Hr.conseq (Entails.refl _) (Hr.frame (Hr.runs (ops := [.wsd 30, .wsd 29, .wsd 27, .wsd 31]) (m' := mEnd) ?run (by decide +kernel) (by decide +kernel))) fun _ => end_Fin0 I c
  simp only [Prog.lift, Prog.bind_op, Prog.bind_ret, Prog.pure_eq_ret]
  refine runs_wsd c 30 rfl (oM_credit _ _ _) ?_
  refine runs_wsd c 29 rfl (oM_credit _ _ _) ?_
  refine runs_wsd c 27 rfl (oM_credit _ _ _) ?_
  refine runs_wsd c 31 rfl (oM_credit _ _ _) ?_
  exact runs_ret c _

end Cert.KernelIdeal.Pf
-- ==== Proof.I.Deal.lean ====
/-
  What the launch deals: every cell's invariant allocated (the copies' cells dormant, to be opened when the kernel is
  entered), each duty's token to the device that pays it, and each device's credit for what the others owe it.
-/
module

public import proofs.«01_k».proof.Proof.I.Steps

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The own semaphores by what they are for -/

/-- The copies, and the barrier signals. -/
abbrev cps : Finset (Fin 46) := Finset.univ.filter fun x => IsCp x
def bx (r : Fin 5) : Fin 46 := ⟨41 + r.val, by omega⟩

theorem own_cover : (Finset.univ : Finset (Fin 81)) = cps.image sj ∪ (cps.image rj ∪ {80}) := by decide +kernel
theorem own_disj1 : Disjoint (cps.image sj) (cps.image rj ∪ {80}) := by decide +kernel
theorem own_disj2 : Disjoint (cps.image rj) ({80} : Finset (Fin 81)) := by decide +kernel
theorem sj_inj : Set.InjOn sj (cps : Finset (Fin 46)) := fun x hx y hy h => by
  have hx' := kind_sj x (Finset.mem_filter.mp hx).2
  have hy' := kind_sj y (Finset.mem_filter.mp hy).2
  rw [h, hy'] at hx'
  exact (Kind.snd.inj hx').symm
theorem rj_inj : Set.InjOn rj (cps : Finset (Fin 46)) := fun x hx y hy h => by
  have hx' := kind_rj x (Finset.mem_filter.mp hx).2
  have hy' := kind_rj y (Finset.mem_filter.mp hy).2
  rw [h, hy'] at hx'
  exact (Kind.rcv.inj hx').symm

theorem own_split (Φ : Fin 81 → sProp 𝕄) :
    bigSep Finset.univ Φ = iprop((bigSep cps fun x => Φ (sj x)) ∗ (bigSep cps fun x => Φ (rj x)) ∗ Φ 80) := by
  rw [own_cover, bigSep_union own_disj1, bigSep_union own_disj2, bigSep_image_of_injOn sj_inj, bigSep_image_of_injOn rj_inj, bigSep_singleton]
  rfl

theorem all_cover : (ms 70368744177662 : Finset (Fin 46)) = cps ∪ Finset.univ.image bx := by decide +kernel
theorem all_disj : Disjoint cps (Finset.univ.image bx) := by decide +kernel
theorem bx_inj : Function.Injective bx := fun a b h => Fin.ext (by
  have := congrArg Fin.val h
  simp only [bx] at this
  omega)
theorem all_split (Φ : Fin 46 → sProp 𝕄) :
    bigSep (ms 70368744177662) Φ = iprop((bigSep cps Φ) ∗ (bigSep Finset.univ fun r => Φ (bx r))) := by
  rw [all_cover, bigSep_union all_disj, bigSep_image_of_injOn (bx_inj.injOn)]
  rfl

theorem rnd_bx (r : Fin 5) : rnd (bx r) = r := by revert r; decide
theorem dty_bx (r : Fin 5) : dty (bx r) = r := by revert r; decide
theorem tcell_bx (c : Dev nD) (r : Fin 5) : tcell c (bx r) = bCell (pk r c) := by
  unfold tcell
  rw [tloc_bar (bx r) (by simp only [bx]; omega), rnd_bx]

/-! ## The tokens -/

theorem swap_over {J : Type} [DecidableEq J] (s : Finset J) (Φ : Dev nD → J → sProp 𝕄) :
    (bigSep Finset.univ fun c => bigSep s (Φ c)) = bigSep s fun x => bigSep Finset.univ fun c => Φ c x := by
  induction s using Finset.induction_on with
  | empty =>
    rw [bigSep_empty]
    exact (bigSep_congr (s := Finset.univ) (Ψ := fun _ => (BI.emp : sProp 𝕄)) fun c _ => bigSep_empty).trans (bigSep_emp_const _)
  | insert a s ha ih =>
    rw [bigSep_insert ha, ← ih]
    refine (bigSep_congr fun c _ => bigSep_insert ha).trans ?_
    exact bigSep_sep' _ _ _

/-- Each device's holding for copy `x`, handed to the partner that makes it. -/
theorem around {J : Type} [DecidableEq J] (s : Finset J) (k : J → Fin 5) (Φ : Dev nD → J → sProp 𝕄) :
    (bigSep Finset.univ fun c => bigSep s (Φ c)) = bigSep Finset.univ fun c => bigSep s fun x => Φ (pk (k x) c) x := by
  rw [swap_over, swap_over s fun c x => Φ (pk (k x) c) x]
  exact bigSep_congr fun x _ => bigSep_univ_equiv (pkE (k x)) fun c => Φ c x

/-- The tokens of a device's own cells, and those it pays with. -/
def ownToks (c : Dev nD) : sProp 𝕄 :=
  iprop((bigSep Finset.univ fun j : Fin 81 => dutyTok ER (oCell c j) 0 0) ∗ bigSep Finset.univ fun r : Fin 5 => dutyTok ER (bCell c) 0 r)
def payToks (c : Dev nD) : sProp 𝕄 :=
  iprop(bigSep (ms 70368744177662) (toks c) ∗ dutyTok ER (oCell c 80) 0 0)

theorem payToks_eq (c : Dev nD) : (payToks c : sProp 𝕄) =
    iprop((bigSep cps fun x => dutyTok ER (oCell c (sj x)) 0 0) ∗ (bigSep cps fun x => dutyTok ER (oCell (pk (rnd x) c) (rj x)) 0 0)
      ∗ dutyTok ER (oCell c 80) 0 0 ∗ bigSep Finset.univ fun r : Fin 5 => dutyTok ER (bCell (pk r c)) 0 r) := by
  have h1 : (bigSep cps (toks c) : sProp 𝕄)
      = iprop((bigSep cps fun x => dutyTok ER (oCell (pk (rnd x) c) (rj x)) 0 0) ∗ bigSep cps fun x => dutyTok ER (oCell c (sj x)) 0 0) := by
    rw [← bigSep_sep']
    refine bigSep_congr fun x hx => ?_
    have hc := (Finset.mem_filter.mp hx).2
    unfold toks dty tcell
    rw [if_pos hc.2, if_pos hc.2, tloc_cp x hc]
  have h2 : (bigSep Finset.univ fun r => toks c (bx r) : sProp 𝕄) = bigSep Finset.univ fun r : Fin 5 => dutyTok ER (bCell (pk r c)) 0 r := by
    refine bigSep_congr fun r _ => ?_
    unfold toks
    rw [tcell_bx, dty_bx, if_neg (by simp only [bx]; omega)]
    exact BI.equiv_iff.mp sep_emp
  unfold payToks
  rw [all_split, h1, h2]
  generalize (bigSep cps fun x => (dutyTok ER (oCell (pk (rnd x) c) (rj x)) 0 0 : sProp 𝕄)) = R
  generalize (bigSep cps fun x => (dutyTok ER (oCell c (sj x)) 0 0 : sProp 𝕄)) = S
  generalize (bigSep Finset.univ fun r : Fin 5 => (dutyTok ER (bCell (pk r c)) 0 r : sProp 𝕄)) = B
  generalize (dutyTok ER (oCell c 80) 0 0 : sProp 𝕄) = D
  have f1 : iprop(((R ∗ S) ∗ B) ∗ D) ⊢ iprop(S ∗ R ∗ D ∗ B) := by
    iintro ⟨⟨⟨HR, HS⟩, HB⟩, H8⟩
    isplitl [HS]; · iexact HS
    isplitl [HR]; · iexact HR
    isplitl [H8]; · iexact H8
    iexact HB
  have f2 : iprop(S ∗ R ∗ D ∗ B) ⊢ iprop(((R ∗ S) ∗ B) ∗ D) := by
    iintro ⟨HS, HR, H8, HB⟩
    isplitr [H8]
    · isplitr [HB]
      · isplitl [HR] <;> iassumption
      iexact HB
    iexact H8
  exact BI.equiv_iff.mp ⟨f1, f2⟩

theorem toks_around : (bigSep Finset.univ fun c : Dev nD => (ownToks c : sProp 𝕄)) ⊢ bigSep Finset.univ fun c : Dev nD => payToks c := by
  have e : (bigSep Finset.univ fun c : Dev nD => (ownToks c : sProp 𝕄)) = bigSep Finset.univ fun c : Dev nD =>
      iprop(((bigSep cps fun x => dutyTok ER (oCell c (sj x)) 0 0) ∗ (bigSep cps fun x => dutyTok ER (oCell c (rj x)) 0 0)
        ∗ dutyTok ER (oCell c 80) 0 0) ∗ bigSep Finset.univ fun r : Fin 5 => dutyTok ER (bCell c) 0 r) :=
    bigSep_congr fun c _ => by unfold ownToks; rw [own_split]
  have e' : (bigSep Finset.univ fun c : Dev nD => (payToks c : sProp 𝕄)) = _ := bigSep_congr fun c _ => payToks_eq c
  rw [e, e', bigSep_sep', bigSep_sep', bigSep_sep', bigSep_sep', bigSep_sep', bigSep_sep',
    around cps rnd (fun c x => dutyTok ER (oCell c (rj x)) 0 0),
    around Finset.univ (fun r : Fin 5 => r) (fun c r => dutyTok ER (bCell c) 0 r)]
  iintro ⟨⟨HS, HR, H8⟩, HB⟩
  isplitl [HS]; · iexact HS
  isplitl [HR]; · iexact HR
  isplitl [H8]; · iexact H8
  iexact HB

/-! ## The credit -/

def inCreds (c : Dev nD) : sProp 𝕄 :=
  iprop(cred (tallyAt (bCell c) () 5) ∗ bigSep Finset.univ fun j : Fin 81 => inCred c j (kind j))

abbrev O₀ (c : Dev nD) : CellTallies nD τ sig Unit := owedOf c 70368744177662

theorem cred_five (c : Dev nD) : (bigSep Finset.univ fun _ : Fin 5 => (cred (tallyAt (bCell c) () 1) : sProp 𝕄)) ⊢ cred (tallyAt (bCell c) () 5) := by
  rw [bigSep_univ_eq_bigSepL [(0 : Fin 5), 1, 2, 3, 4] (by decide) (by decide)]
  show iprop(cred (tallyAt (bCell c) () 1) ∗ cred (tallyAt (bCell c) () 1) ∗ cred (tallyAt (bCell c) () 1) ∗ cred (tallyAt (bCell c) () 1)
    ∗ cred (tallyAt (bCell c) () 1)) ⊢ (cred (tallyAt (bCell c) () 5) : sProp 𝕄)
  have h (a b : ℕ) : iprop(cred (tallyAt (bCell c) () a) ∗ cred (tallyAt (bCell c) () b)) ⊢ (cred (tallyAt (bCell c) () (a + b)) : sProp 𝕄) := by
    rw [← tallyAt_add]; exact (cred_add _ _).2
  exact (sep_mono_right ((sep_mono_right ((sep_mono_right (h 1 1)).trans (h 1 2))).trans (h 1 3))).trans (h 1 4)

theorem creds (c : Dev nD) : (Pipeline.launchCred O₀ c : sProp 𝕄) ⊢ inCreds c := by
  have e : (Pipeline.launchCred O₀ c : sProp 𝕄) = bigSep (ms 70368744177662) fun x => Pipeline.launchCred (fun d => tally d x) c :=
    Pipeline.launchCred_sum (ms 70368744177662 : Finset (Fin 46)) (fun x d => tally d x) c
  have h : ∀ x : Fin 46, (Pipeline.launchCred (fun d => tally d x) c : sProp 𝕄) ⊢ cred (tallyAt ((c : Thread nD τ), tloc x) () (amt x)) := fun x =>
    Pipeline.launchCred_tallyAt (tloc x) (pk (rnd x)) (pk (rnd x)) (pk_pk _) (pk_pk _) () (amt x) c
  rw [e]
  refine (bigSep_mono fun x _ => h x).trans ?_
  rw [all_split (fun x => (cred (tallyAt ((c : Thread nD τ), tloc x) () (amt x)) : sProp 𝕄))]
  have hb : (bigSep Finset.univ fun r => (cred (tallyAt ((c : Thread nD τ), tloc (bx r)) () (amt (bx r))) : sProp 𝕄)) ⊢ cred (tallyAt (bCell c) () 5) := by
    refine (Entails.of_eq (bigSep_congr fun r _ => ?_)).trans (cred_five c)
    rw [tloc_bar (bx r) (by simp only [bx]; omega), show amt (bx r) = 1 from by revert r; decide]
  have hc : (bigSep cps fun x => (cred (tallyAt ((c : Thread nD τ), tloc x) () (amt x)) : sProp 𝕄))
      ⊢ bigSep Finset.univ fun j : Fin 81 => inCred c j (kind j) := by
    have hs : (bigSep cps fun x => (inCred c (sj x) (kind (sj x)) : sProp 𝕄)) = iprop(emp) := by
      refine (bigSep_congr (Ψ := fun _ => (BI.emp : sProp 𝕄)) fun x hx => ?_).trans (bigSep_emp_const _)
      rw [kind_sj x (Finset.mem_filter.mp hx).2]; rfl
    have hr : (bigSep cps fun x => (inCred c (rj x) (kind (rj x)) : sProp 𝕄))
        = bigSep cps fun x => cred (tallyAt ((c : Thread nD τ), tloc x) () (amt x)) := by
      refine bigSep_congr fun x hx => ?_
      have hx' := (Finset.mem_filter.mp hx).2
      rw [kind_rj x hx', tloc_cp x hx']; rfl
    have h8 : (inCred c 80 (kind 80) : sProp 𝕄) = iprop(emp) := by rw [kind_resid]; rfl
    rw [own_split, hs, hr, h8]
    iintro H
    isplitr; · iempintro
    isplitl [H]; · iexact H
    iempintro
  unfold inCreds
  exact (show iprop(_ ∗ _) ⊢ iprop(_ ∗ _) from BIClass.sep_mono hc hb).trans sep_comm.1

/-! ## The cells -/

theorem osem_inj : Function.Injective osem := fun a b h => Fin.ext (by
  have := congrArg Fin.val (SemLoc.dma.inj h)
  change 3 + a.val = 3 + b.val at this
  omega)

def barEmb : Dev nD ↪ GSem nD τ sig := ⟨fun c => bCell c, fun _ _ h => congrArg (fun g : GSem nD τ sig => g.1.1) h⟩
def ownEmb : Dev nD × Fin 81 ↪ GSem nD τ sig :=
  ⟨fun a => oCell a.1 a.2, fun _ _ h => Prod.ext (congrArg (fun g : GSem nD τ sig => g.1.1) h) (osem_inj (congrArg Prod.snd h))⟩
abbrev barCells : Finset (GSem nD τ sig) := Finset.univ.map barEmb
abbrev ownCells : Finset (GSem nD τ sig) := Finset.univ.map ownEmb

def ownTokEmb : Dev nD × Fin 81 ↪ GSem nD τ sig × ℕ × Fin 5 :=
  ⟨fun a => (oCell a.1 a.2, 0, 0), fun a b h => ownEmb.injective (congrArg Prod.fst h)⟩
def barTokEmb : Dev nD × Fin 5 ↪ GSem nD τ sig × ℕ × Fin 5 :=
  ⟨fun a => (bCell a.1, 0, a.2), fun a b h => Prod.ext (barEmb.injective (congrArg Prod.fst h)) (congrArg (fun t : GSem nD τ sig × ℕ × Fin 5 => t.2.2) h)⟩
def allToks : Finset (GSem nD τ sig × ℕ × Fin 5) := Finset.univ.map ownTokEmb ∪ Finset.univ.map barTokEmb

theorem cells_disj : Disjoint barCells ownCells := by
  rw [Finset.disjoint_left]
  rintro g h₁ h₂
  obtain ⟨c, -, rfl⟩ := Finset.mem_map.mp h₁
  obtain ⟨a, -, h⟩ := Finset.mem_map.mp h₂
  have h' : SemLoc.dma _ = SemLoc.reg _ := congrArg Prod.snd h
  cases h'
theorem toks_disj : Disjoint (Finset.univ.map ownTokEmb) (Finset.univ.map barTokEmb) := by
  rw [Finset.disjoint_left]
  rintro g h₁ h₂
  obtain ⟨c, -, rfl⟩ := Finset.mem_map.mp h₁
  obtain ⟨a, -, h⟩ := Finset.mem_map.mp h₂
  have h' : SemLoc.reg _ = SemLoc.dma _ := congrArg (fun t : GSem nD τ sig × ℕ × Fin 5 => t.1.2) h
  cases h'

theorem allToks_eq : (bigSep allToks fun x => (dutyTok ER x.1 x.2.1 x.2.2 : sProp 𝕄)) = bigSep Finset.univ fun c : Dev nD => ownToks c := by
  unfold allToks
  rw [bigSep_union toks_disj, bigSep_map, bigSep_map, bigSep_univ_prod, bigSep_univ_prod]
  unfold ownToks
  exact (bigSep_sep' _ _ _).symm

/-! ## What each device is dealt -/

variable (I : Inp F)

def launchEl : UO := launchOf barCells ownCells allToks

/-- A device's share of the protocol before the kernel is entered: its cells unopened. -/
def lin (c : Dev nD) : sProp 𝕄 :=
  iprop((bigSep Finset.univ fun j : Fin 81 => openTok ER (oCell c j)) ∗ atPos ER (bCell c) 0 ∅ 0 ∗ payToks c)
def dealt (c : Dev nD) : sProp 𝕄 := iprop(∃ K, bigSep Finset.univ (devCells I K) ∗ lin c)

theorem fund : iprop((bigSep Finset.univ fun c : Dev nD => semVal (bCell c) 0) ∗ BI.own (ER launchEl))
    ⊢ (|={Set.univ}=> bigSep Finset.univ (dealt I) : sProp 𝕄) := by
  have hv : (bigSep Finset.univ fun c : Dev nD => (semVal (bCell c) 0 : sProp 𝕄)) = bigSep barCells fun g => semVal g 0 :=
    (bigSep_map (s := Finset.univ) barEmb (Φ := fun g : GSem nD τ sig => (semVal g 0 : sProp 𝕄))).symm
  have hat : (bigSep barCells fun g => (atPos ER g 0 ∅ 0 : sProp 𝕄)) = bigSep Finset.univ fun c : Dev nD => atPos ER (bCell c) 0 ∅ 0 :=
    bigSep_map (s := Finset.univ) barEmb (Φ := fun g : GSem nD τ sig => (atPos ER g 0 ∅ 0 : sProp 𝕄))
  have hre : (bigSep barCells fun g => (reached ER g 0 : sProp 𝕄)) = bigSep Finset.univ fun c : Dev nD => reached ER (bCell c) 0 :=
    bigSep_map (s := Finset.univ) barEmb (Φ := fun g : GSem nD τ sig => (reached ER g 0 : sProp 𝕄))
  have hop : (bigSep ownCells fun g => (openTok ER g : sProp 𝕄))
      = bigSep Finset.univ fun c : Dev nD => bigSep Finset.univ fun j : Fin 81 => openTok ER (oCell c j) := by
    rw [bigSep_map, bigSep_univ_prod]; rfl
  have hinv (κ : GSem nD τ sig → ℕ) : (bigSep (barCells ∪ ownCells) fun g => (cellInv ER (rd I) (κ g) g : sProp 𝕄))
      = iprop((bigSep Finset.univ fun c : Dev nD => cellInv ER (rd I) (κ (bCell c)) (bCell c))
        ∗ bigSep Finset.univ fun c : Dev nD => bigSep Finset.univ fun j : Fin 81 => cellInv ER (rd I) (κ (oCell c j)) (oCell c j)) := by
    rw [bigSep_union cells_disj, bigSep_map, bigSep_map, bigSep_univ_prod]; rfl
  rw [hv]
  unfold launchEl
  iintro H
  imod (Rounds.fund_launch ER (rd I) cells_disj (fun g _ h => h) allToks) $$ H with ⟨%κ, -, Hinv, Hr, Hat, Hopen, Htok⟩
  imodintro
  ihave Hinv' := (Entails.of_eq (hinv κ)) $$ Hinv
  icases Hinv' with ⟨HiB, HiO⟩
  ihave Hr' := (Entails.of_eq hre) $$ Hr
  ihave Hat' := (Entails.of_eq hat) $$ Hat
  ihave Hop' := (Entails.of_eq hop) $$ Hopen
  ihave Htok' := ((Entails.of_eq allToks_eq).trans (toks_around (F := F))) $$ Htok
  ihave #Hd := (show iprop((bigSep Finset.univ fun c : Dev nD => bigSep Finset.univ fun j : Fin 81 => cellInv ER (rd I) (κ (oCell c j)) (oCell c j))
      ∗ (bigSep Finset.univ fun c : Dev nD => cellInv ER (rd I) (κ (bCell c)) (bCell c)) ∗ bigSep Finset.univ fun c : Dev nD => reached ER (bCell c) 0)
      ⊢ (bigSep Finset.univ (devCells I κ) : sProp 𝕄) from Entails.of_eq (by unfold devCells; rw [bigSep_sep', bigSep_sep'])) $$ [HiO HiB Hr']
  · isplitl [HiO]; · iexact HiO
    isplitl [HiB] <;> iassumption
  iapply (bigSep_with_persistent (R := bigSep Finset.univ (devCells I κ)) (Φ := fun c => lin c) fun c _ => show iprop(bigSep Finset.univ (devCells I κ) ∗ lin c) ⊢ dealt I c from by
    unfold dealt
    iintro H
    iexists κ
    iexact H)
  isplitr; · iexact Hd
  iapply (show iprop((bigSep Finset.univ fun c : Dev nD => bigSep Finset.univ fun j : Fin 81 => openTok ER (oCell c j))
      ∗ (bigSep Finset.univ fun c : Dev nD => atPos ER (bCell c) 0 ∅ 0) ∗ bigSep Finset.univ fun c : Dev nD => payToks c)
      ⊢ (bigSep Finset.univ fun c : Dev nD => lin c : sProp 𝕄) from Entails.of_eq (by unfold lin; rw [bigSep_sep', bigSep_sep']))
  isplitl [Hop']; · iexact Hop'
  isplitl [Hat'] <;> iassumption

end Cert.KernelIdeal.Pf
-- ==== Proof.I.Entry.lean ====
/-
  Into the kernel and out of it: the landing buffers cut and rejoined, what a device brings made the body's start, and what
  the body ends with made what the device takes away, its cells closed.
-/
module

public import proofs.«01_k».proof.Proof.I.Body
public import proofs.«01_k».proof.Proof.I.Deal
public import Idealize.ShloMosaic.Lib.Rounds.Family

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The landing buffers -/

theorem halves (H : ℕ) (i0 i1) :
    Disjoint (Rect.unit (s := ⟨2, ![2 * H, 512]⟩) ![0, 0] ![H, 512] i0).set (Rect.unit (s := ⟨2, ![2 * H, 512]⟩) ![H, 0] ![H, 512] i1).set
      ∧ (Rect.unit (s := ⟨2, ![2 * H, 512]⟩) ![0, 0] ![H, 512] i0).set ∪ (Rect.unit (s := ⟨2, ![2 * H, 512]⟩) ![H, 0] ![H, 512] i1).set = Finset.univ := by
  constructor
  · rw [Finset.disjoint_left]
    intro i h h'
    have a := (Rect.mem_set_unit.mp h 0).2
    have b := (Rect.mem_set_unit.mp h' 0).1
    change (i 0 : ℕ) < 0 + H at a
    change H ≤ (i 0 : ℕ) at b
    omega
  · ext i
    simp only [Finset.mem_union, Finset.mem_univ, iff_true]
    have h0 : (i 0 : ℕ) < 2 * H := (i 0).isLt
    have h1 : (i 1 : ℕ) < 512 := (i 1).isLt
    by_cases h : (i 0 : ℕ) < H
    · refine .inl (Rect.mem_set_unit.mpr fun a => ?_)
      match a with
      | 0 => exact ⟨Nat.zero_le _, by show (i 0 : ℕ) < 0 + H; omega⟩
      | 1 => exact ⟨Nat.zero_le _, by show (i 1 : ℕ) < 0 + 512; omega⟩
    · refine .inr (Rect.mem_set_unit.mpr fun a => ?_)
      match a with
      | 0 => exact ⟨by show H ≤ (i 0 : ℕ); omega, by show (i 0 : ℕ) < H + H; omega⟩
      | 1 => exact ⟨Nat.zero_le _, by show (i 1 : ℕ) < 0 + 512; omega⟩

theorem cut2 {ℓ : Loc nD τ sig} {I J : Finset (Idx ℓ)} (h : Disjoint I J ∧ I ∪ J = Finset.univ) :
    iprop(∃ f : Buf (Elt F) ℓ, ℓ ↦{fullShare} f) = (iprop((∃ f : Buf (Elt F) ℓ, ℓ ↦[I]{fullShare} f) ∗ ∃ f : Buf (Elt F) ℓ, ℓ ↦[J]{fullShare} f) : sProp 𝕄) := by
  have f1 : iprop(∃ f : Buf (Elt F) ℓ, ℓ ↦{fullShare} f) ⊢ (iprop((∃ f : Buf (Elt F) ℓ, ℓ ↦[I]{fullShare} f) ∗ ∃ f : Buf (Elt F) ℓ, ℓ ↦[J]{fullShare} f) : sProp 𝕄) := by
    rw [← h.2]
    iintro ⟨%f, H⟩
    ihave H' := (pointsTo_union h.1).1 $$ H
    icases H' with ⟨HI, HJ⟩
    isplitl [HI]
    · iexists f; iexact HI
    · iexists f; iexact HJ
  have f2 : (iprop((∃ f : Buf (Elt F) ℓ, ℓ ↦[I]{fullShare} f) ∗ ∃ f : Buf (Elt F) ℓ, ℓ ↦[J]{fullShare} f) : sProp 𝕄) ⊢ iprop(∃ f : Buf (Elt F) ℓ, ℓ ↦{fullShare} f) := by
    rw [← h.2]
    iintro ⟨⟨%f, HI⟩, ⟨%g, HJ⟩⟩
    iexists (J.piecewise g f)
    iapply (pointsTo_join h.1)
    isplitl [HI] <;> iassumption
  exact BI.equiv_iff.mp ⟨f1, f2⟩

theorem sl_set {b : Ref sig .tc} (r : Rect b.ty.shape) : ((Memref.whole b : Memref sig .tc b.space b.ty.shape b.ty.elt).view.slice r).set = r.set := by
  rw [View.set_slice]; exact Finset.map_refl

theorem halves0 : Disjoint b0.view.set b1.view.set ∧ b0.view.set ∪ b1.view.set = Finset.univ := by
  have h1 : b0.view.set = (Rect.unit (s := S256x512) ![0, 0] S128x512.size inb_S256x512_S128x512_0_0).set := sl_set _
  have h2 : b1.view.set = (Rect.unit (s := S256x512) ![128, 0] S128x512.size inb_S256x512_S128x512_128_0).set := sl_set _
  rw [h1, h2]
  exact halves 128 inb_S256x512_S128x512_0_0 inb_S256x512_S128x512_128_0
theorem pair0 (c : Dev nD) : iprop(∃ f : Buf (Elt F) ((c : Thread nD τ).loc cc0_scratch0), (c : Thread nD τ).loc cc0_scratch0 ↦{fullShare} f) = (iprop(anyP b0 c ∗ anyP b1 c) : sProp 𝕄) :=
  cut2 (ℓ := (c : Thread nD τ).loc cc0_scratch0) halves0
theorem halves1 : Disjoint b2.view.set b3.view.set ∧ b2.view.set ∪ b3.view.set = Finset.univ := by
  have h1 : b2.view.set = (Rect.unit (s := S128x512) ![0, 0] S64x512.size inb_S128x512_S64x512_0_0).set := sl_set _
  have h2 : b3.view.set = (Rect.unit (s := S128x512) ![64, 0] S64x512.size inb_S128x512_S64x512_64_0).set := sl_set _
  rw [h1, h2]
  exact halves 64 inb_S128x512_S64x512_0_0 inb_S128x512_S64x512_64_0
theorem pair1 (c : Dev nD) : iprop(∃ f : Buf (Elt F) ((c : Thread nD τ).loc cc0_scratch1), (c : Thread nD τ).loc cc0_scratch1 ↦{fullShare} f) = (iprop(anyP b2 c ∗ anyP b3 c) : sProp 𝕄) :=
  cut2 (ℓ := (c : Thread nD τ).loc cc0_scratch1) halves1
theorem halves2 : Disjoint b4.view.set b5.view.set ∧ b4.view.set ∪ b5.view.set = Finset.univ := by
  have h1 : b4.view.set = (Rect.unit (s := S64x512) ![0, 0] S32x512.size inb_S64x512_S32x512_0_0).set := sl_set _
  have h2 : b5.view.set = (Rect.unit (s := S64x512) ![32, 0] S32x512.size inb_S64x512_S32x512_32_0).set := sl_set _
  rw [h1, h2]
  exact halves 32 inb_S64x512_S32x512_0_0 inb_S64x512_S32x512_32_0
theorem pair2 (c : Dev nD) : iprop(∃ f : Buf (Elt F) ((c : Thread nD τ).loc cc0_scratch2), (c : Thread nD τ).loc cc0_scratch2 ↦{fullShare} f) = (iprop(anyP b4 c ∗ anyP b5 c) : sProp 𝕄) :=
  cut2 (ℓ := (c : Thread nD τ).loc cc0_scratch2) halves2
theorem halves3 : Disjoint b6.view.set b7.view.set ∧ b6.view.set ∪ b7.view.set = Finset.univ := by
  have h1 : b6.view.set = (Rect.unit (s := S32x512) ![0, 0] S16x512.size inb_S32x512_S16x512_0_0).set := sl_set _
  have h2 : b7.view.set = (Rect.unit (s := S32x512) ![16, 0] S16x512.size inb_S32x512_S16x512_16_0).set := sl_set _
  rw [h1, h2]
  exact halves 16 inb_S32x512_S16x512_0_0 inb_S32x512_S16x512_16_0
theorem pair3 (c : Dev nD) : iprop(∃ f : Buf (Elt F) ((c : Thread nD τ).loc cc0_scratch3), (c : Thread nD τ).loc cc0_scratch3 ↦{fullShare} f) = (iprop(anyP b6 c ∗ anyP b7 c) : sProp 𝕄) :=
  cut2 (ℓ := (c : Thread nD τ).loc cc0_scratch3) halves3
theorem single4 (c : Dev nD) : iprop(∃ f : Buf (Elt F) ((c : Thread nD τ).loc cc0_scratch4), (c : Thread nD τ).loc cc0_scratch4 ↦{fullShare} f) = (anyP b8 c : sProp 𝕄) := by
  unfold anyP
  rw [show b8.view.set = Finset.univ from View.set_whole _]

theorem bufs9 (c : Dev nD) : (bigSep (ms 511 : Finset (Fin 9)) (bufAny (F := F) c) : sProp 𝕄)
    = iprop((∃ f : Buf (Elt F) ((c : Thread nD τ).loc cc0_scratch0), (c : Thread nD τ).loc cc0_scratch0 ↦{fullShare} f)
      ∗ (∃ f : Buf (Elt F) ((c : Thread nD τ).loc cc0_scratch1), (c : Thread nD τ).loc cc0_scratch1 ↦{fullShare} f)
      ∗ (∃ f : Buf (Elt F) ((c : Thread nD τ).loc cc0_scratch2), (c : Thread nD τ).loc cc0_scratch2 ↦{fullShare} f)
      ∗ (∃ f : Buf (Elt F) ((c : Thread nD τ).loc cc0_scratch3), (c : Thread nD τ).loc cc0_scratch3 ↦{fullShare} f)
      ∗ ∃ f : Buf (Elt F) ((c : Thread nD τ).loc cc0_scratch4), (c : Thread nD τ).loc cc0_scratch4 ↦{fullShare} f) := by
  rw [show (ms 511 : Finset (Fin 9)) = Finset.univ from by decide, pair0, pair1, pair2, pair3, single4,
    bigSep_univ_eq_bigSepL [(0 : Fin 9), 1, 2, 3, 4, 5, 6, 7, 8] (by decide) (by decide)]
  show iprop(anyP b0 c ∗ anyP b1 c ∗ anyP b2 c ∗ anyP b3 c ∗ anyP b4 c ∗ anyP b5 c ∗ anyP b6 c ∗ anyP b7 c ∗ anyP b8 c)
    = (iprop((anyP b0 c ∗ anyP b1 c) ∗ (anyP b2 c ∗ anyP b3 c) ∗ (anyP b4 c ∗ anyP b5 c) ∗ (anyP b6 c ∗ anyP b7 c) ∗ anyP b8 c) : sProp 𝕄)
  have asc (X Y Z : sProp 𝕄) : iprop((X ∗ Y) ∗ Z) = iprop(X ∗ Y ∗ Z) := by
    have g1 : iprop((X ∗ Y) ∗ Z) ⊢ iprop(X ∗ Y ∗ Z) := by
      iintro ⟨⟨HX, HY⟩, HZ⟩
      isplitl [HX]; · iexact HX
      isplitl [HY] <;> iassumption
    have g2 : iprop(X ∗ Y ∗ Z) ⊢ iprop((X ∗ Y) ∗ Z) := by
      iintro ⟨HX, HY, HZ⟩
      isplitr [HZ]
      · isplitl [HX] <;> iassumption
      iexact HZ
    exact BI.equiv_iff.mp ⟨g1, g2⟩
  rw [asc, asc, asc, asc]

theorem any9 (c : Dev nD) : (anyP (F := F) b9 c : sProp 𝕄)
    = iprop(∃ f : Buf (Elt F) ((c : Thread nD τ).loc cc0_scratch5), (c : Thread nD τ).loc cc0_scratch5 ↦{fullShare} f) := by
  unfold anyP
  rw [show b9.view.set = Finset.univ from View.set_whole _]

theorem land_any {s : Shape} (d : Memref sig .tc .vmem s .f32) (c : Dev nD) (v : s.Idx → Elt F .f32) : landP d c v ⊢ (anyP d c : sProp 𝕄) := by
  unfold landP anyP
  iintro ⟨%f, -, H⟩
  iexists f
  iexact H

variable (I : Inp F)

theorem bufs_forget (c : Dev nD) : bigSep (ms 511 : Finset (Fin 9)) (bufLand I c) ⊢ (bigSep (ms 511 : Finset (Fin 9)) (bufAny c) : sProp 𝕄) :=
  bigSep_mono fun j _ => match j with
    | 0 => land_any _ c _ | 1 => land_any _ c _ | 2 => land_any _ c _ | 3 => land_any _ c _ | 4 => land_any _ c _
    | 5 => land_any _ c _ | 6 => land_any _ c _ | 7 => land_any _ c _ | 8 => land_any _ c _

theorem stages (c : Dev nD) : (bigSep (ms 31 : Finset (Fin 5)) fun r => bigSep (stg r) (bufAny (F := F) c)) = (bigSep (ms 511 : Finset (Fin 9)) (bufAny c) : sProp 𝕄) := by
  have hd : ∀ r ∈ (ms 31 : Finset (Fin 5)), ∀ r' ∈ (ms 31 : Finset (Fin 5)), r ≠ r' → Disjoint (stg r) (stg r') := by decide
  rw [← bigSep_biUnion_eq _ _ _ hd, show (ms 31 : Finset (Fin 5)).biUnion stg = ms 511 from by decide]

/-! ## In -/

/-- What the protocol holds on a device once its cells are open. -/
def Xk (c : Dev nD) : sProp 𝕄 :=
  iprop(∃ K, ctx I K ∗ reachedAll c ∗ (bigSep Finset.univ (fresh c)) ∗ payToks c ∗ atPos ER (bCell c) 0 ∅ 0 ∗ cred (tallyAt (bCell c) () 5))

def Tk (c : Dev nD) : sProp 𝕄 := iprop(dealt I c ∗ inCreds c)

theorem Tk_open (c : Dev nD) : iprop(Tk I c ∗ Pipeline.ownSems0 osem c ∗ levAts L lv) ⊢ (|={Set.univ}=> Xk I c : sProp 𝕄) := by
  unfold Tk Xk dealt lin inCreds
  iintro ⟨⟨⟨%K, #HD, Ho, Hb, Ht⟩, Hc5, Hin⟩, Hs, #Hl⟩
  ihave #Hd := (elim_of (devCells I K) (Finset.mem_univ c)) $$ HD
  ihave #Hi := (show devCells I K c ⊢ (bigSep Finset.univ fun j : Fin 81 => cellInv ER (rd I) (K (oCell c j)) (oCell c j) : sProp 𝕄) from by
    unfold devCells
    iintro ⟨H, -⟩
    iexact H) $$ Hd
  imod (cells_open ER (rd I) Finset.univ (fun j : Fin 81 => oCell c j) (fun j => K (oCell c j)) (fun k _ => Set.mem_univ (K (oCell c k)))) $$ [Ho Hs] with Hp
  · isplitl [Ho]
    · iapply (Entails.of_eq (bigSep_sep' Finset.univ (fun j : Fin 81 => cellInv ER (rd I) (K (oCell c j)) (oCell c j)) fun j => openTok ER (oCell c j)).symm)
      isplitr; · iexact Hi
      iexact Ho
    · iapply (show Pipeline.ownSems0 osem c ⊢ (bigSep Finset.univ fun j : Fin 81 => semVal (oCell c j) 0 : sProp 𝕄) from Entails.refl _) $$ Hs
  imodintro
  ihave Hp' := (Entails.of_eq (bigSep_sep' Finset.univ (fun j : Fin 81 => atPos ER (oCell c j) 0 ∅ 0) fun j => reached ER (oCell c j) 0)) $$ Hp
  icases Hp' with ⟨Hat, Hr⟩
  iexists K
  isplitr
  · unfold ctx levs
    isplitr; · iexact HD
    iexact Hl
  isplitl [Hr]; · unfold reachedAll; iexact Hr
  isplitl [Hat Hin]
  · iapply (Entails.of_eq (bigSep_sep' Finset.univ (fun j : Fin 81 => atPos ER (oCell c j) 0 ∅ 0) fun j => inCred c j (kind j)).symm)
    isplitl [Hat] <;> iassumption
  isplitl [Ht]; · iexact Ht
  isplitl [Hb] <;> iassumption

theorem body_start (c : Dev nD) (W : Waits sig Unit) :
    iprop(reachedAll c ∗ (bigSep Finset.univ (fresh c)) ∗ payToks c ∗ atPos ER (bCell c) 0 ∅ 0 ∗ cred (tallyAt (bCell c) () 5)
      ∗ owes (c : Thread nD τ) (O₀ c) W ∗ Pipeline.scopedRest spec0 c ∗ ((c : Thread nD τ).loc main_arg1 ↦{fullShare} I.r c)
      ∗ ((c : Thread nD τ).loc cc0_stg0_0 ↦{fullShare} I.x c) ∗ ((c : Thread nD τ).loc cc0_stg1_0 ↦{fullShare} I.g c)
      ∗ ∃ f : Buf (Elt F) ((c : Thread nD τ).loc cc0_stg2_0), (c : Thread nD τ).loc cc0_stg2_0 ↦{fullShare} f)
    ⊢ (iprop(SB I c 70368744177662 31 ∗ P1 I c) : sProp 𝕄) := by
  have hw : (ms 2417851639229258349412351 : Finset (Fin 81)) = Finset.univ := by decide +kernel
  have hx : ((c : Thread nD τ).loc cc0_stg0_0 ↦{fullShare} I.x c : sProp 𝕄) = xP c 4294967295 (I.x c) := by
    unfold xP; rw [blk_all]
  have ho : (iprop(∃ f : Buf (Elt F) ((c : Thread nD τ).loc cc0_stg2_0), (c : Thread nD τ).loc cc0_stg2_0 ↦{fullShare} f) : sProp 𝕄) = outAny c 4294967295 := by
    unfold outAny outP; rw [blk_all]; rfl
  unfold SB P1 St debt waits flying payToks
  rw [hx, ho, scopedRest0_eq, stages, bufs9, any9, hw, ms_none, bigSep_empty, sdiff_self]
  iintro ⟨Hr, Hf, ⟨Ht, H8⟩, Hb, Hc, HO, ⟨H0, H1, H2, H3, H4, H5⟩, Hg1, Hx, Hg, Ho⟩
  isplitr [H8 Hg1 H5]
  · isplitl [Hr]; · iexact Hr
    isplitl [HO Ht Hf]
    · isplitl [HO Ht]
      · isplitl [HO]; · iexists W; iexact HO
        iexact Ht
      isplitl [Hf]
      · isplitl [Hf]; · iexact Hf
        iapply (Entails.of_eq (bigSep_empty (Φ := spent (F := F) c)).symm)
        iempintro
      iempintro
    isplitl [H0 H1 H2 H3 H4]
    · isplitl [H0]; · iexact H0
      isplitl [H1]; · iexact H1
      isplitl [H2]; · iexact H2
      isplitl [H3] <;> iassumption
    isplitl [Hb]; · iexact Hb
    isplitl [Hc]; · iexact Hc
    isplitl [Hx]; · iexact Hx
    isplitl [Ho] <;> iassumption
  · isplitl [H8]; · iexact H8
    isplitl [Hg1] <;> iassumption

/-! ## Out -/

/-- What a device takes away. -/
def Yo (c : Dev nD) : sProp 𝕄 :=
  iprop(Pipeline.ownSems0 osem c ∗ semVal (bCell c) 0 ∗ (∃ W, owes (c : Thread nD τ) 0 W) ∗ Pipeline.scopedRest spec0 c
    ∗ ((c : Thread nD τ).loc main_arg1 ↦{fullShare} I.r c)
    ∗ ((c : Thread nD τ).loc cc0_stg0_0 ↦{fullShare} I.x c) ∗ ((c : Thread nD τ).loc cc0_stg1_0 ↦{fullShare} I.g c)
    ∗ ((c : Thread nD τ).loc cc0_stg2_0 ↦{fullShare} Out I))

theorem finish (K : GSem nD τ sig → ℕ) (c : Dev nD) :
    iprop(ctx I K ∗ (∃ W, owes (c : Thread nD τ) 0 W) ∗ bigSep Finset.univ (spent c) ∗ outP c 4294967295 fullShare (Out I) ∗ Rest I c)
      ⊢ (|={Set.univ}=> Yo I c : sProp 𝕄) := by
  have hx : xP c 4294967295 (I.x c) = ((c : Thread nD τ).loc cc0_stg0_0 ↦{fullShare} I.x c : sProp 𝕄) := by
    unfold xP; rw [blk_all]
  have ho : outP c 4294967295 fullShare (Out I) = ((c : Thread nD τ).loc cc0_stg2_0 ↦{fullShare} Out I : sProp 𝕄) := by
    unfold outP; rw [blk_all]
  have hb : bigSep (ms 511 : Finset (Fin 9)) (bufLand I c) ⊢ (_ : sProp 𝕄) := (bufs_forget I c).trans (Entails.of_eq (bufs9 c))
  have h9 : landP b9 c (rd16 (k0_off20 c) (k0_off20_inb c) (I.r c)) ⊢ (_ : sProp 𝕄) := (land_any b9 c _).trans (Entails.of_eq (any9 c))
  unfold Rest residPay Yo
  rw [hx, ho, scopedRest0_eq]
  iintro ⟨#Hctx, HO, Hs, Ho, ⟨Hl9, Hg1⟩, Hg, Hb, HB, Hx⟩
  ihave #Hd := (show ctx I K ⊢ (devCells I K c : sProp 𝕄) from by
    unfold ctx
    iintro ⟨H, -⟩
    iapply (elim_of (devCells I K) (Finset.mem_univ c)) $$ H) $$ Hctx
  ihave #Hd' := (show devCells I K c ⊢ (iprop((bigSep Finset.univ fun j : Fin 81 => cellInv ER (rd I) (K (oCell c j)) (oCell c j))
      ∗ cellInv ER (rd I) (K (bCell c)) (bCell c)) : sProp 𝕄) from by
    unfold devCells
    iintro ⟨H, H', -⟩
    isplitl [H] <;> iassumption) $$ Hd
  icases Hd' with ⟨#Hi, #Hib⟩
  imod (cell_close ER (rd I) (κ := K (bCell c)) (Set.mem_univ _) id (fun r h => duties_later I _ r h)) $$ [Hb] with Hb0
  · isplitr; · iexact Hib
    iexact Hb
  imod (cells_close ER (rd I) Finset.univ (fun j : Fin 81 => oCell c j) (fun j => K (oCell c j)) (fun k _ => Set.mem_univ (K (oCell c k))) (fun _ _ => id)
      (fun _ => 1) (fun _ _ r h => duties_later I _ r h)) $$ [Hs] with Hs0
  · iapply (Entails.of_eq (bigSep_sep' Finset.univ (fun j : Fin 81 => cellInv ER (rd I) (K (oCell c j)) (oCell c j)) fun j => spent c j).symm)
    isplitr; · iexact Hi
    iexact Hs
  imodintro
  isplitl [Hs0]
  · iapply (show (bigSep Finset.univ fun j : Fin 81 => semVal (oCell c j) 0 : sProp 𝕄) ⊢ Pipeline.ownSems0 osem c from Entails.refl _) $$ Hs0
  isplitl [Hb0]; · iexact Hb0
  isplitl [HO]; · iexact HO
  isplitl [HB Hl9]
  · ihave HB' := hb $$ HB
    icases HB' with ⟨H0, H1, H2, H3, H4⟩
    isplitl [H0]; · iexact H0
    isplitl [H1]; · iexact H1
    isplitl [H2]; · iexact H2
    isplitl [H3]; · iexact H3
    isplitl [H4]; · iexact H4
    iapply h9
    iexact Hl9
  isplitl [Hg1]; · iexact Hg1
  isplitl [Hx]; · iexact Hx
  isplitl [Hg] <;> iassumption

end Cert.KernelIdeal.Pf
-- ==== Proof.I.Launch.lean ====
/-
  The whole program's run: the host's reshapes, then the kernel on every device, from any memory with counters at zero.
-/
module

public import proofs.«01_k».proof.Proof.I.Whole
public import proofs.«01_k».proof.Proof.I.Entry
public import proofs.«01_k».proof.Proof.Gen.KernelIdeal.Frame
public import Idealize.ShloMosaic.Lib.Pipeline.RegionTalk

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The buffers through the program -/

def V₀ (c : Dev nD) : Valuation τ sig (Elt F) := fun b => m (c, b)
def V₁ (c : Dev nD) : Valuation τ sig (Elt F) := StableHlo.after hostOps0 (V₀ m c)

/-- What the devices bring to the kernel. -/
def inp : Inp F where
  x c := V₁ m c main_v1
  r c := V₁ m c main_arg1
  g c := V₁ m c main_v2

def V₂ (c : Dev nD) : Valuation τ sig (Elt F) := Function.update (V₁ m c) (Proc.devRef .tc main_v3) (Out (inp m))

theorem V₂_out (c : Dev nD) : V₂ m c main_v3 = Out (inp m) := Function.update_self _ _ _
theorem V₂_ne (c : Dev nD) {b : Ref sig .tc} (h : b ≠ main_v3) : V₂ m c b = V₁ m c b :=
  Function.update_of_ne (StableHlo.devRef_ne_of_ne h) _ _

def Φa (c : Dev nD) : sProp 𝕄 :=
  iprop(Pipeline.scopedRest spec0 c ∗ (∃ r, prngReg c r) ∗ ((c : Thread nD τ).loc main_arg1 ↦{fullShare} (inp m).r c) ∗ Xk (inp m) c)
def Φb (c : Dev nD) : sProp 𝕄 :=
  iprop(Pipeline.scopedRest spec0 c ∗ (∃ r, prngReg c r) ∗ ((c : Thread nD τ).loc main_arg1 ↦{fullShare} (inp m).r c)
    ∗ Pipeline.ownSems0 osem c ∗ semVal (bCell c) 0)

def dat (c : Dev nD) : Dat τ (Elt F) Unit ℕ UU ℕ cfg0 c where
  A w := V₁ m c (Pipeline.arrRef spec0 w)
  after w := match w with
    | 0 => fun _ => (inp m).x c
    | 1 => fun _ => (inp m).g c
    | 2 => fun _ => Out (inp m)
  Φ t := if t.val = 0 then Φa m c else Φb m c
  q _ := fullShare
  owed t := if t.val = 0 then O₀ c else 0

abbrev adm : (p : Fin 1) → (pcfgs (F := F) p).Adm := fun p => (cfgs p).toPCfg_adm
def pdats (p : Fin 1) (c : Dev nD) : Dat τ (Elt F) Unit ℕ UU ℕ (Pipeline.pin (pcfgs (F := F)) adm p) c := match p with
  | 0 => dat m c

theorem owed_first (c : Dev nD) : (dat m c).owed t0_0.castSucc = O₀ c := by
  show (if (t0_0.castSucc : Fin (cfg0.N + 1)).val = 0 then O₀ c else 0) = O₀ c
  exact if_pos rfl
theorem owed_last (c : Dev nD) : (dat m c).owed t0_0.succ = 0 := by
  show (if (t0_0.succ : Fin (cfg0.N + 1)).val = 0 then O₀ c else 0) = 0
  exact if_neg (Nat.succ_ne_zero _)

theorem Φ_first (c : Dev nD) : (dat m c).Φ t0_0.castSucc = Φa m c := by
  show (if (t0_0.castSucc : Fin (cfg0.N + 1)).val = 0 then Φa m c else Φb m c) = _
  exact if_pos rfl
theorem Φ_last (c : Dev nD) : (dat m c).Φ t0_0.succ = Φb m c := by
  show (if (t0_0.succ : Fin (cfg0.N + 1)).val = 0 then Φa m c else Φb m c) = _
  exact if_neg (Nat.succ_ne_zero _)
theorem last_eq : (Fin.last cfg0.N : Fin (cfg0.N + 1)) = t0_0.succ := Fin.ext (by decide)

theorem zero0 : (fun a : Fin 2 => win0_0.index t0_0 a * S512x512.size a) = fun _ => 0 := by decide
theorem zero1 : (fun a : Fin 2 => win0_1.index t0_0 a * S1x512.size a) = fun _ => 0 := by decide

theorem before_x (c : Dev nD) (d) : (dat m c).before 0 t0_0 d = (inp m).x c := by
  refine ((dat m c).before_fetched 0 t0_0 (fetch0_0 t0_0) d).trans ?_
  exact Memref.read_access_unit_zero (Elt F) main_v1 zero0 (fun a => by fin_cases a <;> decide) (V₁ m c main_v1)
theorem before_g (c : Dev nD) (d) : (dat m c).before 1 t0_0 d = (inp m).g c := by
  refine ((dat m c).before_fetched 1 t0_0 (fetch0_1 t0_0) d).trans ?_
  exact Memref.read_access_unit_zero (Elt F) main_v2 zero1 (fun a => by fin_cases a <;> decide) (V₁ m c main_v2)

theorem owesAt_in (c : Dev nD) (t : Fin (cfg0.N + 1)) (O : CellTallies nD τ sig Unit) (h : (dat m c).owed t = O) (W : Waits sig Unit) :
    (owes (c : Thread nD τ) O W : sProp 𝕄) ⊢ (dat m c).owesAt () t := by
  unfold Dat.owesAt Pipeline.owesWithin Dat.bound
  rw [h]
  iintro HO
  iexists W
  isplitr
  · ipureintro; exact fun _ _ => Or.inl trivial
  iexact HO
theorem owesAt_out (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, HO⟩
  iexists W
  iexact HO

/-! ## The kernel's one point -/

theorem body_wp (c : Dev nD) (W : Waits sig Unit) (Kt : sProp 𝕄) :
    iprop((Yo (inp m) c -∗ Kt) ∗ Pipeline.scopedRest spec0 c ∗ ((c : Thread nD τ).loc main_arg1 ↦{fullShare} (inp m).r c) ∗ Xk (inp m) c ∗ owes (c : Thread nD τ) (O₀ c) W
      ∗ ((c : Thread nD τ).loc cc0_stg0_0 ↦{fullShare} (inp m).x c) ∗ ((c : Thread nD τ).loc cc0_stg1_0 ↦{fullShare} (inp m).g c)
      ∗ ∃ f : Buf (Elt F) ((c : Thread nD τ).loc cc0_stg2_0), (c : Thread nD τ).loc cc0_stg2_0 ↦{fullShare} f)
    ⊢ WP c (atBufs (cc0_body (F := F))) fun _ => Kt := by
  unfold Xk
  iintro ⟨Hk, Hsr, Ha, ⟨%K, #Hctx, Hr, Hf, Ht, Hb, Hc⟩, HO, Hx, Hg, Ho⟩
  ihave Hst := (body_start (inp m) c W) $$ [Hr Hf Ht Hb Hc HO Hsr Ha Hx Hg Ho]
  · isplitl [Hr]; · iexact Hr
    isplitl [Hf]; · iexact Hf
    isplitl [Ht]; · iexact Ht
    isplitl [Hb]; · iexact Hb
    isplitl [Hc]; · iexact Hc
    isplitl [HO]; · iexact HO
    isplitl [Hsr]; · iexact Hsr
    isplitl [Ha]; · iexact Ha
    isplitl [Hx]; · iexact Hx
    isplitl [Hg] <;> iassumption
  have hrun := body_run (inp m) K c (fun _ => iprop(|={Set.univ}=> Kt))
  iapply (wp_fupd frame (wpE (defs₀ (F := F)) 𝒱₀ (c : Thread nD τ) none) Set.univ (atBufs (cc0_body (F := F))) fun _ => Kt)
  iapply hrun $$ [Hst]
  · isplitr; · iexact Hctx
    iexact Hst
  iintro %v H
  imod (finish (inp m) K c) $$ [H] with HY
  · isplitr; · iexact Hctx
    unfold Fin0
    iexact H
  imodintro
  iapply Hk $$ HY

theorem prog_eq : defs₀ (F := F) Proc.tc cfg0.body (cfg0.bodyArgs t0_0 (cfg0.slots t0_0)) = atBufs (cc0_body (F := F)) := rfl
theorem stg0_eq : (cfg0.win 0).stage (cfg0.slots t0_0 0) = Memref.whole cc0_stg0_0 := rfl
theorem stg1_eq : (cfg0.win 1).stage (cfg0.slots t0_0 1) = Memref.whole cc0_stg1_0 := rfl
theorem stg2_eq : (cfg0.win 2).stage (cfg0.slots t0_0 2) = Memref.whole cc0_stg2_0 := rfl

theorem in0 (c : Dev nD) : iprop(∃ d, owns (c : Thread nD τ) ((cfg0.win 0).stage (cfg0.slots t0_0 0)) fullShare ((dat m c).before 0 t0_0 d))
    ⊢ ((c : Thread nD τ).loc cc0_stg0_0 ↦{fullShare} (inp m).x c : sProp 𝕄) := by
  rw [stg0_eq]
  iintro ⟨%d, H⟩
  ihave H1 := (Entails.of_eq (congrArg (owns (c : Thread nD τ) (Memref.whole cc0_stg0_0) fullShare) (before_x m c d))) $$ H
  ihave H2 := (Entails.of_eq (owns_whole_eq (c : Thread nD τ) cc0_stg0_0 fullShare ((inp m).x c))) $$ H1
  icases H2 with ⟨%f, %h, H⟩
  subst h
  iexact H
theorem in1 (c : Dev nD) : iprop(∃ d, owns (c : Thread nD τ) ((cfg0.win 1).stage (cfg0.slots t0_0 1)) fullShare ((dat m c).before 1 t0_0 d))
    ⊢ ((c : Thread nD τ).loc cc0_stg1_0 ↦{fullShare} (inp m).g c : sProp 𝕄) := by
  rw [stg1_eq]
  iintro ⟨%d, H⟩
  ihave H1 := (Entails.of_eq (congrArg (owns (c : Thread nD τ) (Memref.whole cc0_stg1_0) fullShare) (before_g m c d))) $$ H
  ihave H2 := (Entails.of_eq (owns_whole_eq (c : Thread nD τ) cc0_stg1_0 fullShare ((inp m).g c))) $$ H1
  icases H2 with ⟨%f, %h, H⟩
  subst h
  iexact H
theorem in2 (c : Dev nD) : iprop(∃ d, owns (c : Thread nD τ) ((cfg0.win 2).stage (cfg0.slots t0_0 2)) fullShare ((dat m c).before 2 t0_0 d))
    ⊢ (iprop(∃ f : Buf (Elt F) ((c : Thread nD τ).loc cc0_stg2_0), (c : Thread nD τ).loc cc0_stg2_0 ↦{fullShare} f) : sProp 𝕄) := by
  rw [stg2_eq]
  iintro ⟨%d, H⟩
  ihave H2 := (Entails.of_eq (owns_whole_eq (c : Thread nD τ) cc0_stg2_0 fullShare ((dat m c).before 2 t0_0 d))) $$ H
  icases H2 with ⟨%f, -, H⟩
  iexists f
  iexact H
theorem whole_out (c : Dev nD) (b : Ref sig Idealize.ShloMosaic.Kind.tc) (X : b.ty.Contents (Elt F)) :
    ((c : Thread nD τ).loc b ↦{fullShare} X : sProp 𝕄) ⊢ owns (c : Thread nD τ) (Memref.whole b) fullShare X := by
  rw [owns_whole_eq]
  iintro H
  iexists X
  isplitr; · ipureintro; rfl
  iexact H
theorem out0 (c : Dev nD) : ((c : Thread nD τ).loc cc0_stg0_0 ↦{fullShare} (inp m).x c : sProp 𝕄)
    ⊢ owns (c : Thread nD τ) ((cfg0.win 0).stage (cfg0.slots t0_0 0)) fullShare ((dat m c).after 0 t0_0) := whole_out c cc0_stg0_0 ((inp m).x c)
theorem out1 (c : Dev nD) : ((c : Thread nD τ).loc cc0_stg1_0 ↦{fullShare} (inp m).g c : sProp 𝕄)
    ⊢ owns (c : Thread nD τ) ((cfg0.win 1).stage (cfg0.slots t0_0 1)) fullShare ((dat m c).after 1 t0_0) := whole_out c cc0_stg1_0 ((inp m).g c)
theorem out2 (c : Dev nD) : ((c : Thread nD τ).loc cc0_stg2_0 ↦{fullShare} Out (inp m) : sProp 𝕄)
    ⊢ owns (c : Thread nD τ) ((cfg0.win 2).stage (cfg0.slots t0_0 2)) fullShare ((dat m c).after 2 t0_0) := whole_out c cc0_stg2_0 (Out (inp m))

theorem body0 (c : Dev nD) : BodyObligation (dat m c) defs₀ 𝒱₀ () Set.univ := fun t => by
  obtain rfl := fin_N0 t
  rw [bigSep_W0, bigSep_W0, Φ_first, Φ_last, prog_eq]
  unfold Φa Φb
  iintro ⟨⟨Hsr, Hp, Ha, HX⟩, HO, H0, H1, H2⟩
  ihave Hx := (in0 m c) $$ H0
  ihave Hg := (in1 m c) $$ H1
  ihave Ho := (in2 m c) $$ H2
  ihave HO' := (owesAt_out m c _ (O₀ c) (owed_first m c)) $$ HO
  icases HO' with ⟨%W, HO⟩
  iapply (body_wp m c W _)
  isplitl [Hp]
  · unfold Yo
    iintro ⟨Hs0, Hb0, ⟨%W', HO⟩, Hsr, Ha, Hx, Hg, Ho⟩
    isplitl [Hs0 Hb0 Hsr Ha Hp]
    · isplitl [Hsr]; · iexact Hsr
      isplitl [Hp]; · iexact Hp
      isplitl [Ha]; · iexact Ha
      isplitl [Hs0] <;> iassumption
    isplitl [HO]; · iapply (owesAt_in m c _ 0 (owed_last m c) W') $$ HO
    isplitl [Hx]; · iapply (out0 m c) $$ Hx
    isplitl [Hg]; · iapply (out1 m c) $$ Hg
    iapply (out2 m c) $$ Ho
  isplitl [Hsr]; · iexact Hsr
  isplitl [Ha]; · iexact Ha
  isplitl [HX]; · iexact HX
  isplitl [HO]; · iexact HO
  isplitl [Hx]; · iexact Hx
  isplitl [Hg]; · iexact Hg
  iexact Ho

/-! ## The segments -/

def Yk (c : Dev nD) : sProp 𝕄 := semVal (bCell c) 0
abbrev bufs : Finset (DevRef τ sig) := Pipeline.ucRefs τ sig
/-- The arguments, which no window stages, and the one among them that the kernel addresses. -/
def Sr : Finset (DevRef τ sig) := {Proc.devRef .tc main_arg0, Proc.devRef .tc main_arg1, Proc.devRef .tc main_arg2}
def Hs : Finset (DevRef τ sig) := {Proc.devRef .tc main_arg1}
theorem Hs_sub : Hs ⊆ Sr := by decide

theorem held_Hs (c : Dev nD) (W : Valuation τ sig (Elt F)) :
    (StableHlo.held (c : Thread nD τ) Hs W : sProp 𝕄) = ((c : Thread nD τ).loc main_arg1 ↦{fullShare} W main_arg1) := by
  unfold StableHlo.held Hs
  rw [bigSep_singleton]

def R (c : Dev nD) : sProp 𝕄 := iprop((Tk (inp m) c ∗ ∃ r, prngReg c r) ∗ ∃ W, owes (c : Thread nD τ) (O₀ c) W)

theorem ops_sub : ∀ op ∈ (hostOps0 : List (HloOp τ sig (Elt F))), op.bufs ⊆ bufs := fun op h =>
  Pipeline.sub_ucRefs op (List.forall_iff_forall_mem.mp hostOps0_sub op h)
theorem ops_fresh : ∀ op ∈ (hostOps0 : List (HloOp τ sig (Elt F))), op.fresh = ∅ := List.forall_iff_forall_mem.mp hostOps0_fresh

def seg0 : Pipeline.HostSeg (Name := ℕ) (U := UU) (pcfgs (F := F)) defs₀ 𝒱₀ L lv :=
  Pipeline.HostSeg.ofOps _ _ _ _ _ bufs hostOps0 ops_sub ops_fresh (V₀ m) (R m)

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem stage_lv : ∀ (w : Fin 3) (s : Fin (spec0 w).nbuf), (((spec0 w).sem s : DmaSem sig) : Fin 84).val < 3 := by decide

theorem cutD (c : Dev nD) (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = if t.val = 0 then O₀ c else 0 := rfl
  rw [e] at h
  split at h
  · obtain ⟨x, hx, rfl⟩ := owedOf_pos h
    have h0 : 0 < x.val := Nat.pos_of_ne_zero fun e => by rw [e] at hx; revert hx; decide
    refine ⟨by unfold tcell; rw [L_tc]; exact Finset.mem_singleton_self _, ?_⟩
    rw [lv_t c x h0]
    unfold tlv
    split
    · omega
    · split <;> omega
  · exact absurd h (Nat.lt_irrefl 0)

theorem arr_out (c : Dev nD) : (dat m c).arrAt 2 cfg0.N = V₂ m c main_v3 := by
  rw [V₂_out, show cfg0.N = t0_0.val + 1 from by decide, Dat.arrAt_succ, if_pos (flush0_2 t0_0)]
  exact Memref.write_access_unit_zero_univ (Elt F) main_v3 zero0 (fun a => by fin_cases a <;> decide) _ (Out (inp m))

theorem arrs (c : Dev nD) (w : Fin 3) : (pdats m 0 c).arrAt w (Pipeline.pin (pcfgs (F := F)) adm 0).N
    = V₂ m c (Proc.devRef .tc (Pipeline.arrRef (Pipeline.pin (pcfgs (F := F)) adm 0).spec w)) := by
  match w with
  | 0 => exact (Dat.arrAt_in (dat := dat m c) 0 rfl _).trans (V₂_ne m c (by decide)).symm
  | 1 => exact (Dat.arrAt_in (dat := dat m c) 1 rfl _).trans (V₂_ne m c (by decide)).symm
  | 2 => exact arr_out m c

theorem hrest (c : Dev nD) : ∀ b ∈ Sr \ Hs, V₂ m c b = V₁ m c b := fun b hb =>
  Function.update_of_ne (by rintro rfl; revert hb; decide) _ _

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide +kernel : Pipeline.OwnSemFacts spec0 osem)
    Hs Sr Hs_sub kit rfl (fun c => (body0 m c).loose)
    (fun _ => 0) O₀ (fun c => (owed_first m c).trans (zero_add _).symm) (fun c => by rw [show (Fin.last _ : Fin (cfg0.N + 1)) = t0_0.succ from last_eq]; exact owed_last m c)
    (fun _ => rfl) (fun c w => by unfold Dat.share; split <;> rfl)
    (V₁ m) (V₂ m) (hrest m)
    (Tk (inp m)) Yk (Xk (inp m)) Yk (Tk_open (inp m))
    (fun c => by
      rw [held_Hs]
      exact Entails.of_eq (Φ_first m c).symm)
    (fun c => by
      rw [held_Hs, V₂_ne m c (by decide)]
      exact Entails.of_eq ((congrArg (dat m c).Φ last_eq).trans (Φ_last m c)))
    (fun c => by iintro H; imodintro; iexact H)
    (fun _ => 0)
    ⟨fun c w s => by rw [L_tc]; exact Finset.mem_singleton_self _, fun c w s => le_of_eq (if_pos (stage_lv w s)), fun c t g i h => cutD m c t g i h⟩
    (fun _ => iprop(emp))
    (fun c w => rfl) (arrs m)

end Cert.KernelIdeal.Pf
-- ==== Proof.I.Run.lean ====
/-
  The run: what the launch hands out is what the two segments ask, and what they leave is what the program ends with.
-/
module

public import proofs.«01_k».proof.Proof.I.Launch
public import Idealize.ShloMosaic.Harness.Basic

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

theorem bufs_cut : bufs = Pipeline.arrRefs (τ := τ) spec0 ∪ Sr := by decide
theorem bufs_disj : Disjoint (Pipeline.arrRefs (τ := τ) spec0) Sr := by decide

theorem held_cut (c : Dev nD) (W : Valuation τ sig (Elt F)) :
    (StableHlo.held (c : Thread nD τ) bufs W : sProp 𝕄)
      = iprop(StableHlo.held (c : Thread nD τ) (Pipeline.arrRefs (τ := τ) spec0) W ∗ StableHlo.held (c : Thread nD τ) Sr W) := by
  rw [bufs_cut]
  unfold StableHlo.held
  exact bigSep_union bufs_disj

theorem reg0_pre (c : Dev nD) : iprop(StableHlo.held (c : Thread nD τ) bufs (V₁ m c) ∗ R m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) Sr (V₁ m c) ∗ emp) ∗ Tk (inp m) c ∗ ∃ Wd, owes (c : Thread nD τ) (0 + O₀ c) Wd)
  rw [held_cut, zero_add]
  unfold R
  iintro ⟨⟨Ha, Hs⟩, ⟨HT, Hp⟩, HO⟩
  isplitl [Ha]; · iexact Ha
  isplitl [Hp]; · iexact Hp
  isplitl [Hs]
  · isplitl [Hs]; · iexact Hs
    iempintro
  isplitl [HT]; · iexact HT
  iexact HO

theorem reg0_post (c : Dev nD) : (reg0 m).post c
    ⊢ iprop(StableHlo.held (c : Thread nD τ) bufs (V₂ m c) ∗ (semVal (bCell c) 0 ∗ ∃ W, owes (c : Thread nD τ) (0 : CellTallies nD τ sig Unit) W)) := by
  show iprop(StableHlo.held (c.tc : Thread nD τ) (Pipeline.arrRefs (τ := τ) spec0) (V₂ m c) ∗ (∃ r, prngReg c r)
    ∗ (StableHlo.held (c.tc : Thread nD τ) Sr (V₂ m c) ∗ emp) ∗ Yk c ∗ ∃ Wd, owes (c : Thread nD τ) (0 : CellTallies nD τ sig Unit) Wd) ⊢ _
  rw [held_cut]
  unfold Yk
  iintro ⟨Ha, -, ⟨Hs, -⟩, Hb, HO⟩
  isplitl [Ha Hs]
  · isplitl [Ha] <;> iassumption
  isplitl [Hb]; · iexact Hb
  iexact HO

def segs : List (Pipeline.Seg (pcfgs (F := F)) adm (pdats m) () defs₀ 𝒱₀ L lv) := [.host (seg0 m), .region (reg0 m)]

theorem main_eq (c : Dev nD) : main (F := F) c = Pipeline.Seg.run (segs m) :=
  Gen.main_segs adm (pdats m) () 𝒱₀ L lv (seg0 m) (reg0 m) rfl c

theorem unscopedSems0_eq (c : Dev nD) : (unscopedSems0 c : sProp 𝕄) = semVal (bCell c) 0 := by
  unfold unscopedSems0
  rw [show (Finset.univ.filter fun s : SemLoc sig => ¬ s.isScoped Idealize.ShloMosaic.Kind.tc = true) = {SemLoc.reg barS} from by decide, bigSep_singleton]

/-! ## What the launch hands out -/

def u₀ : UU :=
  (initOf (Pipeline.cells (Pipeline.pin (pcfgs (F := F)) adm) cellOf_inj) (Pipeline.launchToks (Pipeline.pin (pcfgs (F := F)) adm) cellOf_inj), launchEl)

/-- The launch element rests with the first device until it is dealt. -/
def G (c : Dev nD) : sProp 𝕄 := if c = 0 then BI.own (ER launchEl) else iprop(emp)
theorem G_all : bigSep Finset.univ (G (F := F)) = BI.own (ER launchEl) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (bCell c) 0)

/-- A device's launch holdings apart from the protocol's. -/
def bundle (c : Dev nD) : sProp 𝕄 :=
  iprop(StableHlo.held (c : Thread nD τ) bufs (V₀ m c) ∗ inCreds c ∗ owes (c : Thread nD τ) (O₀ c) ∅ ∗ ∃ r, prngReg c r)

theorem core_in (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (bCell c) 0 ∗ G c)) : sProp 𝕄) := by
  rw [show (unscopedBufs c (fun b => m ((c : Thread nD τ).loc b)) : sProp 𝕄) = StableHlo.held (c : Thread nD τ) bufs (V₀ m c) from Pipeline.unscopedBufs_held c (V₀ m c),
    unscopedSems0_eq]
  unfold bundle
  iintro ⟨Hh, Hs, HO, Hc, Hp, HG⟩
  ihave Hc := (creds (F := F) c) $$ Hc
  isplitl [Hh Hc HO Hp]
  · isplitl [Hh]; · iexact Hh
    isplitl [Hc]; · iexact Hc
    isplitl [HO]; · iexact HO
    iexists (ρ c); iexact Hp
  isplitl [Hs] <;> iassumption

theorem core_out (c : Dev nD) : iprop(dealt (inp m) c ∗ bundle m c) ⊢ T₀ m c := by
  unfold bundle T₀ R Tk
  iintro ⟨Hd, Hh, Hc, HO, Hp⟩
  isplitl [Hh]; · iexact Hh
  isplitr [HO]
  · isplitr [Hp]
    · isplitl [Hd] <;> iassumption
    iexact Hp
  iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (bCell c) 0 ∗ G c)) : sProp 𝕄) from bigSep_mono fun c _ => core_in m ρ c) $$ H
  ihave H2 := Smoke.bigSep_unpair $$ H'; icases H2 with ⟨HB, H3⟩
  ihave H4 := Smoke.bigSep_unpair $$ H3; icases H4 with ⟨Hv, HG⟩
  ihave Hu := (show bigSep Finset.univ (G (F := F)) ⊢ BI.own (ER launchEl) from Entails.of_eq G_all) $$ HG
  imod (fund (inp m)) $$ [Hv Hu] with Hd
  · isplitl [Hv]; · iexact Hv
    iexact Hu
  imodintro
  iapply (show (bigSep Finset.univ fun c : Dev nD => iprop(dealt (inp m) c ∗ bundle m c)) ⊢ bigSep Finset.univ (T₀ m) from bigSep_mono fun c _ => core_out m c)
  iapply Smoke.bigSep_pair
  isplitl [Hd] <;> iassumption

/-! ## The run -/

theorem unscoped_eq : ∀ sm : SemLoc sig, sm.isScoped .tc = false → sm = .reg barS := by decide

def named : Finset (DevRef τ sig) := {Proc.devRef .tc main_arg0, Proc.devRef .tc main_arg1, Proc.devRef .tc main_arg2, Proc.devRef .tc main_v3}
theorem held_named (c : Dev nD) : (StableHlo.held (c : Thread nD τ) bufs (V₂ m c) : sProp 𝕄)
    ⊢ iprop(((c : Thread nD τ).loc main_arg0 ↦{fullShare} V₂ m c main_arg0) ∗ ((c : Thread nD τ).loc main_arg1 ↦{fullShare} V₂ m c main_arg1)
      ∗ ((c : Thread nD τ).loc main_arg2 ↦{fullShare} V₂ m c main_arg2) ∗ ((c : Thread nD τ).loc main_v3 ↦{fullShare} V₂ m c main_v3)) := by
  have h : (StableHlo.held (c : Thread nD τ) named (V₂ m c) : sProp 𝕄)
    ⊢ iprop(((c : Thread nD τ).loc main_arg0 ↦{fullShare} V₂ m c main_arg0) ∗ ((c : Thread nD τ).loc main_arg1 ↦{fullShare} V₂ m c main_arg1)
      ∗ ((c : Thread nD τ).loc main_arg2 ↦{fullShare} V₂ m c main_arg2) ∗ ((c : Thread nD τ).loc main_v3 ↦{fullShare} V₂ m c main_v3)) := by
    unfold StableHlo.held named
    rw [bigSep_insert (by decide), bigSep_insert (by decide), bigSep_insert (by decide), bigSep_singleton]
    exact Entails.refl _
  refine BIBase.Entails.trans ?_ h
  unfold StableHlo.held
  exact bigSep_subset (by decide)

theorem V₁_arg0 (c : Dev nD) : V₁ m c main_arg0 = m ((c : Thread nD τ).loc main_arg0) := Gen.V_main_arg0 m c
theorem V₁_arg1 (c : Dev nD) : V₁ m c main_arg1 = m ((c : Thread nD τ).loc main_arg1) := Gen.V_main_arg1 m c
theorem V₁_arg2 (c : Dev nD) : V₁ m c main_arg2 = m ((c : Thread nD τ).loc main_arg2) := Gen.V_main_arg2 m c

set_option backward.isDefEq.respectTransparency.types false in
/-- From any memory with counters at zero the program ends with its arguments as they were, the result on every device the
    normalised rows, and every counter at zero. -/
theorem run : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v3) = Out (inp m)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => reg0_pre m c, fun c => (reg0_post m c).trans ?_⟩
      show iprop(StableHlo.held (c : Thread nD τ) bufs (V₂ m c)
          ∗ (semVal (bCell c) 0 ∗ ∃ W, owes (c : Thread nD τ) (0 : CellTallies nD τ sig Unit) W))
        ⊢ iprop(Tₙ m c ∗ ∃ W, owes (c : Thread nD τ) (0 : CellTallies nD τ sig Unit) W)
      iintro ⟨Hh, Hb, HO⟩
      isplitr [HO]
      · isplitl [Hh] <;> iassumption
      · iexact HO)
    (hinit := init m ρ)
    (QY := fun c s => (s.mem ((c : Thread nD τ).loc main_arg0) = V₂ m c main_arg0 ∧ s.mem ((c : Thread nD τ).loc main_arg1) = V₂ m c main_arg1
      ∧ s.mem ((c : Thread nD τ).loc main_arg2) = V₂ m c main_arg2 ∧ s.mem ((c : Thread nD τ).loc main_v3) = V₂ m c main_v3) ∧ s.sem (bCell c) = 0)
    (hfin := fun c s' => by
      dsimp only [Tₙ]
      iintro ⟨⟨Hh, Hb⟩, HSI⟩
      ihave Hn := (held_named m c) $$ Hh
      icases Hn with ⟨H0, H1, H2, H3⟩
      icombine HSI H0 gives %h0
      icombine HSI H1 gives %h1
      icombine HSI H2 gives %h2
      icombine HSI H3 gives %h3
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => by
        obtain ⟨⟨h0, h1, h2, h3⟩, -⟩ := h c
        rw [V₂_ne m c (by decide)] at h0 h1 h2
        rw [V₁_arg0] at h0; rw [V₁_arg1] at h1; rw [V₁_arg2] at h2; rw [V₂_out] at h3
        exact ⟨h0, h1, h2, h3⟩,
      sem_eq_zero hs fun c sm hsm => by
        obtain rfl := unscoped_eq sm hsm
        exact (h c).2⟩)

end Cert.KernelIdeal.Pf
-- ==== Proof.I.Value.lean ====
/-
  The result over the extended reals: each device's rows are the reference's rows of the normalised sum.
-/
module

public import proofs.«01_k».proof.Proof.I.Run
public import proofs.«01_k».proof.Proof.Gen.ReferenceIdeal.Run
public import proofs.«01_k».proof.Defs
public import Idealize.ShloMosaic.Lib.Pointwise

@[expose] public section

noncomputable section

namespace Cert.KernelIdeal.Pf

open Cert.KernelIdeal Cert.KernelIdeal.Gen

open Idealize.ShloMosaic
open Idealize.ShloMosaic.TcCoe
open Idealize.SL.Sem

/-! ## The partial sums, summed -/

/-- The devices whose arrays a device has summed before round `k`. -/
def got : ℕ → Dev nD → Finset (Dev nD)
  | 0 => fun c => {c}
  | k + 1 => fun c => got k c ∪ got k (pk (Fin.ofNat 5 k) c)

theorem got_disj : ∀ k : Fin 5, ∀ c : Dev nD, Disjoint (got k.val c) (got k.val (pk (Fin.ofNat 5 k.val) c)) := by decide +kernel
theorem got_all : ∀ c : Dev nD, got 5 c = Finset.univ := by decide +kernel

theorem A_sum (I : Inp Ideal) (i : S512x512.Idx) : ∀ k ≤ 5, ∀ c : Dev nD, A I k c i = ∑ d ∈ got k c, I.x d i
  | 0, _, c => by
    show I.x c i = ∑ d ∈ {c}, I.x d i
    rw [Finset.sum_singleton]
  | k + 1, h, c => by
    show A I k c i + A I k (pk (Fin.ofNat 5 k) c) i = ∑ d ∈ got k c ∪ got k (pk (Fin.ofNat 5 k) c), I.x d i
    rw [Finset.sum_union (got_disj ⟨k, h⟩ c), A_sum I i k (Nat.le_of_succ_le h) c, A_sum I i k (Nat.le_of_succ_le h) _]

theorem A_all (I : Inp Ideal) (c : Dev nD) (i : S512x512.Idx) : A I 5 c i = ∑ d : Dev nD, I.x d i := by
  rw [A_sum I i 5 le_rfl c, got_all]

/-! ## The scale of a row -/

theorem mul_rsqrt (y v : EReal) (hv : 0 < v) : y * Ideal.rsqrt v = Ideal.div y (Ideal.sqrt v) := by
  induction v using EReal.rec with
  | bot => exact absurd hv (by simp)
  | top => simp [Ideal.div]
  | coe r =>
    have hr : 0 < r := by exact_mod_cast hv
    rw [Ideal.rsqrt_coe, Ideal.sqrt_coe, if_neg hr.not_gt, if_neg hr.not_gt, if_neg hr.ne', Ideal.div_coe (Real.sqrt_pos.mpr hr).ne', one_div]

theorem sq_nonneg' (y : EReal) : 0 ≤ y * y := by
  induction y using EReal.rec with
  | bot => simp
  | top => simp
  | coe r => exact_mod_cast mul_self_nonneg r

theorem ofBits_512 : Ideal.ofBits .f32 0x44000000#32 = ((512 : ℝ) : EReal) := by
  simp [Ideal.ofBits, Ideal.ieee]
  rw [← EReal.coe_mul]
  norm_num

theorem eps_pos : 0 < Ideal.ofBits .f32 0x358637BD#32 := by
  simp [Ideal.ofBits, Ideal.ieee]
  rw [← EReal.coe_mul]
  exact_mod_cast (by norm_num : (0 : ℝ) < 8796093 * ((2 : ℝ) ^ 43)⁻¹)

theorem scale_pos {n : ℕ} (y : Fin n → EReal) :
    0 < Ideal.div (∑ k, y k * y k) (Ideal.ofBits .f32 0x44000000#32) + Ideal.ofBits .f32 0x358637BD#32 := by
  rw [ofBits_512, Ideal.div_coe (by norm_num)]
  refine lt_of_lt_of_le eps_pos (le_add_of_nonneg_left (EReal.mul_nonneg (Finset.sum_nonneg fun k _ => sq_nonneg' _) ?_))
  exact_mod_cast (by norm_num : (0 : ℝ) ≤ 1 / 512)

/-- A row `y` scaled by its root mean square, then by `g`. -/
def scaled (y : Fin 512 → EReal) (g : EReal) (q : Fin 512) : EReal :=
  Ideal.div (y q) (Ideal.sqrt (Ideal.div (∑ k, y k * y k) (Ideal.ofBits .f32 0x44000000#32) + Ideal.ofBits .f32 0x358637BD#32)) * g

theorem pay12_at (a r : FVec Ideal S16x512 .f32) (g : FVec Ideal S1x512 .f32) (p : Fin 16) (q : Fin 512) :
    k0_pay12 (F := Ideal) a r g (ix2 p q) = scaled (fun k => a (ix2 p k) + r (ix2 p k)) (g (ix2 0 q)) q := by
  unfold k0_pay12 scaled
  rw [← mul_rsqrt _ _ (scale_pos _)]
  pointwise

theorem own16_at (X : FVec Ideal S512x512 .f32) (j : Fin 32) (p : Fin 16) (q : Fin 512) :
    (own16 (ofPos j)).read (Elt Ideal) X (ix2 p q) = X (ix2 ⟨16 * j.val + p.val, by omega⟩ q) := by
  show X ((Rect.unit (s := S512x512) (k0_off20 (ofPos j)) S16x512.size (k0_off20_inb (ofPos j))).emb (ix2 p q)) = _
  congr 1
  funext a
  match a with
  | 0 =>
    refine Fin.ext ?_
    rw [Rect.emb_apply]
    show k0_off20 (ofPos j) 0 + 1 * p.val = _
    rw [off20_eq]
    show 16 * ((pos (ofPos j) ^^^ 0).val / 1 * 1) + _ = _
    rw [pos_ofPos]
    have : j ^^^ 0 = j := by revert j; decide
    rw [this]
    show _ = 16 * j.val + p.val
    omega
  | 1 =>
    refine Fin.ext ?_
    rw [Rect.emb_apply]
    show k0_off20 (ofPos j) 1 + 1 * q.val = _
    rw [off20_eq]
    show 0 + 1 * q.val = q.val
    omega

variable (m : (ℓ : Loc nD τ sig) → Buf (Elt Ideal) ℓ)

theorem inp_x (d : Dev nD) : (inp m).x d = shapeCast S512x512 (m ((d : Thread nD τ).loc main_arg0)) shapeCasts_S1x512x512_S512x512 := by
  show StableHlo.after hostOps0 (V₀ m d) main_v1 = _
  after_results
  rfl
theorem inp_g (d : Dev nD) : (inp m).g d = shapeCast S1x512 (m ((d : Thread nD τ).loc main_arg2)) shapeCasts_S512_S1x512 := by
  show StableHlo.after hostOps0 (V₀ m d) main_v2 = _
  after_results
  rfl
theorem dropped (v : FVec Ideal S1x512x512 .f32) (p k : Fin 512) : shapeCast S512x512 v shapeCasts_S1x512x512_S512x512 (ix2 p k) = v (ix3 0 p k) := by
  pointwise
theorem added (v : FVec Ideal S512 .f32) (q : Fin 512) : shapeCast S1x512 v shapeCasts_S512_S1x512 (ix2 0 q) = v (ix1 q) := by
  pointwise
theorem x_at (d : Dev nD) (p k : Fin 512) : (inp m).x d (ix2 p k) = m ((d : Thread nD τ).loc main_arg0) (ix3 0 p k) := by
  rw [inp_x]
  exact dropped _ p k
theorem g_at (d : Dev nD) (q : Fin 512) : (inp m).g d (ix2 0 q) = m ((d : Thread nD τ).loc main_arg2) (ix1 q) := by
  rw [inp_g]
  exact added _ q

theorem out_at (I : Inp Ideal) (p q : Fin 512) :
    Out I (ix2 p q) = scaled (fun k => (∑ d : Dev nD, I.x d (ix2 p k)) + I.r (ofPos ⟨p.val / 16, by omega⟩) (ix2 p k)) (I.g (ofPos ⟨p.val / 16, by omega⟩) (ix2 0 q)) q := by
  show rows I (ofPos ⟨p.val / 16, _⟩) (idx2 ⟨p.val % 16, _⟩ q) = _
  rw [show idx2 ⟨p.val % 16, Nat.mod_lt _ (by decide)⟩ q = ix2 ⟨p.val % 16, Nat.mod_lt _ (by decide)⟩ q from
    funext fun a => match a with | 0 => rfl | 1 => rfl]
  unfold rows
  rw [pay12_at]
  simp only [own16_at, A_all]
  have e : ∀ h, (⟨16 * (p.val / 16) + p.val % 16, h⟩ : Fin 512) = p := fun _ => Fin.ext (Nat.div_add_mod p.val 16)
  simp only [e]

end Cert.KernelIdeal.Pf

namespace Cert.ReferenceIdeal.Pf

open Cert.ReferenceIdeal Cert.ReferenceIdeal.Gen Idealize.ShloMosaic
open Cert.KernelIdeal.Pf (scaled)

theorem ref_at (x : FVec Ideal S32x512x512 .f32) (r : FVec Ideal S512x512 .f32) (g : FVec Ideal S512 .f32) (p q : Fin 512) :
    (mulf (Host.divf (addf (Host.reduceAdd x (constant S_ .f32 0x00000000#32) reducesTo_S32x512x512_S512x512_d0 h_S_) r) (broadcastInDim S512x512 ![0, 1] bcast_S512x1_S512x512_0_1 (Host.sqrt (addf (Host.divf (broadcastInDim S512x1 ![0] bcast_S512_S512x1_0 (Host.reduceAdd (mulf (addf (Host.reduceAdd x (constant S_ .f32 0x00000000#32) reducesTo_S32x512x512_S512x512_d0 h_S_) r) (addf (Host.reduceAdd x (constant S_ .f32 0x00000000#32) reducesTo_S32x512x512_S512x512_d0 h_S_) r)) (constant S_ .f32 0x00000000#32) reducesTo_S512x512_S512_d1 h_S_)) (broadcastInDim S512x1 ![] bcast_S_S512x1 (constant S_ .f32 0x44000000#32))) (broadcastInDim S512x1 ![] bcast_S_S512x1 (constant S_ .f32 0x358637BD#32)))))) (broadcastInDim S512x512 ![0, 1] bcast_S1x512_S512x512_0_1 (broadcastInDim S1x512 ![1] bcast_S512_S1x512_1 g))) (ix2 p q) = scaled (fun k => (∑ d : Fin 32, x (ix3 d p k)) + r (ix2 p k)) (g (ix1 q)) q := by
  unfold scaled
  pointwise

end Cert.ReferenceIdeal.Pf

namespace Cert.Proof

open Idealize.ShloMosaic Idealize.SL.Sem
open Idealize.ShloMosaic.TcCoe
open Cert.KernelIdeal.Pf (scaled out_at x_at g_at inp)

theorem block_at (v : Cert.ReferenceIdeal.S32x512x512.Idx → EReal) (d : Fin 32) (p k : Fin 512) :
    Layout.block ⟨3, ![1, 512, 512]⟩ ⟨3, ![32, 512, 512]⟩ 0 32 d v (by decide) (ix3 0 p k) = v (ix3 d p k) := by
  rw [Layout.block_apply]
  congr 1
  funext a
  refine Fin.ext ?_
  match a with
  | 0 => exact (Layout.Tiles.idx_val _ d (ix3 0 p k) 0).trans (Nat.mul_one d.val)
  | 1 => rfl
  | 2 => rfl

theorem algebraic : Cert.algebraic_KernelIdeal_ReferenceIdeal := by
  intro m ρ m' ρ' _ hagree
  refine ⟨_, (θ_run Cert.KernelIdeal.defs _ _).mono (fun r h c => ⟨(h.1 c).2.2.2.trans ?_, (h.1 c).1, (h.1 c).2.1, (h.1 c).2.2.1⟩) (Cert.KernelIdeal.Pf.run (F := Ideal) m ρ),
    (θ_run Cert.ReferenceIdeal.defs _ _).mono (fun r h => ⟨(h 0).1, (h 0).2⟩) (Cert.ReferenceIdeal.Value.run (F := Ideal) m' ρ')⟩
  refine funext fun i => ?_
  obtain ⟨p, q, rfl⟩ : ∃ p q, i = ix2 p q := ⟨i 0, i 1, funext fun a => match a with | 0 => rfl | 1 => rfl⟩
  refine Eq.trans ?_ (Cert.ReferenceIdeal.Pf.ref_at _ _ _ p q).symm
  rw [out_at, g_at]
  simp only [x_at]
  rw [(hagree _).2.2]
  congr 1
  funext k
  congr 1
  · refine Finset.sum_congr rfl fun d _ => ?_
    rw [(hagree d).1]
    exact block_at _ d p k
  · show Cert.KernelIdeal.Pf.V₁ m _ Cert.KernelIdeal.main_arg1 _ = _
    rw [Cert.KernelIdeal.Pf.V₁_arg1, (hagree _).2.1]

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_pi : Cert.quiescent_KernelIdeal := fun m ρ _ =>
  (θ_run Cert.KernelIdeal.defs _ _).mono (fun r h => ⟨fun c => ⟨(h.1 c).1, (h.1 c).2.1, (h.1 c).2.2.1⟩, h.2⟩) (Cert.KernelIdeal.Pf.run (F := Ideal) m ρ)

end Cert.Proof
-- ==== Proof.lean ====
/- The five claims: the two kernels' frames from one run each, the reference's from its own, and the value of the
   idealized kernel against the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Run
public import proofs.«01_k».proof.Proof.I.Value
public import Idealize.ShloMosaic.Adequacy
public import Idealize.ShloMosaic.Init

@[expose] public section

noncomputable section

namespace Cert.Proof

open Idealize.ShloMosaic Idealize.SL.Sem Cert.Kernel

theorem frame_p : Cert.quiescent_Kernel := fun m ρ _ =>
  (θ_run Cert.Kernel.defs _ _).mono (fun r h => ⟨fun c => ⟨(h.1 c).1, (h.1 c).2.1, (h.1 c).2.2.1⟩, h.2⟩) (Cert.Kernel.Pf.run (F := Bits) m ρ)

theorem claim : Cert.Claim := ⟨Cert.Kernel.Gen.facts, Cert.KernelIdeal.Gen.facts, Cert.ReferenceIdeal.Gen.facts,
  frame_p, frame_pi, frame_ri, trivial, algebraic⟩

end Cert.Proof

end
